-- ==== Defs.lean ====
def Pre_Axial (m : (ℓ : Loc Cert.Axial.nD Cert.Axial.τ Cert.Axial.sig) → Buf (Elt Bits) ℓ) : Prop :=
  True

def Pre_AxialIdeal (m : (ℓ : Loc Cert.AxialIdeal.nD Cert.AxialIdeal.τ Cert.AxialIdeal.sig) → Buf (Elt Ideal) ℓ) : Prop :=
  True

def Pre_AxialRefIdeal (m : (ℓ : Loc Cert.AxialRefIdeal.nD Cert.AxialRefIdeal.τ Cert.AxialRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dha (m : (ℓ : Loc Cert.Dha.nD Cert.Dha.τ Cert.Dha.sig) → Buf (Elt Bits) ℓ) : Prop :=
  True

def Pre_DhaIdeal (m : (ℓ : Loc Cert.DhaIdeal.nD Cert.DhaIdeal.τ Cert.DhaIdeal.sig) → Buf (Elt Ideal) ℓ) : Prop :=
  True

def Pre_DhaRefIdeal (m : (ℓ : Loc Cert.DhaRefIdeal.nD Cert.DhaRefIdeal.τ Cert.DhaRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Da1 (m : (ℓ : Loc Cert.Da1.nD Cert.Da1.τ Cert.Da1.sig) → Buf (Elt Bits) ℓ) : Prop :=
  True

def Pre_Da1Ideal (m : (ℓ : Loc Cert.Da1Ideal.nD Cert.Da1Ideal.τ Cert.Da1Ideal.sig) → Buf (Elt Ideal) ℓ) : Prop :=
  True

def Pre_Da1RefIdeal (m : (ℓ : Loc Cert.Da1RefIdeal.nD Cert.Da1RefIdeal.τ Cert.Da1RefIdeal.sig) → Buf (Elt Ideal) ℓ) : Prop :=
  True

def Pre_Dwd1 (m : (ℓ : Loc Cert.Dwd1.nD Cert.Dwd1.τ Cert.Dwd1.sig) → Buf (Elt Bits) ℓ) : Prop :=
  True

def Pre_Dwd1Ideal (m : (ℓ : Loc Cert.Dwd1Ideal.nD Cert.Dwd1Ideal.τ Cert.Dwd1Ideal.sig) → Buf (Elt Ideal) ℓ) : Prop :=
  True

def Pre_Dwd1RefIdeal (m : (ℓ : Loc Cert.Dwd1RefIdeal.nD Cert.Dwd1RefIdeal.τ Cert.Dwd1RefIdeal.sig) → Buf (Elt Ideal) ℓ) : Prop :=
  True

def Pre_Dwgu1 (m : (ℓ : Loc Cert.Dwgu1.nD Cert.Dwgu1.τ Cert.Dwgu1.sig) → Buf (Elt Bits) ℓ) : Prop :=
  True

def Pre_Dwgu1Ideal (m : (ℓ : Loc Cert.Dwgu1Ideal.nD Cert.Dwgu1Ideal.τ Cert.Dwgu1Ideal.sig) → Buf (Elt Ideal) ℓ) : Prop :=
  True

def Pre_Dwgu1RefIdeal (m : (ℓ : Loc Cert.Dwgu1RefIdeal.nD Cert.Dwgu1RefIdeal.τ Cert.Dwgu1RefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Gu1 (m : (ℓ : Loc Cert.Gu1.nD Cert.Gu1.τ Cert.Gu1.sig) → Buf (Elt Bits) ℓ) : Prop :=
  True

def Pre_Gu1Ideal (m : (ℓ : Loc Cert.Gu1Ideal.nD Cert.Gu1Ideal.τ Cert.Gu1Ideal.sig) → Buf (Elt Ideal) ℓ) : Prop :=
  True

def Pre_Gu1RefIdeal (m : (ℓ : Loc Cert.Gu1RefIdeal.nD Cert.Gu1RefIdeal.τ Cert.Gu1RefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_steps [hPre_finite_steps : Cert.Pre_finite_steps.Facts] (m : (ℓ : Loc Cert.SsdIdeal.nD Cert.SsdIdeal.τ Cert.SsdIdeal.sig) → Buf (Elt Ideal) ℓ) : Prop :=
  ∀ c : Dev Cert.SsdIdeal.nD,
    (Cert.Pre_finite_steps.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_steps [hPre_finite_steps : Cert.Pre_finite_steps.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_steps.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2))) = (fun _ => 1#1)

def quiescent_Axial [hAxial : Cert.Axial.Facts] : Prop :=
  ∀ (m : (ℓ : Loc Cert.Axial.nD Cert.Axial.τ Cert.Axial.sig) → Buf (Elt Bits) ℓ) (g : Dev Cert.Axial.nD → PrngReg), Pre_Axial m →
    θ_run (Cert.Axial.defs (F := Bits)) (onTc (τ := Cert.Axial.τ) (Cert.Axial.main (F := Bits))) ⟨m, fun _ => 0, g⟩ (fun r => (∀ c : Dev Cert.Axial.nD,
      r.2.mem ((c.tc : Thread Cert.Axial.nD Cert.Axial.τ).loc Cert.Axial.main_arg0) = m ((c.tc : Thread Cert.Axial.nD Cert.Axial.τ).loc Cert.Axial.main_arg0)
      ∧ r.2.mem ((c.tc : Thread Cert.Axial.nD Cert.Axial.τ).loc Cert.Axial.main_arg1) = m ((c.tc : Thread Cert.Axial.nD Cert.Axial.τ).loc Cert.Axial.main_arg1)
      ∧ r.2.mem ((c.tc : Thread Cert.Axial.nD Cert.Axial.τ).loc Cert.Axial.main_arg2) = m ((c.tc : Thread Cert.Axial.nD Cert.Axial.τ).loc Cert.Axial.main_arg2))
      ∧ r.2.sem = fun _ => 0)

def quiescent_AxialIdeal [hAxialIdeal : Cert.AxialIdeal.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
      ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ r.2.sem = fun _ => 0)

def quiescent_AxialRefIdeal [hAxialRefIdeal : Cert.AxialRefIdeal.Facts] : Prop :=
  ∀ (m : (ℓ : Loc Cert.AxialRefIdeal.nD Cert.AxialRefIdeal.τ Cert.AxialRefIdeal.sig) → Buf (Elt Ideal) ℓ) (g : Dev Cert.AxialRefIdeal.nD → PrngReg), Pre_AxialRefIdeal m →
    θ_run (Cert.AxialRefIdeal.defs (F := Ideal)) (onTc (τ := Cert.AxialRefIdeal.τ) (Cert.AxialRefIdeal.main (F := Ideal))) ⟨m, fun _ => 0, g⟩ (fun r => (∀ c : Dev Cert.AxialRefIdeal.nD,
      r.2.mem ((c.tc : Thread Cert.AxialRefIdeal.nD Cert.AxialRefIdeal.τ).loc Cert.AxialRefIdeal.main_arg0) = m ((c.tc : Thread Cert.AxialRefIdeal.nD Cert.AxialRefIdeal.τ).loc Cert.AxialRefIdeal.main_arg0)
      ∧ r.2.mem ((c.tc : Thread Cert.AxialRefIdeal.nD Cert.AxialRefIdeal.τ).loc Cert.AxialRefIdeal.main_arg1) = m ((c.tc : Thread Cert.AxialRefIdeal.nD Cert.AxialRefIdeal.τ).loc Cert.AxialRefIdeal.main_arg1)
      ∧ r.2.mem ((c.tc : Thread Cert.AxialRefIdeal.nD Cert.AxialRefIdeal.τ).loc Cert.AxialRefIdeal.main_arg2) = m ((c.tc : Thread Cert.AxialRefIdeal.nD Cert.AxialRefIdeal.τ).loc Cert.AxialRefIdeal.main_arg2))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1)
      ∧ r.2.mem ((c.tc : Thread Cert.Dwgu.nD Cert.Dwgu.τ).loc Cert.Dwgu.main_arg2) = m ((c.tc : Thread Cert.Dwgu.nD Cert.Dwgu.τ).loc Cert.Dwgu.main_arg2))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
      ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1)
      ∧ r.2.mem ((c.tc : Thread Cert.DwguRefIdeal.nD Cert.DwguRefIdeal.τ).loc Cert.DwguRefIdeal.main_arg2) = m ((c.tc : Thread Cert.DwguRefIdeal.nD Cert.DwguRefIdeal.τ).loc Cert.DwguRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dha [hDha : Cert.Dha.Facts] : Prop :=
  ∀ (m : (ℓ : Loc Cert.Dha.nD Cert.Dha.τ Cert.Dha.sig) → Buf (Elt Bits) ℓ) (g : Dev Cert.Dha.nD → PrngReg), Pre_Dha m →
    θ_run (Cert.Dha.defs (F := Bits)) (onTc (τ := Cert.Dha.τ) (Cert.Dha.main (F := Bits))) ⟨m, fun _ => 0, g⟩ (fun r => (∀ c : Dev Cert.Dha.nD,
      r.2.mem ((c.tc : Thread Cert.Dha.nD Cert.Dha.τ).loc Cert.Dha.main_arg0) = m ((c.tc : Thread Cert.Dha.nD Cert.Dha.τ).loc Cert.Dha.main_arg0)
      ∧ r.2.mem ((c.tc : Thread Cert.Dha.nD Cert.Dha.τ).loc Cert.Dha.main_arg1) = m ((c.tc : Thread Cert.Dha.nD Cert.Dha.τ).loc Cert.Dha.main_arg1))
      ∧ r.2.sem = fun _ => 0)

def quiescent_DhaIdeal [hDhaIdeal : Cert.DhaIdeal.Facts] : Prop :=
  ∀ (m : (ℓ : Loc Cert.DhaIdeal.nD Cert.DhaIdeal.τ Cert.DhaIdeal.sig) → Buf (Elt Ideal) ℓ) (g : Dev Cert.DhaIdeal.nD → PrngReg), Pre_DhaIdeal m →
    θ_run (Cert.DhaIdeal.defs (F := Ideal)) (onTc (τ := Cert.DhaIdeal.τ) (Cert.DhaIdeal.main (F := Ideal))) ⟨m, fun _ => 0, g⟩ (fun r => (∀ c : Dev Cert.DhaIdeal.nD,
      r.2.mem ((c.tc : Thread Cert.DhaIdeal.nD Cert.DhaIdeal.τ).loc Cert.DhaIdeal.main_arg0) = m ((c.tc : Thread Cert.DhaIdeal.nD Cert.DhaIdeal.τ).loc Cert.DhaIdeal.main_arg0)
      ∧ r.2.mem ((c.tc : Thread Cert.DhaIdeal.nD Cert.DhaIdeal.τ).loc Cert.DhaIdeal.main_arg1) = m ((c.tc : Thread Cert.DhaIdeal.nD Cert.DhaIdeal.τ).loc Cert.DhaIdeal.main_arg1))
      ∧ r.2.sem = fun _ => 0)

def quiescent_DhaRefIdeal [hDhaRefIdeal : Cert.DhaRefIdeal.Facts] : Prop :=
  ∀ (m : (ℓ : Loc Cert.DhaRefIdeal.nD Cert.DhaRefIdeal.τ Cert.DhaRefIdeal.sig) → Buf (Elt Ideal) ℓ) (g : Dev Cert.DhaRefIdeal.nD → PrngReg), Pre_DhaRefIdeal m →
    θ_run (Cert.DhaRefIdeal.defs (F := Ideal)) (onTc (τ := Cert.DhaRefIdeal.τ) (Cert.DhaRefIdeal.main (F := Ideal))) ⟨m, fun _ => 0, g⟩ (fun r => (∀ c : Dev Cert.DhaRefIdeal.nD,
      r.2.mem ((c.tc : Thread Cert.DhaRefIdeal.nD Cert.DhaRefIdeal.τ).loc Cert.DhaRefIdeal.main_arg0) = m ((c.tc : Thread Cert.DhaRefIdeal.nD Cert.DhaRefIdeal.τ).loc Cert.DhaRefIdeal.main_arg0)
      ∧ r.2.mem ((c.tc : Thread Cert.DhaRefIdeal.nD Cert.DhaRefIdeal.τ).loc Cert.DhaRefIdeal.main_arg1) = m ((c.tc : Thread Cert.DhaRefIdeal.nD Cert.DhaRefIdeal.τ).loc Cert.DhaRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3))
      ∧ r.2.sem = fun _ => 0)

def quiescent_Da1 [hDa1 : Cert.Da1.Facts] : Prop :=
  ∀ (m : (ℓ : Loc Cert.Da1.nD Cert.Da1.τ Cert.Da1.sig) → Buf (Elt Bits) ℓ) (g : Dev Cert.Da1.nD → PrngReg), Pre_Da1 m →
    θ_run (Cert.Da1.defs (F := Bits)) (onTc (τ := Cert.Da1.τ) (Cert.Da1.main (F := Bits))) ⟨m, fun _ => 0, g⟩ (fun r => (∀ c : Dev Cert.Da1.nD,
      r.2.mem ((c.tc : Thread Cert.Da1.nD Cert.Da1.τ).loc Cert.Da1.main_arg0) = m ((c.tc : Thread Cert.Da1.nD Cert.Da1.τ).loc Cert.Da1.main_arg0)
      ∧ r.2.mem ((c.tc : Thread Cert.Da1.nD Cert.Da1.τ).loc Cert.Da1.main_arg1) = m ((c.tc : Thread Cert.Da1.nD Cert.Da1.τ).loc Cert.Da1.main_arg1)
      ∧ r.2.mem ((c.tc : Thread Cert.Da1.nD Cert.Da1.τ).loc Cert.Da1.main_arg2) = m ((c.tc : Thread Cert.Da1.nD Cert.Da1.τ).loc Cert.Da1.main_arg2)
      ∧ r.2.mem ((c.tc : Thread Cert.Da1.nD Cert.Da1.τ).loc Cert.Da1.main_arg3) = m ((c.tc : Thread Cert.Da1.nD Cert.Da1.τ).loc Cert.Da1.main_arg3))
      ∧ r.2.sem = fun _ => 0)

def quiescent_Da1Ideal [hDa1Ideal : Cert.Da1Ideal.Facts] : Prop :=
  ∀ (m : (ℓ : Loc Cert.Da1Ideal.nD Cert.Da1Ideal.τ Cert.Da1Ideal.sig) → Buf (Elt Ideal) ℓ) (g : Dev Cert.Da1Ideal.nD → PrngReg), Pre_Da1Ideal m →
    θ_run (Cert.Da1Ideal.defs (F := Ideal)) (onTc (τ := Cert.Da1Ideal.τ) (Cert.Da1Ideal.main (F := Ideal))) ⟨m, fun _ => 0, g⟩ (fun r => (∀ c : Dev Cert.Da1Ideal.nD,
      r.2.mem ((c.tc : Thread Cert.Da1Ideal.nD Cert.Da1Ideal.τ).loc Cert.Da1Ideal.main_arg0) = m ((c.tc : Thread Cert.Da1Ideal.nD Cert.Da1Ideal.τ).loc Cert.Da1Ideal.main_arg0)
      ∧ r.2.mem ((c.tc : Thread Cert.Da1Ideal.nD Cert.Da1Ideal.τ).loc Cert.Da1Ideal.main_arg1) = m ((c.tc : Thread Cert.Da1Ideal.nD Cert.Da1Ideal.τ).loc Cert.Da1Ideal.main_arg1)
      ∧ r.2.mem ((c.tc : Thread Cert.Da1Ideal.nD Cert.Da1Ideal.τ).loc Cert.Da1Ideal.main_arg2) = m ((c.tc : Thread Cert.Da1Ideal.nD Cert.Da1Ideal.τ).loc Cert.Da1Ideal.main_arg2)
      ∧ r.2.mem ((c.tc : Thread Cert.Da1Ideal.nD Cert.Da1Ideal.τ).loc Cert.Da1Ideal.main_arg3) = m ((c.tc : Thread Cert.Da1Ideal.nD Cert.Da1Ideal.τ).loc Cert.Da1Ideal.main_arg3))
      ∧ r.2.sem = fun _ => 0)

def quiescent_Da1RefIdeal [hDa1RefIdeal : Cert.Da1RefIdeal.Facts] : Prop :=
  ∀ (m : (ℓ : Loc Cert.Da1RefIdeal.nD Cert.Da1RefIdeal.τ Cert.Da1RefIdeal.sig) → Buf (Elt Ideal) ℓ) (g : Dev Cert.Da1RefIdeal.nD → PrngReg), Pre_Da1RefIdeal m →
    θ_run (Cert.Da1RefIdeal.defs (F := Ideal)) (onTc (τ := Cert.Da1RefIdeal.τ) (Cert.Da1RefIdeal.main (F := Ideal))) ⟨m, fun _ => 0, g⟩ (fun r => (∀ c : Dev Cert.Da1RefIdeal.nD,
      r.2.mem ((c.tc : Thread Cert.Da1RefIdeal.nD Cert.Da1RefIdeal.τ).loc Cert.Da1RefIdeal.main_arg0) = m ((c.tc : Thread Cert.Da1RefIdeal.nD Cert.Da1RefIdeal.τ).loc Cert.Da1RefIdeal.main_arg0)
      ∧ r.2.mem ((c.tc : Thread Cert.Da1RefIdeal.nD Cert.Da1RefIdeal.τ).loc Cert.Da1RefIdeal.main_arg1) = m ((c.tc : Thread Cert.Da1RefIdeal.nD Cert.Da1RefIdeal.τ).loc Cert.Da1RefIdeal.main_arg1)
      ∧ r.2.mem ((c.tc : Thread Cert.Da1RefIdeal.nD Cert.Da1RefIdeal.τ).loc Cert.Da1RefIdeal.main_arg2) = m ((c.tc : Thread Cert.Da1RefIdeal.nD Cert.Da1RefIdeal.τ).loc Cert.Da1RefIdeal.main_arg2)
      ∧ r.2.mem ((c.tc : Thread Cert.Da1RefIdeal.nD Cert.Da1RefIdeal.τ).loc Cert.Da1RefIdeal.main_arg3) = m ((c.tc : Thread Cert.Da1RefIdeal.nD Cert.Da1RefIdeal.τ).loc Cert.Da1RefIdeal.main_arg3))
      ∧ r.2.sem = fun _ => 0)

def quiescent_Dwd1 [hDwd1 : Cert.Dwd1.Facts] : Prop :=
  ∀ (m : (ℓ : Loc Cert.Dwd1.nD Cert.Dwd1.τ Cert.Dwd1.sig) → Buf (Elt Bits) ℓ) (g : Dev Cert.Dwd1.nD → PrngReg), Pre_Dwd1 m →
    θ_run (Cert.Dwd1.defs (F := Bits)) (onTc (τ := Cert.Dwd1.τ) (Cert.Dwd1.main (F := Bits))) ⟨m, fun _ => 0, g⟩ (fun r => (∀ c : Dev Cert.Dwd1.nD,
      r.2.mem ((c.tc : Thread Cert.Dwd1.nD Cert.Dwd1.τ).loc Cert.Dwd1.main_arg0) = m ((c.tc : Thread Cert.Dwd1.nD Cert.Dwd1.τ).loc Cert.Dwd1.main_arg0)
      ∧ r.2.mem ((c.tc : Thread Cert.Dwd1.nD Cert.Dwd1.τ).loc Cert.Dwd1.main_arg1) = m ((c.tc : Thread Cert.Dwd1.nD Cert.Dwd1.τ).loc Cert.Dwd1.main_arg1))
      ∧ r.2.sem = fun _ => 0)

def quiescent_Dwd1Ideal [hDwd1Ideal : Cert.Dwd1Ideal.Facts] : Prop :=
  ∀ (m : (ℓ : Loc Cert.Dwd1Ideal.nD Cert.Dwd1Ideal.τ Cert.Dwd1Ideal.sig) → Buf (Elt Ideal) ℓ) (g : Dev Cert.Dwd1Ideal.nD → PrngReg), Pre_Dwd1Ideal m →
    θ_run (Cert.Dwd1Ideal.defs (F := Ideal)) (onTc (τ := Cert.Dwd1Ideal.τ) (Cert.Dwd1Ideal.main (F := Ideal))) ⟨m, fun _ => 0, g⟩ (fun r => (∀ c : Dev Cert.Dwd1Ideal.nD,
      r.2.mem ((c.tc : Thread Cert.Dwd1Ideal.nD Cert.Dwd1Ideal.τ).loc Cert.Dwd1Ideal.main_arg0) = m ((c.tc : Thread Cert.Dwd1Ideal.nD Cert.Dwd1Ideal.τ).loc Cert.Dwd1Ideal.main_arg0)
      ∧ r.2.mem ((c.tc : Thread Cert.Dwd1Ideal.nD Cert.Dwd1Ideal.τ).loc Cert.Dwd1Ideal.main_arg1) = m ((c.tc : Thread Cert.Dwd1Ideal.nD Cert.Dwd1Ideal.τ).loc Cert.Dwd1Ideal.main_arg1))
      ∧ r.2.sem = fun _ => 0)

def quiescent_Dwd1RefIdeal [hDwd1RefIdeal : Cert.Dwd1RefIdeal.Facts] : Prop :=
  ∀ (m : (ℓ : Loc Cert.Dwd1RefIdeal.nD Cert.Dwd1RefIdeal.τ Cert.Dwd1RefIdeal.sig) → Buf (Elt Ideal) ℓ) (g : Dev Cert.Dwd1RefIdeal.nD → PrngReg), Pre_Dwd1RefIdeal m →
    θ_run (Cert.Dwd1RefIdeal.defs (F := Ideal)) (onTc (τ := Cert.Dwd1RefIdeal.τ) (Cert.Dwd1RefIdeal.main (F := Ideal))) ⟨m, fun _ => 0, g⟩ (fun r => (∀ c : Dev Cert.Dwd1RefIdeal.nD,
      r.2.mem ((c.tc : Thread Cert.Dwd1RefIdeal.nD Cert.Dwd1RefIdeal.τ).loc Cert.Dwd1RefIdeal.main_arg0) = m ((c.tc : Thread Cert.Dwd1RefIdeal.nD Cert.Dwd1RefIdeal.τ).loc Cert.Dwd1RefIdeal.main_arg0)
      ∧ r.2.mem ((c.tc : Thread Cert.Dwd1RefIdeal.nD Cert.Dwd1RefIdeal.τ).loc Cert.Dwd1RefIdeal.main_arg1) = m ((c.tc : Thread Cert.Dwd1RefIdeal.nD Cert.Dwd1RefIdeal.τ).loc Cert.Dwd1RefIdeal.main_arg1))
      ∧ r.2.sem = fun _ => 0)

def quiescent_Dwgu1 [hDwgu1 : Cert.Dwgu1.Facts] : Prop :=
  ∀ (m : (ℓ : Loc Cert.Dwgu1.nD Cert.Dwgu1.τ Cert.Dwgu1.sig) → Buf (Elt Bits) ℓ) (g : Dev Cert.Dwgu1.nD → PrngReg), Pre_Dwgu1 m →
    θ_run (Cert.Dwgu1.defs (F := Bits)) (onTc (τ := Cert.Dwgu1.τ) (Cert.Dwgu1.main (F := Bits))) ⟨m, fun _ => 0, g⟩ (fun r => (∀ c : Dev Cert.Dwgu1.nD,
      r.2.mem ((c.tc : Thread Cert.Dwgu1.nD Cert.Dwgu1.τ).loc Cert.Dwgu1.main_arg0) = m ((c.tc : Thread Cert.Dwgu1.nD Cert.Dwgu1.τ).loc Cert.Dwgu1.main_arg0)
      ∧ r.2.mem ((c.tc : Thread Cert.Dwgu1.nD Cert.Dwgu1.τ).loc Cert.Dwgu1.main_arg1) = m ((c.tc : Thread Cert.Dwgu1.nD Cert.Dwgu1.τ).loc Cert.Dwgu1.main_arg1)
      ∧ r.2.mem ((c.tc : Thread Cert.Dwgu1.nD Cert.Dwgu1.τ).loc Cert.Dwgu1.main_arg2) = m ((c.tc : Thread Cert.Dwgu1.nD Cert.Dwgu1.τ).loc Cert.Dwgu1.main_arg2))
      ∧ r.2.sem = fun _ => 0)

def quiescent_Dwgu1Ideal [hDwgu1Ideal : Cert.Dwgu1Ideal.Facts] : Prop :=
  ∀ (m : (ℓ : Loc Cert.Dwgu1Ideal.nD Cert.Dwgu1Ideal.τ Cert.Dwgu1Ideal.sig) → Buf (Elt Ideal) ℓ) (g : Dev Cert.Dwgu1Ideal.nD → PrngReg), Pre_Dwgu1Ideal m →
    θ_run (Cert.Dwgu1Ideal.defs (F := Ideal)) (onTc (τ := Cert.Dwgu1Ideal.τ) (Cert.Dwgu1Ideal.main (F := Ideal))) ⟨m, fun _ => 0, g⟩ (fun r => (∀ c : Dev Cert.Dwgu1Ideal.nD,
      r.2.mem ((c.tc : Thread Cert.Dwgu1Ideal.nD Cert.Dwgu1Ideal.τ).loc Cert.Dwgu1Ideal.main_arg0) = m ((c.tc : Thread Cert.Dwgu1Ideal.nD Cert.Dwgu1Ideal.τ).loc Cert.Dwgu1Ideal.main_arg0)
      ∧ r.2.mem ((c.tc : Thread Cert.Dwgu1Ideal.nD Cert.Dwgu1Ideal.τ).loc Cert.Dwgu1Ideal.main_arg1) = m ((c.tc : Thread Cert.Dwgu1Ideal.nD Cert.Dwgu1Ideal.τ).loc Cert.Dwgu1Ideal.main_arg1)
      ∧ r.2.mem ((c.tc : Thread Cert.Dwgu1Ideal.nD Cert.Dwgu1Ideal.τ).loc Cert.Dwgu1Ideal.main_arg2) = m ((c.tc : Thread Cert.Dwgu1Ideal.nD Cert.Dwgu1Ideal.τ).loc Cert.Dwgu1Ideal.main_arg2))
      ∧ r.2.sem = fun _ => 0)

def quiescent_Dwgu1RefIdeal [hDwgu1RefIdeal : Cert.Dwgu1RefIdeal.Facts] : Prop :=
  ∀ (m : (ℓ : Loc Cert.Dwgu1RefIdeal.nD Cert.Dwgu1RefIdeal.τ Cert.Dwgu1RefIdeal.sig) → Buf (Elt Ideal) ℓ) (g : Dev Cert.Dwgu1RefIdeal.nD → PrngReg), Pre_Dwgu1RefIdeal m →
    θ_run (Cert.Dwgu1RefIdeal.defs (F := Ideal)) (onTc (τ := Cert.Dwgu1RefIdeal.τ) (Cert.Dwgu1RefIdeal.main (F := Ideal))) ⟨m, fun _ => 0, g⟩ (fun r => (∀ c : Dev Cert.Dwgu1RefIdeal.nD,
      r.2.mem ((c.tc : Thread Cert.Dwgu1RefIdeal.nD Cert.Dwgu1RefIdeal.τ).loc Cert.Dwgu1RefIdeal.main_arg0) = m ((c.tc : Thread Cert.Dwgu1RefIdeal.nD Cert.Dwgu1RefIdeal.τ).loc Cert.Dwgu1RefIdeal.main_arg0)
      ∧ r.2.mem ((c.tc : Thread Cert.Dwgu1RefIdeal.nD Cert.Dwgu1RefIdeal.τ).loc Cert.Dwgu1RefIdeal.main_arg1) = m ((c.tc : Thread Cert.Dwgu1RefIdeal.nD Cert.Dwgu1RefIdeal.τ).loc Cert.Dwgu1RefIdeal.main_arg1)
      ∧ r.2.mem ((c.tc : Thread Cert.Dwgu1RefIdeal.nD Cert.Dwgu1RefIdeal.τ).loc Cert.Dwgu1RefIdeal.main_arg2) = m ((c.tc : Thread Cert.Dwgu1RefIdeal.nD Cert.Dwgu1RefIdeal.τ).loc Cert.Dwgu1RefIdeal.main_arg2))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0)

def quiescent_Gu1 [hGu1 : Cert.Gu1.Facts] : Prop :=
  ∀ (m : (ℓ : Loc Cert.Gu1.nD Cert.Gu1.τ Cert.Gu1.sig) → Buf (Elt Bits) ℓ) (g : Dev Cert.Gu1.nD → PrngReg), Pre_Gu1 m →
    θ_run (Cert.Gu1.defs (F := Bits)) (onTc (τ := Cert.Gu1.τ) (Cert.Gu1.main (F := Bits))) ⟨m, fun _ => 0, g⟩ (fun r => (∀ c : Dev Cert.Gu1.nD,
      r.2.mem ((c.tc : Thread Cert.Gu1.nD Cert.Gu1.τ).loc Cert.Gu1.main_arg0) = m ((c.tc : Thread Cert.Gu1.nD Cert.Gu1.τ).loc Cert.Gu1.main_arg0)
      ∧ r.2.mem ((c.tc : Thread Cert.Gu1.nD Cert.Gu1.τ).loc Cert.Gu1.main_arg1) = m ((c.tc : Thread Cert.Gu1.nD Cert.Gu1.τ).loc Cert.Gu1.main_arg1)
      ∧ r.2.mem ((c.tc : Thread Cert.Gu1.nD Cert.Gu1.τ).loc Cert.Gu1.main_arg2) = m ((c.tc : Thread Cert.Gu1.nD Cert.Gu1.τ).loc Cert.Gu1.main_arg2))
      ∧ r.2.sem = fun _ => 0)

def quiescent_Gu1Ideal [hGu1Ideal : Cert.Gu1Ideal.Facts] : Prop :=
  ∀ (m : (ℓ : Loc Cert.Gu1Ideal.nD Cert.Gu1Ideal.τ Cert.Gu1Ideal.sig) → Buf (Elt Ideal) ℓ) (g : Dev Cert.Gu1Ideal.nD → PrngReg), Pre_Gu1Ideal m →
    θ_run (Cert.Gu1Ideal.defs (F := Ideal)) (onTc (τ := Cert.Gu1Ideal.τ) (Cert.Gu1Ideal.main (F := Ideal))) ⟨m, fun _ => 0, g⟩ (fun r => (∀ c : Dev Cert.Gu1Ideal.nD,
      r.2.mem ((c.tc : Thread Cert.Gu1Ideal.nD Cert.Gu1Ideal.τ).loc Cert.Gu1Ideal.main_arg0) = m ((c.tc : Thread Cert.Gu1Ideal.nD Cert.Gu1Ideal.τ).loc Cert.Gu1Ideal.main_arg0)
      ∧ r.2.mem ((c.tc : Thread Cert.Gu1Ideal.nD Cert.Gu1Ideal.τ).loc Cert.Gu1Ideal.main_arg1) = m ((c.tc : Thread Cert.Gu1Ideal.nD Cert.Gu1Ideal.τ).loc Cert.Gu1Ideal.main_arg1)
      ∧ r.2.mem ((c.tc : Thread Cert.Gu1Ideal.nD Cert.Gu1Ideal.τ).loc Cert.Gu1Ideal.main_arg2) = m ((c.tc : Thread Cert.Gu1Ideal.nD Cert.Gu1Ideal.τ).loc Cert.Gu1Ideal.main_arg2))
      ∧ r.2.sem = fun _ => 0)

def quiescent_Gu1RefIdeal [hGu1RefIdeal : Cert.Gu1RefIdeal.Facts] : Prop :=
  ∀ (m : (ℓ : Loc Cert.Gu1RefIdeal.nD Cert.Gu1RefIdeal.τ Cert.Gu1RefIdeal.sig) → Buf (Elt Ideal) ℓ) (g : Dev Cert.Gu1RefIdeal.nD → PrngReg), Pre_Gu1RefIdeal m →
    θ_run (Cert.Gu1RefIdeal.defs (F := Ideal)) (onTc (τ := Cert.Gu1RefIdeal.τ) (Cert.Gu1RefIdeal.main (F := Ideal))) ⟨m, fun _ => 0, g⟩ (fun r => (∀ c : Dev Cert.Gu1RefIdeal.nD,
      r.2.mem ((c.tc : Thread Cert.Gu1RefIdeal.nD Cert.Gu1RefIdeal.τ).loc Cert.Gu1RefIdeal.main_arg0) = m ((c.tc : Thread Cert.Gu1RefIdeal.nD Cert.Gu1RefIdeal.τ).loc Cert.Gu1RefIdeal.main_arg0)
      ∧ r.2.mem ((c.tc : Thread Cert.Gu1RefIdeal.nD Cert.Gu1RefIdeal.τ).loc Cert.Gu1RefIdeal.main_arg1) = m ((c.tc : Thread Cert.Gu1RefIdeal.nD Cert.Gu1RefIdeal.τ).loc Cert.Gu1RefIdeal.main_arg1)
      ∧ r.2.mem ((c.tc : Thread Cert.Gu1RefIdeal.nD Cert.Gu1RefIdeal.τ).loc Cert.Gu1RefIdeal.main_arg2) = m ((c.tc : Thread Cert.Gu1RefIdeal.nD Cert.Gu1RefIdeal.τ).loc Cert.Gu1RefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2)
      ∧ r.2.mem ((c.tc : Thread Cert.Down1.nD Cert.Down1.τ).loc Cert.Down1.main_arg3) = m ((c.tc : Thread Cert.Down1.nD Cert.Down1.τ).loc Cert.Down1.main_arg3)
      ∧ r.2.mem ((c.tc : Thread Cert.Down1.nD Cert.Down1.τ).loc Cert.Down1.main_arg4) = m ((c.tc : Thread Cert.Down1.nD Cert.Down1.τ).loc Cert.Down1.main_arg4))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
      ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3)
      ∧ r.2.mem ((c.tc : Thread Cert.Down1Ideal.nD Cert.Down1Ideal.τ).loc Cert.Down1Ideal.main_arg4) = m ((c.tc : Thread Cert.Down1Ideal.nD Cert.Down1Ideal.τ).loc Cert.Down1Ideal.main_arg4))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1)
      ∧ r.2.mem ((c.tc : Thread Cert.Down1RefIdeal.nD Cert.Down1RefIdeal.τ).loc Cert.Down1RefIdeal.main_arg2) = m ((c.tc : Thread Cert.Down1RefIdeal.nD Cert.Down1RefIdeal.τ).loc Cert.Down1RefIdeal.main_arg2)
      ∧ r.2.mem ((c.tc : Thread Cert.Down1RefIdeal.nD Cert.Down1RefIdeal.τ).loc Cert.Down1RefIdeal.main_arg3) = m ((c.tc : Thread Cert.Down1RefIdeal.nD Cert.Down1RefIdeal.τ).loc Cert.Down1RefIdeal.main_arg3)
      ∧ r.2.mem ((c.tc : Thread Cert.Down1RefIdeal.nD Cert.Down1RefIdeal.τ).loc Cert.Down1RefIdeal.main_arg4) = m ((c.tc : Thread Cert.Down1RefIdeal.nD Cert.Down1RefIdeal.τ).loc Cert.Down1RefIdeal.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2))
      ∧ r.2.sem = fun _ => 0)

def quiescent_SsdIdeal_pre_finite_steps [hSsdIdeal : Cert.SsdIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_steps m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2))
      ∧ r.2.sem = fun _ => 0)

def quiescent_SsdRefIdeal_pre_finite_steps [hSsdRefIdeal : Cert.SsdRefIdeal.Facts] [hPre_finite_steps : Cert.Pre_finite_steps.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_steps m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2))
      ∧ r.2.sem = fun _ => 0)

def preserves_Axial_AxialIdeal : Prop :=
  True

def algebraic_AxialIdeal_AxialRefIdeal [hAxialIdeal : Cert.AxialIdeal.Facts] [hAxialRefIdeal : Cert.AxialRefIdeal.Facts] : Prop :=
  ∀ (m : (ℓ : Loc Cert.AxialIdeal.nD Cert.AxialIdeal.τ Cert.AxialIdeal.sig) → Buf (Elt Ideal) ℓ) (g : Dev Cert.AxialIdeal.nD → PrngReg)
    (m' : (ℓ : Loc Cert.AxialRefIdeal.nD Cert.AxialRefIdeal.τ Cert.AxialRefIdeal.sig) → Buf (Elt Ideal) ℓ) (g' : Dev Cert.AxialRefIdeal.nD → PrngReg), Pre_AxialIdeal m →
    (∀ c : Dev Cert.AxialIdeal.nD,
      m' ((c.tc : Thread Cert.AxialRefIdeal.nD Cert.AxialRefIdeal.τ).loc Cert.AxialRefIdeal.main_arg0) = m ((c.tc : Thread Cert.AxialIdeal.nD Cert.AxialIdeal.τ).loc Cert.AxialIdeal.main_arg0)
      ∧ m' ((c.tc : Thread Cert.AxialRefIdeal.nD Cert.AxialRefIdeal.τ).loc Cert.AxialRefIdeal.main_arg1) = m ((c.tc : Thread Cert.AxialIdeal.nD Cert.AxialIdeal.τ).loc Cert.AxialIdeal.main_arg1)
      ∧ m' ((c.tc : Thread Cert.AxialRefIdeal.nD Cert.AxialRefIdeal.τ).loc Cert.AxialRefIdeal.main_arg2) = m ((c.tc : Thread Cert.AxialIdeal.nD Cert.AxialIdeal.τ).loc Cert.AxialIdeal.main_arg2)) →
    ∃ (v0 : (c : Dev Cert.AxialIdeal.nD) → Buf (Elt Ideal) ((c.tc : Thread Cert.AxialIdeal.nD Cert.AxialIdeal.τ).loc Cert.AxialIdeal.main_v0_0)) (v1 : (c : Dev Cert.AxialIdeal.nD) → Buf (Elt Ideal) ((c.tc : Thread Cert.AxialIdeal.nD Cert.AxialIdeal.τ).loc Cert.AxialIdeal.main_v0_1)) (v2 : (c : Dev Cert.AxialIdeal.nD) → Buf (Elt Ideal) ((c.tc : Thread Cert.AxialIdeal.nD Cert.AxialIdeal.τ).loc Cert.AxialIdeal.main_v0_2)),
      θ_run (Cert.AxialIdeal.defs (F := Ideal)) (onTc (τ := Cert.AxialIdeal.τ) (Cert.AxialIdeal.main (F := Ideal))) ⟨m, fun _ => 0, g⟩ (fun r => ∀ c : Dev Cert.AxialIdeal.nD,
          r.2.mem ((c.tc : Thread Cert.AxialIdeal.nD Cert.AxialIdeal.τ).loc Cert.AxialIdeal.main_v0_0) = v0 c
          ∧ r.2.mem ((c.tc : Thread Cert.AxialIdeal.nD Cert.AxialIdeal.τ).loc Cert.AxialIdeal.main_v0_1) = v1 c
          ∧ r.2.mem ((c.tc : Thread Cert.AxialIdeal.nD Cert.AxialIdeal.τ).loc Cert.AxialIdeal.main_v0_2) = v2 c
          ∧ r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
          ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
          ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ θ_run (Cert.AxialRefIdeal.defs (F := Ideal)) (onTc (τ := Cert.AxialRefIdeal.τ) (Cert.AxialRefIdeal.main (F := Ideal))) ⟨m', fun _ => 0, g'⟩ (fun r => ∀ c : Dev Cert.AxialRefIdeal.nD,
          r.2.mem ((c.tc : Thread Cert.AxialRefIdeal.nD Cert.AxialRefIdeal.τ).loc Cert.AxialRefIdeal.main_v62) = v0 c
          ∧ r.2.mem ((c.tc : Thread Cert.AxialRefIdeal.nD Cert.AxialRefIdeal.τ).loc Cert.AxialRefIdeal.main_v59) = v1 c
          ∧ r.2.mem ((c.tc : Thread Cert.AxialRefIdeal.nD Cert.AxialRefIdeal.τ).loc Cert.AxialRefIdeal.main_v36) = v2 c
          ∧ r.2.mem ((c.tc : Thread Cert.AxialRefIdeal.nD Cert.AxialRefIdeal.τ).loc Cert.AxialRefIdeal.main_arg0) = m' ((c.tc : Thread Cert.AxialRefIdeal.nD Cert.AxialRefIdeal.τ).loc Cert.AxialRefIdeal.main_arg0)
          ∧ r.2.mem ((c.tc : Thread Cert.AxialRefIdeal.nD Cert.AxialRefIdeal.τ).loc Cert.AxialRefIdeal.main_arg1) = m' ((c.tc : Thread Cert.AxialRefIdeal.nD Cert.AxialRefIdeal.τ).loc Cert.AxialRefIdeal.main_arg1)
          ∧ r.2.mem ((c.tc : Thread Cert.AxialRefIdeal.nD Cert.AxialRefIdeal.τ).loc Cert.AxialRefIdeal.main_arg2) = m' ((c.tc : Thread Cert.AxialRefIdeal.nD Cert.AxialRefIdeal.τ).loc Cert.AxialRefIdeal.main_arg2))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)) (v2 : (c : Dev Cert.LnIdeal.nD) → Buf (Elt Ideal) ((c.tc : Thread Cert.LnIdeal.nD Cert.LnIdeal.τ).loc Cert.LnIdeal.main_v0_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_v0_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v60) = v0 c
          ∧ r.2.mem ((c.tc : Thread Cert.LnRefIdeal.nD Cert.LnRefIdeal.τ).loc Cert.LnRefIdeal.main_v34) = v1 c
          ∧ r.2.mem ((c.tc : Thread Cert.LnRefIdeal.nD Cert.LnRefIdeal.τ).loc Cert.LnRefIdeal.main_v31) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v5) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)
      ∧ m' ((c.tc : Thread Cert.DwguRefIdeal.nD Cert.DwguRefIdeal.τ).loc Cert.DwguRefIdeal.main_arg2) = m ((c.tc : Thread Cert.DwguIdeal.nD Cert.DwguIdeal.τ).loc Cert.DwguIdeal.main_arg2)) →
    ∃ (v0 : (c : Dev Cert.DwguIdeal.nD) → Buf (Elt Ideal) ((c.tc : Thread Cert.DwguIdeal.nD Cert.DwguIdeal.τ).loc Cert.DwguIdeal.main_v5)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v5) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
          ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v15) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1)
          ∧ r.2.mem ((c.tc : Thread Cert.DwguRefIdeal.nD Cert.DwguRefIdeal.τ).loc Cert.DwguRefIdeal.main_arg2) = m' ((c.tc : Thread Cert.DwguRefIdeal.nD Cert.DwguRefIdeal.τ).loc Cert.DwguRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v10)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v10) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v9) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v0)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v0) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v4) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dha_DhaIdeal : Prop :=
  True

def algebraic_DhaIdeal_DhaRefIdeal [hDhaIdeal : Cert.DhaIdeal.Facts] [hDhaRefIdeal : Cert.DhaRefIdeal.Facts] : Prop :=
  ∀ (m : (ℓ : Loc Cert.DhaIdeal.nD Cert.DhaIdeal.τ Cert.DhaIdeal.sig) → Buf (Elt Ideal) ℓ) (g : Dev Cert.DhaIdeal.nD → PrngReg)
    (m' : (ℓ : Loc Cert.DhaRefIdeal.nD Cert.DhaRefIdeal.τ Cert.DhaRefIdeal.sig) → Buf (Elt Ideal) ℓ) (g' : Dev Cert.DhaRefIdeal.nD → PrngReg), Pre_DhaIdeal m →
    (∀ c : Dev Cert.DhaIdeal.nD,
      m' ((c.tc : Thread Cert.DhaRefIdeal.nD Cert.DhaRefIdeal.τ).loc Cert.DhaRefIdeal.main_arg0) = m ((c.tc : Thread Cert.DhaIdeal.nD Cert.DhaIdeal.τ).loc Cert.DhaIdeal.main_arg0)
      ∧ m' ((c.tc : Thread Cert.DhaRefIdeal.nD Cert.DhaRefIdeal.τ).loc Cert.DhaRefIdeal.main_arg1) = m ((c.tc : Thread Cert.DhaIdeal.nD Cert.DhaIdeal.τ).loc Cert.DhaIdeal.main_arg1)) →
    ∃ (v0 : (c : Dev Cert.DhaIdeal.nD) → Buf (Elt Ideal) ((c.tc : Thread Cert.DhaIdeal.nD Cert.DhaIdeal.τ).loc Cert.DhaIdeal.main_v5)),
      θ_run (Cert.DhaIdeal.defs (F := Ideal)) (onTc (τ := Cert.DhaIdeal.τ) (Cert.DhaIdeal.main (F := Ideal))) ⟨m, fun _ => 0, g⟩ (fun r => ∀ c : Dev Cert.DhaIdeal.nD,
          r.2.mem ((c.tc : Thread Cert.DhaIdeal.nD Cert.DhaIdeal.τ).loc Cert.DhaIdeal.main_v5) = v0 c
          ∧ r.2.mem ((c.tc : Thread Cert.DhaIdeal.nD Cert.DhaIdeal.τ).loc Cert.DhaIdeal.main_arg0) = m ((c.tc : Thread Cert.DhaIdeal.nD Cert.DhaIdeal.τ).loc Cert.DhaIdeal.main_arg0)
          ∧ r.2.mem ((c.tc : Thread Cert.DhaIdeal.nD Cert.DhaIdeal.τ).loc Cert.DhaIdeal.main_arg1) = m ((c.tc : Thread Cert.DhaIdeal.nD Cert.DhaIdeal.τ).loc Cert.DhaIdeal.main_arg1))
      ∧ θ_run (Cert.DhaRefIdeal.defs (F := Ideal)) (onTc (τ := Cert.DhaRefIdeal.τ) (Cert.DhaRefIdeal.main (F := Ideal))) ⟨m', fun _ => 0, g'⟩ (fun r => ∀ c : Dev Cert.DhaRefIdeal.nD,
          r.2.mem ((c.tc : Thread Cert.DhaRefIdeal.nD Cert.DhaRefIdeal.τ).loc Cert.DhaRefIdeal.main_v8) = v0 c
          ∧ r.2.mem ((c.tc : Thread Cert.DhaRefIdeal.nD Cert.DhaRefIdeal.τ).loc Cert.DhaRefIdeal.main_arg0) = m' ((c.tc : Thread Cert.DhaRefIdeal.nD Cert.DhaRefIdeal.τ).loc Cert.DhaRefIdeal.main_arg0)
          ∧ r.2.mem ((c.tc : Thread Cert.DhaRefIdeal.nD Cert.DhaRefIdeal.τ).loc Cert.DhaRefIdeal.main_arg1) = m' ((c.tc : Thread Cert.DhaRefIdeal.nD Cert.DhaRefIdeal.τ).loc Cert.DhaRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v5) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)) →
    ∃ (v0 : (c : Dev Cert.DaIdeal.nD) → Buf (Elt Ideal) ((c.tc : Thread Cert.DaIdeal.nD Cert.DaIdeal.τ).loc Cert.DaIdeal.main_v6)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v6) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v14) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3))

def preserves_Da1_Da1Ideal : Prop :=
  True

def algebraic_Da1Ideal_Da1RefIdeal [hDa1Ideal : Cert.Da1Ideal.Facts] [hDa1RefIdeal : Cert.Da1RefIdeal.Facts] : Prop :=
  ∀ (m : (ℓ : Loc Cert.Da1Ideal.nD Cert.Da1Ideal.τ Cert.Da1Ideal.sig) → Buf (Elt Ideal) ℓ) (g : Dev Cert.Da1Ideal.nD → PrngReg)
    (m' : (ℓ : Loc Cert.Da1RefIdeal.nD Cert.Da1RefIdeal.τ Cert.Da1RefIdeal.sig) → Buf (Elt Ideal) ℓ) (g' : Dev Cert.Da1RefIdeal.nD → PrngReg), Pre_Da1Ideal m →
    (∀ c : Dev Cert.Da1Ideal.nD,
      m' ((c.tc : Thread Cert.Da1RefIdeal.nD Cert.Da1RefIdeal.τ).loc Cert.Da1RefIdeal.main_arg0) = m ((c.tc : Thread Cert.Da1Ideal.nD Cert.Da1Ideal.τ).loc Cert.Da1Ideal.main_arg0)
      ∧ m' ((c.tc : Thread Cert.Da1RefIdeal.nD Cert.Da1RefIdeal.τ).loc Cert.Da1RefIdeal.main_arg1) = m ((c.tc : Thread Cert.Da1Ideal.nD Cert.Da1Ideal.τ).loc Cert.Da1Ideal.main_arg1)
      ∧ m' ((c.tc : Thread Cert.Da1RefIdeal.nD Cert.Da1RefIdeal.τ).loc Cert.Da1RefIdeal.main_arg2) = m ((c.tc : Thread Cert.Da1Ideal.nD Cert.Da1Ideal.τ).loc Cert.Da1Ideal.main_arg2)
      ∧ m' ((c.tc : Thread Cert.Da1RefIdeal.nD Cert.Da1RefIdeal.τ).loc Cert.Da1RefIdeal.main_arg3) = m ((c.tc : Thread Cert.Da1Ideal.nD Cert.Da1Ideal.τ).loc Cert.Da1Ideal.main_arg3)) →
    ∃ (v0 : (c : Dev Cert.Da1Ideal.nD) → Buf (Elt Ideal) ((c.tc : Thread Cert.Da1Ideal.nD Cert.Da1Ideal.τ).loc Cert.Da1Ideal.main_v6)),
      θ_run (Cert.Da1Ideal.defs (F := Ideal)) (onTc (τ := Cert.Da1Ideal.τ) (Cert.Da1Ideal.main (F := Ideal))) ⟨m, fun _ => 0, g⟩ (fun r => ∀ c : Dev Cert.Da1Ideal.nD,
          r.2.mem ((c.tc : Thread Cert.Da1Ideal.nD Cert.Da1Ideal.τ).loc Cert.Da1Ideal.main_v6) = v0 c
          ∧ r.2.mem ((c.tc : Thread Cert.Da1Ideal.nD Cert.Da1Ideal.τ).loc Cert.Da1Ideal.main_arg0) = m ((c.tc : Thread Cert.Da1Ideal.nD Cert.Da1Ideal.τ).loc Cert.Da1Ideal.main_arg0)
          ∧ r.2.mem ((c.tc : Thread Cert.Da1Ideal.nD Cert.Da1Ideal.τ).loc Cert.Da1Ideal.main_arg1) = m ((c.tc : Thread Cert.Da1Ideal.nD Cert.Da1Ideal.τ).loc Cert.Da1Ideal.main_arg1)
          ∧ r.2.mem ((c.tc : Thread Cert.Da1Ideal.nD Cert.Da1Ideal.τ).loc Cert.Da1Ideal.main_arg2) = m ((c.tc : Thread Cert.Da1Ideal.nD Cert.Da1Ideal.τ).loc Cert.Da1Ideal.main_arg2)
          ∧ r.2.mem ((c.tc : Thread Cert.Da1Ideal.nD Cert.Da1Ideal.τ).loc Cert.Da1Ideal.main_arg3) = m ((c.tc : Thread Cert.Da1Ideal.nD Cert.Da1Ideal.τ).loc Cert.Da1Ideal.main_arg3))
      ∧ θ_run (Cert.Da1RefIdeal.defs (F := Ideal)) (onTc (τ := Cert.Da1RefIdeal.τ) (Cert.Da1RefIdeal.main (F := Ideal))) ⟨m', fun _ => 0, g'⟩ (fun r => ∀ c : Dev Cert.Da1RefIdeal.nD,
          r.2.mem ((c.tc : Thread Cert.Da1RefIdeal.nD Cert.Da1RefIdeal.τ).loc Cert.Da1RefIdeal.main_v14) = v0 c
          ∧ r.2.mem ((c.tc : Thread Cert.Da1RefIdeal.nD Cert.Da1RefIdeal.τ).loc Cert.Da1RefIdeal.main_arg0) = m' ((c.tc : Thread Cert.Da1RefIdeal.nD Cert.Da1RefIdeal.τ).loc Cert.Da1RefIdeal.main_arg0)
          ∧ r.2.mem ((c.tc : Thread Cert.Da1RefIdeal.nD Cert.Da1RefIdeal.τ).loc Cert.Da1RefIdeal.main_arg1) = m' ((c.tc : Thread Cert.Da1RefIdeal.nD Cert.Da1RefIdeal.τ).loc Cert.Da1RefIdeal.main_arg1)
          ∧ r.2.mem ((c.tc : Thread Cert.Da1RefIdeal.nD Cert.Da1RefIdeal.τ).loc Cert.Da1RefIdeal.main_arg2) = m' ((c.tc : Thread Cert.Da1RefIdeal.nD Cert.Da1RefIdeal.τ).loc Cert.Da1RefIdeal.main_arg2)
          ∧ r.2.mem ((c.tc : Thread Cert.Da1RefIdeal.nD Cert.Da1RefIdeal.τ).loc Cert.Da1RefIdeal.main_arg3) = m' ((c.tc : Thread Cert.Da1RefIdeal.nD Cert.Da1RefIdeal.τ).loc Cert.Da1RefIdeal.main_arg3))

def preserves_Dwd1_Dwd1Ideal : Prop :=
  True

def algebraic_Dwd1Ideal_Dwd1RefIdeal [hDwd1Ideal : Cert.Dwd1Ideal.Facts] [hDwd1RefIdeal : Cert.Dwd1RefIdeal.Facts] : Prop :=
  ∀ (m : (ℓ : Loc Cert.Dwd1Ideal.nD Cert.Dwd1Ideal.τ Cert.Dwd1Ideal.sig) → Buf (Elt Ideal) ℓ) (g : Dev Cert.Dwd1Ideal.nD → PrngReg)
    (m' : (ℓ : Loc Cert.Dwd1RefIdeal.nD Cert.Dwd1RefIdeal.τ Cert.Dwd1RefIdeal.sig) → Buf (Elt Ideal) ℓ) (g' : Dev Cert.Dwd1RefIdeal.nD → PrngReg), Pre_Dwd1Ideal m →
    (∀ c : Dev Cert.Dwd1Ideal.nD,
      m' ((c.tc : Thread Cert.Dwd1RefIdeal.nD Cert.Dwd1RefIdeal.τ).loc Cert.Dwd1RefIdeal.main_arg0) = m ((c.tc : Thread Cert.Dwd1Ideal.nD Cert.Dwd1Ideal.τ).loc Cert.Dwd1Ideal.main_arg0)
      ∧ m' ((c.tc : Thread Cert.Dwd1RefIdeal.nD Cert.Dwd1RefIdeal.τ).loc Cert.Dwd1RefIdeal.main_arg1) = m ((c.tc : Thread Cert.Dwd1Ideal.nD Cert.Dwd1Ideal.τ).loc Cert.Dwd1Ideal.main_arg1)) →
    ∃ (v0 : (c : Dev Cert.Dwd1Ideal.nD) → Buf (Elt Ideal) ((c.tc : Thread Cert.Dwd1Ideal.nD Cert.Dwd1Ideal.τ).loc Cert.Dwd1Ideal.main_v0)),
      θ_run (Cert.Dwd1Ideal.defs (F := Ideal)) (onTc (τ := Cert.Dwd1Ideal.τ) (Cert.Dwd1Ideal.main (F := Ideal))) ⟨m, fun _ => 0, g⟩ (fun r => ∀ c : Dev Cert.Dwd1Ideal.nD,
          r.2.mem ((c.tc : Thread Cert.Dwd1Ideal.nD Cert.Dwd1Ideal.τ).loc Cert.Dwd1Ideal.main_v0) = v0 c
          ∧ r.2.mem ((c.tc : Thread Cert.Dwd1Ideal.nD Cert.Dwd1Ideal.τ).loc Cert.Dwd1Ideal.main_arg0) = m ((c.tc : Thread Cert.Dwd1Ideal.nD Cert.Dwd1Ideal.τ).loc Cert.Dwd1Ideal.main_arg0)
          ∧ r.2.mem ((c.tc : Thread Cert.Dwd1Ideal.nD Cert.Dwd1Ideal.τ).loc Cert.Dwd1Ideal.main_arg1) = m ((c.tc : Thread Cert.Dwd1Ideal.nD Cert.Dwd1Ideal.τ).loc Cert.Dwd1Ideal.main_arg1))
      ∧ θ_run (Cert.Dwd1RefIdeal.defs (F := Ideal)) (onTc (τ := Cert.Dwd1RefIdeal.τ) (Cert.Dwd1RefIdeal.main (F := Ideal))) ⟨m', fun _ => 0, g'⟩ (fun r => ∀ c : Dev Cert.Dwd1RefIdeal.nD,
          r.2.mem ((c.tc : Thread Cert.Dwd1RefIdeal.nD Cert.Dwd1RefIdeal.τ).loc Cert.Dwd1RefIdeal.main_v5) = v0 c
          ∧ r.2.mem ((c.tc : Thread Cert.Dwd1RefIdeal.nD Cert.Dwd1RefIdeal.τ).loc Cert.Dwd1RefIdeal.main_arg0) = m' ((c.tc : Thread Cert.Dwd1RefIdeal.nD Cert.Dwd1RefIdeal.τ).loc Cert.Dwd1RefIdeal.main_arg0)
          ∧ r.2.mem ((c.tc : Thread Cert.Dwd1RefIdeal.nD Cert.Dwd1RefIdeal.τ).loc Cert.Dwd1RefIdeal.main_arg1) = m' ((c.tc : Thread Cert.Dwd1RefIdeal.nD Cert.Dwd1RefIdeal.τ).loc Cert.Dwd1RefIdeal.main_arg1))

def preserves_Dwgu1_Dwgu1Ideal : Prop :=
  True

def algebraic_Dwgu1Ideal_Dwgu1RefIdeal [hDwgu1Ideal : Cert.Dwgu1Ideal.Facts] [hDwgu1RefIdeal : Cert.Dwgu1RefIdeal.Facts] : Prop :=
  ∀ (m : (ℓ : Loc Cert.Dwgu1Ideal.nD Cert.Dwgu1Ideal.τ Cert.Dwgu1Ideal.sig) → Buf (Elt Ideal) ℓ) (g : Dev Cert.Dwgu1Ideal.nD → PrngReg)
    (m' : (ℓ : Loc Cert.Dwgu1RefIdeal.nD Cert.Dwgu1RefIdeal.τ Cert.Dwgu1RefIdeal.sig) → Buf (Elt Ideal) ℓ) (g' : Dev Cert.Dwgu1RefIdeal.nD → PrngReg), Pre_Dwgu1Ideal m →
    (∀ c : Dev Cert.Dwgu1Ideal.nD,
      m' ((c.tc : Thread Cert.Dwgu1RefIdeal.nD Cert.Dwgu1RefIdeal.τ).loc Cert.Dwgu1RefIdeal.main_arg0) = m ((c.tc : Thread Cert.Dwgu1Ideal.nD Cert.Dwgu1Ideal.τ).loc Cert.Dwgu1Ideal.main_arg0)
      ∧ m' ((c.tc : Thread Cert.Dwgu1RefIdeal.nD Cert.Dwgu1RefIdeal.τ).loc Cert.Dwgu1RefIdeal.main_arg1) = m ((c.tc : Thread Cert.Dwgu1Ideal.nD Cert.Dwgu1Ideal.τ).loc Cert.Dwgu1Ideal.main_arg1)
      ∧ m' ((c.tc : Thread Cert.Dwgu1RefIdeal.nD Cert.Dwgu1RefIdeal.τ).loc Cert.Dwgu1RefIdeal.main_arg2) = m ((c.tc : Thread Cert.Dwgu1Ideal.nD Cert.Dwgu1Ideal.τ).loc Cert.Dwgu1Ideal.main_arg2)) →
    ∃ (v0 : (c : Dev Cert.Dwgu1Ideal.nD) → Buf (Elt Ideal) ((c.tc : Thread Cert.Dwgu1Ideal.nD Cert.Dwgu1Ideal.τ).loc Cert.Dwgu1Ideal.main_v5)),
      θ_run (Cert.Dwgu1Ideal.defs (F := Ideal)) (onTc (τ := Cert.Dwgu1Ideal.τ) (Cert.Dwgu1Ideal.main (F := Ideal))) ⟨m, fun _ => 0, g⟩ (fun r => ∀ c : Dev Cert.Dwgu1Ideal.nD,
          r.2.mem ((c.tc : Thread Cert.Dwgu1Ideal.nD Cert.Dwgu1Ideal.τ).loc Cert.Dwgu1Ideal.main_v5) = v0 c
          ∧ r.2.mem ((c.tc : Thread Cert.Dwgu1Ideal.nD Cert.Dwgu1Ideal.τ).loc Cert.Dwgu1Ideal.main_arg0) = m ((c.tc : Thread Cert.Dwgu1Ideal.nD Cert.Dwgu1Ideal.τ).loc Cert.Dwgu1Ideal.main_arg0)
          ∧ r.2.mem ((c.tc : Thread Cert.Dwgu1Ideal.nD Cert.Dwgu1Ideal.τ).loc Cert.Dwgu1Ideal.main_arg1) = m ((c.tc : Thread Cert.Dwgu1Ideal.nD Cert.Dwgu1Ideal.τ).loc Cert.Dwgu1Ideal.main_arg1)
          ∧ r.2.mem ((c.tc : Thread Cert.Dwgu1Ideal.nD Cert.Dwgu1Ideal.τ).loc Cert.Dwgu1Ideal.main_arg2) = m ((c.tc : Thread Cert.Dwgu1Ideal.nD Cert.Dwgu1Ideal.τ).loc Cert.Dwgu1Ideal.main_arg2))
      ∧ θ_run (Cert.Dwgu1RefIdeal.defs (F := Ideal)) (onTc (τ := Cert.Dwgu1RefIdeal.τ) (Cert.Dwgu1RefIdeal.main (F := Ideal))) ⟨m', fun _ => 0, g'⟩ (fun r => ∀ c : Dev Cert.Dwgu1RefIdeal.nD,
          r.2.mem ((c.tc : Thread Cert.Dwgu1RefIdeal.nD Cert.Dwgu1RefIdeal.τ).loc Cert.Dwgu1RefIdeal.main_v15) = v0 c
          ∧ r.2.mem ((c.tc : Thread Cert.Dwgu1RefIdeal.nD Cert.Dwgu1RefIdeal.τ).loc Cert.Dwgu1RefIdeal.main_arg0) = m' ((c.tc : Thread Cert.Dwgu1RefIdeal.nD Cert.Dwgu1RefIdeal.τ).loc Cert.Dwgu1RefIdeal.main_arg0)
          ∧ r.2.mem ((c.tc : Thread Cert.Dwgu1RefIdeal.nD Cert.Dwgu1RefIdeal.τ).loc Cert.Dwgu1RefIdeal.main_arg1) = m' ((c.tc : Thread Cert.Dwgu1RefIdeal.nD Cert.Dwgu1RefIdeal.τ).loc Cert.Dwgu1RefIdeal.main_arg1)
          ∧ r.2.mem ((c.tc : Thread Cert.Dwgu1RefIdeal.nD Cert.Dwgu1RefIdeal.τ).loc Cert.Dwgu1RefIdeal.main_arg2) = m' ((c.tc : Thread Cert.Dwgu1RefIdeal.nD Cert.Dwgu1RefIdeal.τ).loc Cert.Dwgu1RefIdeal.main_arg2))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)) →
    ∃ (v0 : (c : Dev Cert.Dh1Ideal.nD) → Buf (Elt Ideal) ((c.tc : Thread Cert.Dh1Ideal.nD Cert.Dh1Ideal.τ).loc Cert.Dh1Ideal.main_v10)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v10) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v9) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v5)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v5) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)) →
    ∃ (v0 : (c : Dev Cert.GuIdeal.nD) → Buf (Elt Ideal) ((c.tc : Thread Cert.GuIdeal.nD Cert.GuIdeal.τ).loc Cert.GuIdeal.main_v5_0)) (v1 : (c : Dev Cert.GuIdeal.nD) → Buf (Elt Ideal) ((c.tc : Thread Cert.GuIdeal.nD Cert.GuIdeal.τ).loc Cert.GuIdeal.main_v5_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v5_0) = v0 c
          ∧ r.2.mem ((c.tc : Thread Cert.GuIdeal.nD Cert.GuIdeal.τ).loc Cert.GuIdeal.main_v5_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v15) = v0 c
          ∧ r.2.mem ((c.tc : Thread Cert.GuRefIdeal.nD Cert.GuRefIdeal.τ).loc Cert.GuRefIdeal.main_v17) = v1 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2))

def preserves_Gu1_Gu1Ideal : Prop :=
  True

def algebraic_Gu1Ideal_Gu1RefIdeal [hGu1Ideal : Cert.Gu1Ideal.Facts] [hGu1RefIdeal : Cert.Gu1RefIdeal.Facts] : Prop :=
  ∀ (m : (ℓ : Loc Cert.Gu1Ideal.nD Cert.Gu1Ideal.τ Cert.Gu1Ideal.sig) → Buf (Elt Ideal) ℓ) (g : Dev Cert.Gu1Ideal.nD → PrngReg)
    (m' : (ℓ : Loc Cert.Gu1RefIdeal.nD Cert.Gu1RefIdeal.τ Cert.Gu1RefIdeal.sig) → Buf (Elt Ideal) ℓ) (g' : Dev Cert.Gu1RefIdeal.nD → PrngReg), Pre_Gu1Ideal m →
    (∀ c : Dev Cert.Gu1Ideal.nD,
      m' ((c.tc : Thread Cert.Gu1RefIdeal.nD Cert.Gu1RefIdeal.τ).loc Cert.Gu1RefIdeal.main_arg0) = m ((c.tc : Thread Cert.Gu1Ideal.nD Cert.Gu1Ideal.τ).loc Cert.Gu1Ideal.main_arg0)
      ∧ m' ((c.tc : Thread Cert.Gu1RefIdeal.nD Cert.Gu1RefIdeal.τ).loc Cert.Gu1RefIdeal.main_arg1) = m ((c.tc : Thread Cert.Gu1Ideal.nD Cert.Gu1Ideal.τ).loc Cert.Gu1Ideal.main_arg1)
      ∧ m' ((c.tc : Thread Cert.Gu1RefIdeal.nD Cert.Gu1RefIdeal.τ).loc Cert.Gu1RefIdeal.main_arg2) = m ((c.tc : Thread Cert.Gu1Ideal.nD Cert.Gu1Ideal.τ).loc Cert.Gu1Ideal.main_arg2)) →
    ∃ (v0 : (c : Dev Cert.Gu1Ideal.nD) → Buf (Elt Ideal) ((c.tc : Thread Cert.Gu1Ideal.nD Cert.Gu1Ideal.τ).loc Cert.Gu1Ideal.main_v5_0)) (v1 : (c : Dev Cert.Gu1Ideal.nD) → Buf (Elt Ideal) ((c.tc : Thread Cert.Gu1Ideal.nD Cert.Gu1Ideal.τ).loc Cert.Gu1Ideal.main_v5_1)),
      θ_run (Cert.Gu1Ideal.defs (F := Ideal)) (onTc (τ := Cert.Gu1Ideal.τ) (Cert.Gu1Ideal.main (F := Ideal))) ⟨m, fun _ => 0, g⟩ (fun r => ∀ c : Dev Cert.Gu1Ideal.nD,
          r.2.mem ((c.tc : Thread Cert.Gu1Ideal.nD Cert.Gu1Ideal.τ).loc Cert.Gu1Ideal.main_v5_0) = v0 c
          ∧ r.2.mem ((c.tc : Thread Cert.Gu1Ideal.nD Cert.Gu1Ideal.τ).loc Cert.Gu1Ideal.main_v5_1) = v1 c
          ∧ r.2.mem ((c.tc : Thread Cert.Gu1Ideal.nD Cert.Gu1Ideal.τ).loc Cert.Gu1Ideal.main_arg0) = m ((c.tc : Thread Cert.Gu1Ideal.nD Cert.Gu1Ideal.τ).loc Cert.Gu1Ideal.main_arg0)
          ∧ r.2.mem ((c.tc : Thread Cert.Gu1Ideal.nD Cert.Gu1Ideal.τ).loc Cert.Gu1Ideal.main_arg1) = m ((c.tc : Thread Cert.Gu1Ideal.nD Cert.Gu1Ideal.τ).loc Cert.Gu1Ideal.main_arg1)
          ∧ r.2.mem ((c.tc : Thread Cert.Gu1Ideal.nD Cert.Gu1Ideal.τ).loc Cert.Gu1Ideal.main_arg2) = m ((c.tc : Thread Cert.Gu1Ideal.nD Cert.Gu1Ideal.τ).loc Cert.Gu1Ideal.main_arg2))
      ∧ θ_run (Cert.Gu1RefIdeal.defs (F := Ideal)) (onTc (τ := Cert.Gu1RefIdeal.τ) (Cert.Gu1RefIdeal.main (F := Ideal))) ⟨m', fun _ => 0, g'⟩ (fun r => ∀ c : Dev Cert.Gu1RefIdeal.nD,
          r.2.mem ((c.tc : Thread Cert.Gu1RefIdeal.nD Cert.Gu1RefIdeal.τ).loc Cert.Gu1RefIdeal.main_v15) = v0 c
          ∧ r.2.mem ((c.tc : Thread Cert.Gu1RefIdeal.nD Cert.Gu1RefIdeal.τ).loc Cert.Gu1RefIdeal.main_v17) = v1 c
          ∧ r.2.mem ((c.tc : Thread Cert.Gu1RefIdeal.nD Cert.Gu1RefIdeal.τ).loc Cert.Gu1RefIdeal.main_arg0) = m' ((c.tc : Thread Cert.Gu1RefIdeal.nD Cert.Gu1RefIdeal.τ).loc Cert.Gu1RefIdeal.main_arg0)
          ∧ r.2.mem ((c.tc : Thread Cert.Gu1RefIdeal.nD Cert.Gu1RefIdeal.τ).loc Cert.Gu1RefIdeal.main_arg1) = m' ((c.tc : Thread Cert.Gu1RefIdeal.nD Cert.Gu1RefIdeal.τ).loc Cert.Gu1RefIdeal.main_arg1)
          ∧ r.2.mem ((c.tc : Thread Cert.Gu1RefIdeal.nD Cert.Gu1RefIdeal.τ).loc Cert.Gu1RefIdeal.main_arg2) = m' ((c.tc : Thread Cert.Gu1RefIdeal.nD Cert.Gu1RefIdeal.τ).loc Cert.Gu1RefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_v13) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)) →
    ∃ (v0 : (c : Dev Cert.WoutIdeal.nD) → Buf (Elt Ideal) ((c.tc : Thread Cert.WoutIdeal.nD Cert.WoutIdeal.τ).loc Cert.WoutIdeal.main_v1_0)) (v1 : (c : Dev Cert.WoutIdeal.nD) → Buf (Elt Ideal) ((c.tc : Thread Cert.WoutIdeal.nD Cert.WoutIdeal.τ).loc Cert.WoutIdeal.main_v1_1)) (v2 : (c : Dev Cert.WoutIdeal.nD) → Buf (Elt Ideal) ((c.tc : Thread Cert.WoutIdeal.nD Cert.WoutIdeal.τ).loc Cert.WoutIdeal.main_v1_2)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v1_0) = v0 c
          ∧ r.2.mem ((c.tc : Thread Cert.WoutIdeal.nD Cert.WoutIdeal.τ).loc Cert.WoutIdeal.main_v1_1) = v1 c
          ∧ r.2.mem ((c.tc : Thread Cert.WoutIdeal.nD Cert.WoutIdeal.τ).loc Cert.WoutIdeal.main_v1_2) = v2 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v2) = v0 c
          ∧ r.2.mem ((c.tc : Thread Cert.WoutRefIdeal.nD Cert.WoutRefIdeal.τ).loc Cert.WoutRefIdeal.main_v37) = v1 c
          ∧ r.2.mem ((c.tc : Thread Cert.WoutRefIdeal.nD Cert.WoutRefIdeal.τ).loc Cert.WoutRefIdeal.main_v39) = v2 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)
      ∧ m' ((c.tc : Thread Cert.Down1RefIdeal.nD Cert.Down1RefIdeal.τ).loc Cert.Down1RefIdeal.main_arg2) = m ((c.tc : Thread Cert.Down1Ideal.nD Cert.Down1Ideal.τ).loc Cert.Down1Ideal.main_arg2)
      ∧ m' ((c.tc : Thread Cert.Down1RefIdeal.nD Cert.Down1RefIdeal.τ).loc Cert.Down1RefIdeal.main_arg3) = m ((c.tc : Thread Cert.Down1Ideal.nD Cert.Down1Ideal.τ).loc Cert.Down1Ideal.main_arg3)
      ∧ m' ((c.tc : Thread Cert.Down1RefIdeal.nD Cert.Down1RefIdeal.τ).loc Cert.Down1RefIdeal.main_arg4) = m ((c.tc : Thread Cert.Down1Ideal.nD Cert.Down1Ideal.τ).loc Cert.Down1Ideal.main_arg4)) →
    ∃ (v0 : (c : Dev Cert.Down1Ideal.nD) → Buf (Elt Ideal) ((c.tc : Thread Cert.Down1Ideal.nD Cert.Down1Ideal.τ).loc Cert.Down1Ideal.main_v1_0)) (v1 : (c : Dev Cert.Down1Ideal.nD) → Buf (Elt Ideal) ((c.tc : Thread Cert.Down1Ideal.nD Cert.Down1Ideal.τ).loc Cert.Down1Ideal.main_v1_1)) (v2 : (c : Dev Cert.Down1Ideal.nD) → Buf (Elt Ideal) ((c.tc : Thread Cert.Down1Ideal.nD Cert.Down1Ideal.τ).loc Cert.Down1Ideal.main_v1_2)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v1_0) = v0 c
          ∧ r.2.mem ((c.tc : Thread Cert.Down1Ideal.nD Cert.Down1Ideal.τ).loc Cert.Down1Ideal.main_v1_1) = v1 c
          ∧ r.2.mem ((c.tc : Thread Cert.Down1Ideal.nD Cert.Down1Ideal.τ).loc Cert.Down1Ideal.main_v1_2) = v2 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
          ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3)
          ∧ r.2.mem ((c.tc : Thread Cert.Down1Ideal.nD Cert.Down1Ideal.τ).loc Cert.Down1Ideal.main_arg4) = m ((c.tc : Thread Cert.Down1Ideal.nD Cert.Down1Ideal.τ).loc Cert.Down1Ideal.main_arg4))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v2) = v0 c
          ∧ r.2.mem ((c.tc : Thread Cert.Down1RefIdeal.nD Cert.Down1RefIdeal.τ).loc Cert.Down1RefIdeal.main_v15) = v1 c
          ∧ r.2.mem ((c.tc : Thread Cert.Down1RefIdeal.nD Cert.Down1RefIdeal.τ).loc Cert.Down1RefIdeal.main_v38) = v2 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1)
          ∧ r.2.mem ((c.tc : Thread Cert.Down1RefIdeal.nD Cert.Down1RefIdeal.τ).loc Cert.Down1RefIdeal.main_arg2) = m' ((c.tc : Thread Cert.Down1RefIdeal.nD Cert.Down1RefIdeal.τ).loc Cert.Down1RefIdeal.main_arg2)
          ∧ r.2.mem ((c.tc : Thread Cert.Down1RefIdeal.nD Cert.Down1RefIdeal.τ).loc Cert.Down1RefIdeal.main_arg3) = m' ((c.tc : Thread Cert.Down1RefIdeal.nD Cert.Down1RefIdeal.τ).loc Cert.Down1RefIdeal.main_arg3)
          ∧ r.2.mem ((c.tc : Thread Cert.Down1RefIdeal.nD Cert.Down1RefIdeal.τ).loc Cert.Down1RefIdeal.main_arg4) = m' ((c.tc : Thread Cert.Down1RefIdeal.nD Cert.Down1RefIdeal.τ).loc Cert.Down1RefIdeal.main_arg4))

def preserves_Ssd_SsdIdeal : Prop :=
  IdealRules.named_const.Statement Cert.SsdIdeal.κ "mask" .f32 0xF149F2CA#32 ⊥

def algebraic_SsdIdeal_SsdRefIdeal_pre_finite_steps [hSsdIdeal : Cert.SsdIdeal.Facts] [hSsdRefIdeal : Cert.SsdRefIdeal.Facts] [hPre_finite_steps : Cert.Pre_finite_steps.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_steps m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)) →
    ∃ (v0 : (c : Dev Cert.SsdIdeal.nD) → Buf (Elt Ideal) ((c.tc : Thread Cert.SsdIdeal.nD Cert.SsdIdeal.τ).loc Cert.SsdIdeal.main_v2_0)) (v1 : (c : Dev Cert.SsdIdeal.nD) → Buf (Elt Ideal) ((c.tc : Thread Cert.SsdIdeal.nD Cert.SsdIdeal.τ).loc Cert.SsdIdeal.main_v2_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v2_0) = v0 c
          ∧ r.2.mem ((c.tc : Thread Cert.SsdIdeal.nD Cert.SsdIdeal.τ).loc Cert.SsdIdeal.main_v2_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v144) = v0 c
          ∧ r.2.mem ((c.tc : Thread Cert.SsdRefIdeal.nD Cert.SsdRefIdeal.τ).loc Cert.SsdRefIdeal.main_v146) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2))

def Claim : Prop :=
  ∃ (hAxial : Cert.Axial.Facts) (hAxialIdeal : Cert.AxialIdeal.Facts) (hAxialRefIdeal : Cert.AxialRefIdeal.Facts) (hLn : Cert.Ln.Facts) (hLnIdeal : Cert.LnIdeal.Facts) (hLnRefIdeal : Cert.LnRefIdeal.Facts) (hDwd : Cert.Dwd.Facts) (hDwdIdeal : Cert.DwdIdeal.Facts) (hDwdRefIdeal : Cert.DwdRefIdeal.Facts) (hDwgu : Cert.Dwgu.Facts) (hDwguIdeal : Cert.DwguIdeal.Facts) (hDwguRefIdeal : Cert.DwguRefIdeal.Facts) (hDh : Cert.Dh.Facts) (hDhIdeal : Cert.DhIdeal.Facts) (hDhRefIdeal : Cert.DhRefIdeal.Facts) (hDcat : Cert.Dcat.Facts) (hDcatIdeal : Cert.DcatIdeal.Facts) (hDcatRefIdeal : Cert.DcatRefIdeal.Facts) (hDwout : Cert.Dwout.Facts) (hDwoutIdeal : Cert.DwoutIdeal.Facts) (hDwoutRefIdeal : Cert.DwoutRefIdeal.Facts) (hDha : Cert.Dha.Facts) (hDhaIdeal : Cert.DhaIdeal.Facts) (hDhaRefIdeal : Cert.DhaRefIdeal.Facts) (hDwin : Cert.Dwin.Facts) (hDwinIdeal : Cert.DwinIdeal.Facts) (hDwinRefIdeal : Cert.DwinRefIdeal.Facts) (hDa : Cert.Da.Facts) (hDaIdeal : Cert.DaIdeal.Facts) (hDaRefIdeal : Cert.DaRefIdeal.Facts) (hDa1 : Cert.Da1.Facts) (hDa1Ideal : Cert.Da1Ideal.Facts) (hDa1RefIdeal : Cert.Da1RefIdeal.Facts) (hDwd1 : Cert.Dwd1.Facts) (hDwd1Ideal : Cert.Dwd1Ideal.Facts) (hDwd1RefIdeal : Cert.Dwd1RefIdeal.Facts) (hDwgu1 : Cert.Dwgu1.Facts) (hDwgu1Ideal : Cert.Dwgu1Ideal.Facts) (hDwgu1RefIdeal : Cert.Dwgu1RefIdeal.Facts) (hDh1 : Cert.Dh1.Facts) (hDh1Ideal : Cert.Dh1Ideal.Facts) (hDh1RefIdeal : Cert.Dh1RefIdeal.Facts) (hWin : Cert.Win.Facts) (hWinIdeal : Cert.WinIdeal.Facts) (hWinRefIdeal : Cert.WinRefIdeal.Facts) (hGu : Cert.Gu.Facts) (hGuIdeal : Cert.GuIdeal.Facts) (hGuRefIdeal : Cert.GuRefIdeal.Facts) (hGu1 : Cert.Gu1.Facts) (hGu1Ideal : Cert.Gu1Ideal.Facts) (hGu1RefIdeal : Cert.Gu1RefIdeal.Facts) (hDown : Cert.Down.Facts) (hDownIdeal : Cert.DownIdeal.Facts) (hDownRefIdeal : Cert.DownRefIdeal.Facts) (hWout : Cert.Wout.Facts) (hWoutIdeal : Cert.WoutIdeal.Facts) (hWoutRefIdeal : Cert.WoutRefIdeal.Facts) (hDown1 : Cert.Down1.Facts) (hDown1Ideal : Cert.Down1Ideal.Facts) (hDown1RefIdeal : Cert.Down1RefIdeal.Facts) (hSsd : Cert.Ssd.Facts) (hSsdIdeal : Cert.SsdIdeal.Facts) (hSsdRefIdeal : Cert.SsdRefIdeal.Facts) (hPre_finite_steps : Cert.Pre_finite_steps.Facts),
    quiescent_Axial (hAxial := hAxial)
    ∧ quiescent_AxialIdeal (hAxialIdeal := hAxialIdeal)
    ∧ quiescent_AxialRefIdeal (hAxialRefIdeal := hAxialRefIdeal)
    ∧ quiescent_Ln (hLn := hLn)
    ∧ quiescent_LnIdeal (hLnIdeal := hLnIdeal)
    ∧ quiescent_LnRefIdeal (hLnRefIdeal := hLnRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_Dh (hDh := hDh)
    ∧ quiescent_DhIdeal (hDhIdeal := hDhIdeal)
    ∧ quiescent_DhRefIdeal (hDhRefIdeal := hDhRefIdeal)
    ∧ quiescent_Dcat (hDcat := hDcat)
    ∧ quiescent_DcatIdeal (hDcatIdeal := hDcatIdeal)
    ∧ quiescent_DcatRefIdeal (hDcatRefIdeal := hDcatRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dha (hDha := hDha)
    ∧ quiescent_DhaIdeal (hDhaIdeal := hDhaIdeal)
    ∧ quiescent_DhaRefIdeal (hDhaRefIdeal := hDhaRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Da (hDa := hDa)
    ∧ quiescent_DaIdeal (hDaIdeal := hDaIdeal)
    ∧ quiescent_DaRefIdeal (hDaRefIdeal := hDaRefIdeal)
    ∧ quiescent_Da1 (hDa1 := hDa1)
    ∧ quiescent_Da1Ideal (hDa1Ideal := hDa1Ideal)
    ∧ quiescent_Da1RefIdeal (hDa1RefIdeal := hDa1RefIdeal)
    ∧ quiescent_Dwd1 (hDwd1 := hDwd1)
    ∧ quiescent_Dwd1Ideal (hDwd1Ideal := hDwd1Ideal)
    ∧ quiescent_Dwd1RefIdeal (hDwd1RefIdeal := hDwd1RefIdeal)
    ∧ quiescent_Dwgu1 (hDwgu1 := hDwgu1)
    ∧ quiescent_Dwgu1Ideal (hDwgu1Ideal := hDwgu1Ideal)
    ∧ quiescent_Dwgu1RefIdeal (hDwgu1RefIdeal := hDwgu1RefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Win (hWin := hWin)
    ∧ quiescent_WinIdeal (hWinIdeal := hWinIdeal)
    ∧ quiescent_WinRefIdeal (hWinRefIdeal := hWinRefIdeal)
    ∧ quiescent_Gu (hGu := hGu)
    ∧ quiescent_GuIdeal (hGuIdeal := hGuIdeal)
    ∧ quiescent_GuRefIdeal (hGuRefIdeal := hGuRefIdeal)
    ∧ quiescent_Gu1 (hGu1 := hGu1)
    ∧ quiescent_Gu1Ideal (hGu1Ideal := hGu1Ideal)
    ∧ quiescent_Gu1RefIdeal (hGu1RefIdeal := hGu1RefIdeal)
    ∧ quiescent_Down (hDown := hDown)
    ∧ quiescent_DownIdeal (hDownIdeal := hDownIdeal)
    ∧ quiescent_DownRefIdeal (hDownRefIdeal := hDownRefIdeal)
    ∧ quiescent_Wout (hWout := hWout)
    ∧ quiescent_WoutIdeal (hWoutIdeal := hWoutIdeal)
    ∧ quiescent_WoutRefIdeal (hWoutRefIdeal := hWoutRefIdeal)
    ∧ quiescent_Down1 (hDown1 := hDown1)
    ∧ quiescent_Down1Ideal (hDown1Ideal := hDown1Ideal)
    ∧ quiescent_Down1RefIdeal (hDown1RefIdeal := hDown1RefIdeal)
    ∧ quiescent_Ssd (hSsd := hSsd)
    ∧ quiescent_SsdIdeal (hSsdIdeal := hSsdIdeal)
    ∧ quiescent_SsdIdeal_pre_finite_steps (hSsdIdeal := hSsdIdeal) (hPre_finite_steps := hPre_finite_steps)
    ∧ quiescent_SsdRefIdeal (hSsdRefIdeal := hSsdRefIdeal)
    ∧ quiescent_SsdRefIdeal_pre_finite_steps (hSsdRefIdeal := hSsdRefIdeal) (hPre_finite_steps := hPre_finite_steps)
    ∧ preserves_Axial_AxialIdeal
    ∧ algebraic_AxialIdeal_AxialRefIdeal (hAxialIdeal := hAxialIdeal) (hAxialRefIdeal := hAxialRefIdeal)
    ∧ preserves_Ln_LnIdeal
    ∧ algebraic_LnIdeal_LnRefIdeal (hLnIdeal := hLnIdeal) (hLnRefIdeal := hLnRefIdeal)
    ∧ preserves_Dwd_DwdIdeal
    ∧ algebraic_DwdIdeal_DwdRefIdeal (hDwdIdeal := hDwdIdeal) (hDwdRefIdeal := hDwdRefIdeal)
    ∧ preserves_Dwgu_DwguIdeal
    ∧ algebraic_DwguIdeal_DwguRefIdeal (hDwguIdeal := hDwguIdeal) (hDwguRefIdeal := hDwguRefIdeal)
    ∧ preserves_Dh_DhIdeal
    ∧ algebraic_DhIdeal_DhRefIdeal (hDhIdeal := hDhIdeal) (hDhRefIdeal := hDhRefIdeal)
    ∧ preserves_Dcat_DcatIdeal
    ∧ algebraic_DcatIdeal_DcatRefIdeal (hDcatIdeal := hDcatIdeal) (hDcatRefIdeal := hDcatRefIdeal)
    ∧ preserves_Dwout_DwoutIdeal
    ∧ algebraic_DwoutIdeal_DwoutRefIdeal (hDwoutIdeal := hDwoutIdeal) (hDwoutRefIdeal := hDwoutRefIdeal)
    ∧ preserves_Dha_DhaIdeal
    ∧ algebraic_DhaIdeal_DhaRefIdeal (hDhaIdeal := hDhaIdeal) (hDhaRefIdeal := hDhaRefIdeal)
    ∧ preserves_Dwin_DwinIdeal
    ∧ algebraic_DwinIdeal_DwinRefIdeal (hDwinIdeal := hDwinIdeal) (hDwinRefIdeal := hDwinRefIdeal)
    ∧ preserves_Da_DaIdeal
    ∧ algebraic_DaIdeal_DaRefIdeal (hDaIdeal := hDaIdeal) (hDaRefIdeal := hDaRefIdeal)
    ∧ preserves_Da1_Da1Ideal
    ∧ algebraic_Da1Ideal_Da1RefIdeal (hDa1Ideal := hDa1Ideal) (hDa1RefIdeal := hDa1RefIdeal)
    ∧ preserves_Dwd1_Dwd1Ideal
    ∧ algebraic_Dwd1Ideal_Dwd1RefIdeal (hDwd1Ideal := hDwd1Ideal) (hDwd1RefIdeal := hDwd1RefIdeal)
    ∧ preserves_Dwgu1_Dwgu1Ideal
    ∧ algebraic_Dwgu1Ideal_Dwgu1RefIdeal (hDwgu1Ideal := hDwgu1Ideal) (hDwgu1RefIdeal := hDwgu1RefIdeal)
    ∧ preserves_Dh1_Dh1Ideal
    ∧ algebraic_Dh1Ideal_Dh1RefIdeal (hDh1Ideal := hDh1Ideal) (hDh1RefIdeal := hDh1RefIdeal)
    ∧ preserves_Win_WinIdeal
    ∧ algebraic_WinIdeal_WinRefIdeal (hWinIdeal := hWinIdeal) (hWinRefIdeal := hWinRefIdeal)
    ∧ preserves_Gu_GuIdeal
    ∧ algebraic_GuIdeal_GuRefIdeal (hGuIdeal := hGuIdeal) (hGuRefIdeal := hGuRefIdeal)
    ∧ preserves_Gu1_Gu1Ideal
    ∧ algebraic_Gu1Ideal_Gu1RefIdeal (hGu1Ideal := hGu1Ideal) (hGu1RefIdeal := hGu1RefIdeal)
    ∧ preserves_Down_DownIdeal
    ∧ algebraic_DownIdeal_DownRefIdeal (hDownIdeal := hDownIdeal) (hDownRefIdeal := hDownRefIdeal)
    ∧ preserves_Wout_WoutIdeal
    ∧ algebraic_WoutIdeal_WoutRefIdeal (hWoutIdeal := hWoutIdeal) (hWoutRefIdeal := hWoutRefIdeal)
    ∧ preserves_Down1_Down1Ideal
    ∧ algebraic_Down1Ideal_Down1RefIdeal (hDown1Ideal := hDown1Ideal) (hDown1RefIdeal := hDown1RefIdeal)
    ∧ preserves_Ssd_SsdIdeal
    ∧ algebraic_SsdIdeal_SsdRefIdeal_pre_finite_steps (hSsdIdeal := hSsdIdeal) (hSsdRefIdeal := hSsdRefIdeal) (hPre_finite_steps := hPre_finite_steps)
-- ==== Pre_finite_steps.lean ====
abbrev S9216x1536 : Shape := ⟨2, ![9216, 1536]⟩
abbrev S9216x128 : Shape := ⟨2, ![9216, 128]⟩
abbrev S1x128 : Shape := ⟨2, ![1, 128]⟩
abbrev S9216x16 : Shape := ⟨2, ![9216, 16]⟩
abbrev S_ : Shape := ⟨0, ![]⟩

class Facts : Prop where
  bcast_S1x128_S9216x128_0_1 : S1x128.BroadcastsInDim S9216x128 (![0, 1] : Fin 2 → Fin S9216x128.rank)
  slices_S9216x128_S9216x16_0_0 : S9216x128.Slices ![0, 0] S9216x16
  bcast_S_S9216x16 : S_.BroadcastsInDim S9216x16 (![] : Fin 0 → Fin S9216x16.rank)

variable [Facts]

def fn {F : FTy → Type} [FloatOps F] (main_arg0 : FVec F S9216x1536 .f32) (main_arg1 : FVec F S9216x128 .f32) (main_arg2 : FVec F S1x128 .f32) : IVec S9216x16 1 :=
  let main_v0 : FVec F S9216x128 .f32 := broadcastInDim S9216x128 ![0, 1] bcast_S1x128_S9216x128_0_1 main_arg2
  let main_v1 : FVec F S9216x128 .f32 := mulf main_arg1 main_v0
  let main_v2 : FVec F S9216x16 .f32 := (extractStridedSlice S9216x16 ![0, 0] · slices_S9216x128_S9216x16_0_0) main_v1
  let main_v3 : FVec F S9216x16 .f32 := Host.absf main_v2
  let main_cst : FVec F S_ .f32 := constant S_ .f32 0x7F800000#32
  let main_v4 : FVec F S9216x16 .f32 := broadcastInDim S9216x16 ![] bcast_S_S9216x16 main_cst
  let main_v5 : IVec S9216x16 1 := cmpf .olt main_v3 main_v4
  main_v5
-- ==== Axial.lean ====
abbrev S8192x1024 : Shape := ⟨2, ![8192, 1024]⟩
abbrev S31x1024 : Shape := ⟨2, ![31, 1024]⟩
abbrev S1x1024 : Shape := ⟨2, ![1, 1024]⟩
abbrev S2048x256 : Shape := ⟨2, ![2048, 256]⟩
abbrev S31x256 : Shape := ⟨2, ![31, 256]⟩
abbrev S1x256 : Shape := ⟨2, ![1, 256]⟩
abbrev S3968x256 : Shape := ⟨2, ![3968, 256]⟩
abbrev S960x256 : Shape := ⟨2, ![960, 256]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S8192x1024, .f32⟩
  | .hbm, ⟨4, _⟩ => ⟨S31x1024, .f32⟩
  | .hbm, ⟨5, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S31x256, .f32⟩
  | .local _ .vmem, ⟨5, _⟩ => ⟨S31x256, .f32⟩
  | .local _ .vmem, ⟨6, _⟩ => ⟨S2048x256, .f32⟩
  | .local _ .vmem, ⟨7, _⟩ => ⟨S2048x256, .f32⟩
  | .local _ .vmem, ⟨8, _⟩ => ⟨S31x256, .f32⟩
  | .local _ .vmem, ⟨9, _⟩ => ⟨S31x256, .f32⟩
  | .local _ .vmem, ⟨10, _⟩ => ⟨S1x256, .f32⟩
  | .local _ .vmem, ⟨11, _⟩ => ⟨S1x256, .f32⟩
  | .local _ .vmem, ⟨12, _⟩ => ⟨S3968x256, .f32⟩
  | .local _ .vmem, ⟨13, _⟩ => ⟨S3968x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c2_i32 : BitVec 32 := 2#32
  let v24 : BitVec 1 := Scalar.cmpi .slt arg0 c2_i32
  let v25 : BitVec 32 := Scalar.extui v24
  let c0_i32 : BitVec 32 := 0#32
  let v26 : BitVec 1 := Scalar.cmpi .ne v25 c0_i32
  v26

def k0_cond4 (i : grid0.Coords) : BitVec 1 :=
  let arg0 : BitVec 32 := BitVec.ofNat 32 (i 0).val
  let c2_i32_16 : BitVec 32 := 2#32
  let v27 : BitVec 1 := Scalar.cmpi .sge arg0 c2_i32_16
  let v28 : BitVec 32 := Scalar.extui v27
  let c0_i32_17 : BitVec 32 := 0#32
  let v29 : BitVec 1 := Scalar.cmpi .ne v28 c0_i32_17
  v29

def k0_cond2 (i : grid0.Coords) : BitVec 1 :=
  let arg1 : BitVec 32 := BitVec.ofNat 32 (i 1).val
  let c0_i32_834 : BitVec 32 := 0#32
  let v2055 : BitVec 1 := Scalar.cmpi .eq arg1 c0_i32_834
  let v2057 : BitVec 32 := Scalar.extui v2055
  let c0_i32_835 : BitVec 32 := 0#32
  let v2058 : BitVec 1 := Scalar.cmpi .ne v2057 c0_i32_835
  v2058

def k0_cond3 (i : grid0.Coords) : BitVec 1 :=
  let arg1 : BitVec 32 := BitVec.ofNat 32 (i 1).val
  let c0_i32_834 : BitVec 32 := 0#32
  let v2055 : BitVec 1 := Scalar.cmpi .eq arg1 c0_i32_834
  let true_836 : BitVec 1 := 1#1
  let v2059 : BitVec 1 := Scalar.xori v2055 true_836
  let v2060 : BitVec 32 := Scalar.extui v2059
  let c0_i32_837 : BitVec 32 := 0#32
  let v2061 : BitVec 1 := Scalar.cmpi .ne v2060 c0_i32_837
  v2061

def k0_cond5 (i : grid0.Coords) : BitVec 1 :=
  let arg1 : BitVec 32 := BitVec.ofNat 32 (i 1).val
  let c0_i32_183 : BitVec 32 := 0#32
  let v319 : BitVec 1 := Scalar.cmpi .eq arg1 c0_i32_183
  let v321 : BitVec 32 := Scalar.extui v319
  let c0_i32_184 : BitVec 32 := 0#32
  let v322 : BitVec 1 := Scalar.cmpi .ne v321 c0_i32_184
  v322

def k0_cond6 (i : grid0.Coords) : BitVec 1 :=
  let arg1 : BitVec 32 := BitVec.ofNat 32 (i 1).val
  let c0_i32_183 : BitVec 32 := 0#32
  let v319 : BitVec 1 := Scalar.cmpi .eq arg1 c0_i32_183
  let true_185 : BitVec 1 := 1#1
  let v323 : BitVec 1 := Scalar.xori v319 true_185
  let v324 : BitVec 32 := Scalar.extui v323
  let c0_i32_186 : BitVec 32 := 0#32
  let v325 : BitVec 1 := Scalar.cmpi .ne v324 c0_i32_186
  v325

def k0_cond7 (i : grid0.Coords) : BitVec 1 :=
  let arg1 : BitVec 32 := BitVec.ofNat 32 (i 1).val
  let c0_i32_18 : BitVec 32 := 0#32
  let v30 : BitVec 1 := Scalar.cmpi .eq arg1 c0_i32_18
  let v33 : BitVec 32 := Scalar.extui v30
  let c0_i32_20 : BitVec 32 := 0#32
  let v34 : BitVec 1 := Scalar.cmpi .ne v33 c0_i32_20
  v34

def k0_cond8 (i : grid0.Coords) : BitVec 1 :=
  let arg1 : BitVec 32 := BitVec.ofNat 32 (i 1).val
  let c0_i32_18 : BitVec 32 := 0#32
  let v30 : BitVec 1 := Scalar.cmpi .eq arg1 c0_i32_18
  let v_true : BitVec 1 := 1#1
  let v35 : BitVec 1 := Scalar.xori v30 v_true
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S31x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== AxialRefIdeal.lean ====
abbrev S8192x1024 : Shape := ⟨2, ![8192, 1024]⟩
abbrev S31x1024 : Shape := ⟨2, ![31, 1024]⟩
abbrev S_ : Shape := ⟨0, ![]⟩
abbrev S1x1024 : Shape := ⟨2, ![1, 1024]⟩
abbrev S4x32x64x1024 : Shape := ⟨4, ![4, 32, 64, 1024]⟩
abbrev S4x32x64x512 : Shape := ⟨4, ![4, 32, 64, 512]⟩
abbrev S31x512 : Shape := ⟨2, ![31, 512]⟩
abbrev S31x64x64 : Shape := ⟨3, ![31, 64, 64]⟩
abbrev S64x64x512 : Shape := ⟨3, ![64, 64, 512]⟩
abbrev S512x4x32x64 : Shape := ⟨4, ![512, 4, 32, 64]⟩
abbrev S4x64x32x512 : Shape := ⟨4, ![4, 64, 32, 512]⟩
abbrev S31x32x32 : Shape := ⟨3, ![31, 32, 32]⟩
abbrev S32x32x512 : Shape := ⟨3, ![32, 32, 512]⟩
abbrev S512x4x64x32 : Shape := ⟨4, ![512, 4, 64, 32]⟩
abbrev S1024 : Shape := ⟨1, ![1024]⟩
abbrev S512x32x32 : Shape := ⟨3, ![512, 32, 32]⟩
abbrev S512x31 : Shape := ⟨2, ![512, 31]⟩
abbrev S512x64x64 : Shape := ⟨3, ![512, 64, 64]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S31x1024, .f32⟩
  | .hbm, ⟨3, _⟩ => ⟨S_, .f32⟩
  | .hbm, ⟨4, _⟩ => ⟨S1x1024, .f32⟩
  | .hbm, ⟨5, _⟩ => ⟨S4x32x64x1024, .f32⟩
  | .hbm, ⟨6, _⟩ => ⟨S4x32x64x512, .f32⟩
  | .hbm, ⟨7, _⟩ => ⟨S31x512, .f32⟩
  | .hbm, ⟨8, _⟩ => ⟨S31x64x64, .i32⟩
  | .hbm, ⟨9, _⟩ => ⟨S31x64x64, .i32⟩
  | .hbm, ⟨10, _⟩ => ⟨S31x64x64, .i32⟩
  | .hbm, ⟨11, _⟩ => ⟨S31x64x64, .i32⟩
  | .hbm, ⟨12, _⟩ => ⟨S_, .i32⟩
  | .hbm, ⟨13, _⟩ => ⟨S31x64x64, .i32⟩
  | .hbm, ⟨14, _⟩ => ⟨S31x64x64, .i32⟩
  | .hbm, ⟨15, _⟩ => ⟨S31x64x64, .i1⟩
  | .hbm, ⟨16, _⟩ => ⟨S_, .f32⟩
  | .hbm, ⟨17, _⟩ => ⟨S_, .f32⟩
  | .hbm, ⟨18, _⟩ => ⟨S31x64x64, .f32⟩
  | .hbm, ⟨19, _⟩ => ⟨S31x64x64, .f32⟩
  | .hbm, ⟨20, _⟩ => ⟨S31x64x64, .f32⟩
  | .hbm, ⟨21, _⟩ => ⟨S64x64x512, .f32⟩
  | .hbm, ⟨22, _⟩ => ⟨S512x4x32x64, .f32⟩
  | .hbm, ⟨23, _⟩ => ⟨S4x32x64x512, .f32⟩
  | .hbm, ⟨24, _⟩ => ⟨S4x32x64x512, .f32⟩
  | .hbm, ⟨25, _⟩ => ⟨S4x64x32x512, .f32⟩
  | .hbm, ⟨26, _⟩ => ⟨S31x512, .f32⟩
  | .hbm, ⟨27, _⟩ => ⟨S31x32x32, .i32⟩
  | .hbm, ⟨28, _⟩ => ⟨S31x32x32, .i32⟩
  | .hbm, ⟨29, _⟩ => ⟨S31x32x32, .i32⟩
  | .hbm, ⟨30, _⟩ => ⟨S31x32x32, .i32⟩
  | .hbm, ⟨31, _⟩ => ⟨S_, .i32⟩
  | .hbm, ⟨32, _⟩ => ⟨S31x32x32, .i32⟩
  | .hbm, ⟨33, _⟩ => ⟨S31x32x32, .i32⟩
  | .hbm, ⟨34, _⟩ => ⟨S31x32x32, .i1⟩
  | .hbm, ⟨35, _⟩ => ⟨S_, .f32⟩
  | .hbm, ⟨36, _⟩ => ⟨S_, .f32⟩
  | .hbm, ⟨37, _⟩ => ⟨S31x32x32, .f32⟩
  | .hbm, ⟨38, _⟩ => ⟨S31x32x32, .f32⟩
  | .hbm, ⟨39, _⟩ => ⟨S31x32x32, .f32⟩
  | .hbm, ⟨40, _⟩ => ⟨S32x32x512, .f32⟩
  | .hbm, ⟨41, _⟩ => ⟨S512x4x64x32, .f32⟩
  | .hbm, ⟨42, _⟩ => ⟨S4x64x32x512, .f32⟩
  | .hbm, ⟨43, _⟩ => ⟨S4x32x64x512, .f32⟩
  | .hbm, ⟨44, _⟩ => ⟨S4x32x64x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4x32x64x1024, .f32⟩
  | .hbm, ⟨53, _⟩ => ⟨S4x32x64x512, .f32⟩
  | .hbm, ⟨54, _⟩ => ⟨S4x32x64x512, .f32⟩
  | .hbm, ⟨55, _⟩ => ⟨S4x64x32x512, .f32⟩
  | .hbm, ⟨56, _⟩ => ⟨S512x4x64x32, .f32⟩
  | .hbm, ⟨57, _⟩ => ⟨S512x32x32, .f32⟩
  | .hbm, ⟨58, _⟩ => ⟨S32x32x512, .f32⟩
  | .hbm, ⟨59, _⟩ => ⟨S512x4x64x32, .f32⟩
  | .hbm, ⟨60, _⟩ => ⟨S4x64x32x512, .f32⟩
  | .hbm, ⟨61, _⟩ => ⟨S512x31, .f32⟩
  | .hbm, ⟨62, _⟩ => ⟨S31x512, .f32⟩
  | .hbm, ⟨63, _⟩ => ⟨S_, .f32⟩
  | .hbm, ⟨64, _⟩ => ⟨S31x1024, .f32⟩
  | .hbm, ⟨65, _⟩ => ⟨S4x32x64x512, .f32⟩
  | .hbm, ⟨66, _⟩ => ⟨S_, .f32⟩
  | .hbm, ⟨67, _⟩ => ⟨S4x32x64x1024, .f32⟩
  | .hbm, ⟨68, _⟩ => ⟨S512x4x32x64, .f32⟩
  | .hbm, ⟨69, _⟩ => ⟨S512x64x64, .f32⟩
  | .hbm, ⟨70, _⟩ => ⟨S64x64x512, .f32⟩
  | .hbm, ⟨71, _⟩ => ⟨S512x4x32x64, .f32⟩
  | .hbm, ⟨72, _⟩ => ⟨S4x32x64x512, .f32⟩
  | .hbm, ⟨73, _⟩ => ⟨S512x31, .f32⟩
  | .hbm, ⟨74, _⟩ => ⟨S31x512, .f32⟩
  | .hbm, ⟨75, _⟩ => ⟨S_, .f32⟩
  | .hbm, ⟨76, _⟩ => ⟨S31x1024, .f32⟩
  | .hbm, ⟨77, _⟩ => ⟨S31x1024, .f32⟩
  | .hbm, ⟨78, _⟩ => ⟨S_, .f32⟩
  | .hbm, ⟨79, _⟩ => ⟨S4x32x64x1024, .f32⟩
  | .hbm, ⟨80, _⟩ => ⟨S4x32x64x1024, .f32⟩
  | .hbm, ⟨81, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Ln.lean ====
abbrev S8192x1024 : Shape := ⟨2, ![8192, 1024]⟩
abbrev S1x1024 : Shape := ⟨2, ![1, 1024]⟩
abbrev S8192x2048 : Shape := ⟨2, ![8192, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v75 : BitVec 1 := Scalar.cmpi .eq arg1 c0_i32
  let v76 : BitVec 32 := Scalar.extui v75
  let c0_i32_27 : BitVec 32 := 0#32
  let v77 : BitVec 1 := Scalar.cmpi .ne v76 c0_i32_27
  v77

def k0_cond2 (i : grid0.Coords) : BitVec 1 :=
  let arg1 : BitVec 32 := BitVec.ofNat 32 (i 1).val
  let c0_i32 : BitVec 32 := 0#32
  let v75 : BitVec 1 := Scalar.cmpi .eq arg1 c0_i32
  let v_true : BitVec 1 := 1#1
  let v78 : BitVec 1 := Scalar.xori v75 v_true
  let v79 : BitVec 32 := Scalar.extui v78
  let c0_i32_28 : BitVec 32 := 0#32
  let v80 : BitVec 1 := Scalar.cmpi .ne v79 c0_i32_28
  v80

def k0_cond3 (i : grid0.Coords) : BitVec 1 :=
  let arg1 : BitVec 32 := BitVec.ofNat 32 (i 1).val
  let c0_i32_29 : BitVec 32 := 0#32
  let v81 : BitVec 1 := Scalar.cmpi .eq arg1 c0_i32_29
  let v82 : BitVec 32 := Scalar.extui v81
  let c0_i32_30 : BitVec 32 := 0#32
  let v83 : BitVec 1 := Scalar.cmpi .ne v82 c0_i32_30
  v83

def k0_cond4 (i : grid0.Coords) : BitVec 1 :=
  let arg1 : BitVec 32 := BitVec.ofNat 32 (i 1).val
  let c0_i32_29 : BitVec 32 := 0#32
  let v81 : BitVec 1 := Scalar.cmpi .eq arg1 c0_i32_29
  let true_31 : BitVec 1 := 1#1
  let v84 : BitVec 1 := Scalar.xori v81 true_31
  let v85 : BitVec 32 := Scalar.extui v84
  let c0_i32_32 : BitVec 32 := 0#32
  let v86 : BitVec 1 := Scalar.cmpi .ne v85 c0_i32_32
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LnRefIdeal.lean ====
abbrev S8192x1024 : Shape := ⟨2, ![8192, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Dwd.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdIdeal.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwgu.lean ====
abbrev S8192x1024 : Shape := ⟨2, ![8192, 1024]⟩
abbrev S8192x2816 : Shape := ⟨2, ![8192, 2816]⟩
abbrev S8192x1408 : Shape := ⟨2, ![8192, 1408]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x1408, .bf16⟩
  | .hbm, ⟨4, _⟩ => ⟨S8192x1408, .bf16⟩
  | .hbm, ⟨5, _⟩ => ⟨S8192x1408, .bf16⟩
  | .hbm, ⟨6, _⟩ => ⟨S8192x1408, .bf16⟩
  | .hbm, ⟨7, _⟩ => ⟨S8192x5632, .bf16⟩
  | .hbm, ⟨8, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguIdeal.lean ====
abbrev S8192x1024 : Shape := ⟨2, ![8192, 1024]⟩
abbrev S8192x2816 : Shape := ⟨2, ![8192, 2816]⟩
abbrev S8192x1408 : Shape := ⟨2, ![8192, 1408]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x1408, .bf16⟩
  | .hbm, ⟨4, _⟩ => ⟨S8192x1408, .bf16⟩
  | .hbm, ⟨5, _⟩ => ⟨S8192x1408, .bf16⟩
  | .hbm, ⟨6, _⟩ => ⟨S8192x1408, .bf16⟩
  | .hbm, ⟨7, _⟩ => ⟨S8192x5632, .bf16⟩
  | .hbm, ⟨8, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1024x5632 : Shape := ⟨2, ![1024, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Dh.lean ====
abbrev S8192x2816 : Shape := ⟨2, ![8192, 2816]⟩
abbrev S1024x2816 : Shape := ⟨2, ![1024, 2816]⟩
abbrev S8192x1408 : Shape := ⟨2, ![8192, 1408]⟩
abbrev S8192x5632 : Shape := ⟨2, ![8192, 5632]⟩
abbrev S1024x1408 : Shape := ⟨2, ![1024, 1408]⟩
abbrev S1024x5632 : Shape := ⟨2, ![1024, 5632]⟩
abbrev S8192x1024 : Shape := ⟨2, ![8192, 1024]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1408, .bf16⟩
  | .hbm, ⟨5, _⟩ => ⟨S8192x1408, .bf16⟩
  | .hbm, ⟨6, _⟩ => ⟨S8192x1408, .bf16⟩
  | .hbm, ⟨7, _⟩ => ⟨S8192x1408, .bf16⟩
  | .hbm, ⟨8, _⟩ => ⟨S8192x5632, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x5632, .bf16⟩
  | .hbm, ⟨14, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhIdeal.lean ====
abbrev S8192x2816 : Shape := ⟨2, ![8192, 2816]⟩
abbrev S1024x2816 : Shape := ⟨2, ![1024, 2816]⟩
abbrev S8192x1408 : Shape := ⟨2, ![8192, 1408]⟩
abbrev S8192x5632 : Shape := ⟨2, ![8192, 5632]⟩
abbrev S1024x1408 : Shape := ⟨2, ![1024, 1408]⟩
abbrev S1024x5632 : Shape := ⟨2, ![1024, 5632]⟩
abbrev S8192x1024 : Shape := ⟨2, ![8192, 1024]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x1408, .bf16⟩
  | .hbm, ⟨5, _⟩ => ⟨S8192x1408, .bf16⟩
  | .hbm, ⟨6, _⟩ => ⟨S8192x1408, .bf16⟩
  | .hbm, ⟨7, _⟩ => ⟨S8192x1408, .bf16⟩
  | .hbm, ⟨8, _⟩ => ⟨S8192x5632, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x5632, .bf16⟩
  | .hbm, ⟨14, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S_, .f32⟩
  | .hbm, ⟨5, _⟩ => ⟨S8192x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dcat.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcatRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwout.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dha.lean ====
abbrev S9216x5120 : Shape := ⟨2, ![9216, 5120]⟩
abbrev S1024x4640 : Shape := ⟨2, ![1024, 4640]⟩
abbrev S1024x1568 : Shape := ⟨2, ![1024, 1568]⟩
abbrev S_ : Shape := ⟨0, ![]⟩
abbrev S1024x480 : Shape := ⟨2, ![1024, 480]⟩
abbrev S1024x2048 : Shape := ⟨2, ![1024, 2048]⟩
abbrev S1024x1024 : Shape := ⟨2, ![1024, 1024]⟩
abbrev S1024x5120 : Shape := ⟨2, ![1024, 5120]⟩
abbrev S9216x1024 : Shape := ⟨2, ![9216, 1024]⟩
abbrev S1536x1280 : Shape := ⟨2, ![1536, 1280]⟩
abbrev S1024x1280 : Shape := ⟨2, ![1024, 1280]⟩
abbrev S1536x1024 : Shape := ⟨2, ![1536, 1024]⟩

abbrev nBuf : Space → Nat
  | .hbm => 9
  | .vmem => 7
  | .smem => 0
  | _ => 0

abbrev bufTy : (tb : Table) → Fin (tcTables nBuf tb) → BufTy
  | .hbm, ⟨0, _⟩ => ⟨S9216x5120, .bf16⟩
  | .hbm, ⟨1, _⟩ => ⟨S1024x4640, .bf16⟩
  | .hbm, ⟨2, _⟩ => ⟨S1024x1568, .bf16⟩
  | .hbm, ⟨3, _⟩ => ⟨S_, .bf16⟩
  | .hbm, ⟨4, _⟩ => ⟨S1024x480, .bf16⟩
  | .hbm, ⟨5, _⟩ => ⟨S1024x2048, .bf16⟩
  | .hbm, ⟨6, _⟩ => ⟨S1024x1024, .bf16⟩
  | .hbm, ⟨7, _⟩ => ⟨S1024x5120, .bf16⟩
  | .hbm, ⟨8, _⟩ => ⟨S9216x1024, .f32⟩
  | .local _ .vmem, ⟨0, _⟩ => ⟨S1536x1280, .bf16⟩
  | .local _ .vmem, ⟨1, _⟩ => ⟨S1536x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S9216x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhaRefIdeal.lean ====
abbrev S9216x5120 : Shape := ⟨2, ![9216, 5120]⟩
abbrev S1024x4640 : Shape := ⟨2, ![1024, 4640]⟩
abbrev S9216x1024 : Shape := ⟨2, ![9216, 1024]⟩
abbrev S9216x1568 : Shape := ⟨2, ![9216, 1568]⟩
abbrev S9216x2048 : Shape := ⟨2, ![9216, 2048]⟩
abbrev S_ : Shape := ⟨0, ![]⟩
abbrev S9216x4640 : Shape := ⟨2, ![9216, 4640]⟩

abbrev nBuf : Space → Nat
  | .hbm => 12
  | .vmem => 0
  | .smem => 0
  | _ => 0

abbrev bufTy : (tb : Table) → Fin (tcTables nBuf tb) → BufTy
  | .hbm, ⟨0, _⟩ => ⟨S9216x5120, .bf16⟩
  | .hbm, ⟨1, _⟩ => ⟨S1024x4640, .bf16⟩
  | .hbm, ⟨2, _⟩ => ⟨S9216x1024, .bf16⟩
  | .hbm, ⟨3, _⟩ => ⟨S9216x1568, .bf16⟩
  | .hbm, ⟨4, _⟩ => ⟨S9216x2048, .bf16⟩
  | .hbm, ⟨5, _⟩ => ⟨S_, .f32⟩
  | .hbm, ⟨6, _⟩ => ⟨S9216x1024, .f32⟩
  | .hbm, ⟨7, _⟩ => ⟨S1024x4640, .f32⟩
  | .hbm, ⟨8, _⟩ => ⟨S9216x4640, .f32⟩
  | .hbm, ⟨9, _⟩ => ⟨S9216x4640, .bf16⟩
  | .hbm, ⟨10, _⟩ => ⟨S9216x4640, .f32⟩
  | .hbm, ⟨11, _⟩ => ⟨S9216x1024, .f32⟩
  | _, _ => ⟨S9216x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dwin.lean ====
abbrev S9216x1024 : Shape := ⟨2, ![9216, 1024]⟩
abbrev S9216x5120 : Shape := ⟨2, ![9216, 5120]⟩
abbrev S1024x5120 : Shape := ⟨2, ![1024, 5120]⟩
abbrev S2304x1024 : Shape := ⟨2, ![2304, 1024]⟩
abbrev S2304x1280 : Shape := ⟨2, ![2304, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5120, .bf16⟩
  | .hbm, ⟨2, _⟩ => ⟨S1024x5120, .f32⟩
  | .local _ .vmem, ⟨0, _⟩ => ⟨S2304x1024, .bf16⟩
  | .local _ .vmem, ⟨1, _⟩ => ⟨S2304x1024, .bf16⟩
  | .local _ .vmem, ⟨2, _⟩ => ⟨S2304x1280, .bf16⟩
  | .local _ .vmem, ⟨3, _⟩ => ⟨S2304x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S9216x1024 : Shape := ⟨2, ![9216, 1024]⟩
abbrev S9216x5120 : Shape := ⟨2, ![9216, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5120, .bf16⟩
  | .hbm, ⟨2, _⟩ => ⟨S_, .f32⟩
  | .hbm, ⟨3, _⟩ => ⟨S1024x5120, .f32⟩
  | .hbm, ⟨4, _⟩ => ⟨S9216x1024, .f32⟩
  | .hbm, ⟨5, _⟩ => ⟨S9216x5120, .f32⟩
  | .hbm, ⟨6, _⟩ => ⟨S9216x5120, .f32⟩
  | .hbm, ⟨7, _⟩ => ⟨S5120x1024, .f32⟩
  | .hbm, ⟨8, _⟩ => ⟨S1024x5120, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Da.lean ====
abbrev S8192x1024 : Shape := ⟨2, ![8192, 1024]⟩
abbrev S2816x1024 : Shape := ⟨2, ![2816, 1024]⟩
abbrev S8192x2816 : Shape := ⟨2, ![8192, 2816]⟩
abbrev S1024x2816 : Shape := ⟨2, ![1024, 2816]⟩
abbrev S8192x1408 : Shape := ⟨2, ![8192, 1408]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S1024x2816, .bf16⟩
  | .hbm, ⟨5, _⟩ => ⟨S8192x1408, .bf16⟩
  | .hbm, ⟨6, _⟩ => ⟨S8192x1408, .bf16⟩
  | .hbm, ⟨7, _⟩ => ⟨S8192x1408, .bf16⟩
  | .hbm, ⟨8, _⟩ => ⟨S8192x1408, .bf16⟩
  | .hbm, ⟨9, _⟩ => ⟨S8192x5632, .bf16⟩
  | .hbm, ⟨10, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DaIdeal.lean ====
abbrev S8192x1024 : Shape := ⟨2, ![8192, 1024]⟩
abbrev S2816x1024 : Shape := ⟨2, ![2816, 1024]⟩
abbrev S8192x2816 : Shape := ⟨2, ![8192, 2816]⟩
abbrev S1024x2816 : Shape := ⟨2, ![1024, 2816]⟩
abbrev S8192x1408 : Shape := ⟨2, ![8192, 1408]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S1024x2816, .bf16⟩
  | .hbm, ⟨5, _⟩ => ⟨S8192x1408, .bf16⟩
  | .hbm, ⟨6, _⟩ => ⟨S8192x1408, .bf16⟩
  | .hbm, ⟨7, _⟩ => ⟨S8192x1408, .bf16⟩
  | .hbm, ⟨8, _⟩ => ⟨S8192x1408, .bf16⟩
  | .hbm, ⟨9, _⟩ => ⟨S8192x5632, .bf16⟩
  | .hbm, ⟨10, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DaRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S8192x1408 : Shape := ⟨2, ![8192, 1408]⟩
abbrev S8192x5632 : Shape := ⟨2, ![8192, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S_, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x1408, .f32⟩
  | .hbm, ⟨15, _⟩ => ⟨S8192x1408, .f32⟩
  | .hbm, ⟨16, _⟩ => ⟨S8192x1408, .f32⟩
  | .hbm, ⟨17, _⟩ => ⟨S8192x1408, .f32⟩
  | .hbm, ⟨18, _⟩ => ⟨S8192x5632, .f32⟩
  | .hbm, ⟨19, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Da1.lean ====
abbrev S9216x1024 : Shape := ⟨2, ![9216, 1024]⟩
abbrev S2816x1024 : Shape := ⟨2, ![2816, 1024]⟩
abbrev S9216x2816 : Shape := ⟨2, ![9216, 2816]⟩
abbrev S1024x2816 : Shape := ⟨2, ![1024, 2816]⟩
abbrev S9216x1408 : Shape := ⟨2, ![9216, 1408]⟩
abbrev S9216x5632 : Shape := ⟨2, ![9216, 5632]⟩
abbrev S1024x1024 : Shape := ⟨2, ![1024, 1024]⟩
abbrev S1024x1408 : Shape := ⟨2, ![1024, 1408]⟩

abbrev nBuf : Space → Nat
  | .hbm => 11
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .bf16⟩
  | .hbm, ⟨3, _⟩ => ⟨S9216x2816, .bf16⟩
  | .hbm, ⟨4, _⟩ => ⟨S1024x2816, .bf16⟩
  | .hbm, ⟨5, _⟩ => ⟨S9216x1408, .bf16⟩
  | .hbm, ⟨6, _⟩ => ⟨S9216x1408, .bf16⟩
  | .hbm, ⟨7, _⟩ => ⟨S9216x1408, .bf16⟩
  | .hbm, ⟨8, _⟩ => ⟨S9216x1408, .bf16⟩
  | .hbm, ⟨9, _⟩ => ⟨S9216x5632, .bf16⟩
  | .hbm, ⟨10, _⟩ => ⟨S9216x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Da1RefIdeal.lean ====
abbrev S9216x1024 : Shape := ⟨2, ![9216, 1024]⟩
abbrev S2816x1024 : Shape := ⟨2, ![2816, 1024]⟩
abbrev S9216x2816 : Shape := ⟨2, ![9216, 2816]⟩
abbrev S_ : Shape := ⟨0, ![]⟩
abbrev S9216x1408 : Shape := ⟨2, ![9216, 1408]⟩
abbrev S9216x5632 : Shape := ⟨2, ![9216, 5632]⟩

abbrev nBuf : Space → Nat
  | .hbm => 20
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .bf16⟩
  | .hbm, ⟨3, _⟩ => ⟨S9216x2816, .bf16⟩
  | .hbm, ⟨4, _⟩ => ⟨S_, .f32⟩
  | .hbm, ⟨5, _⟩ => ⟨S9216x2816, .f32⟩
  | .hbm, ⟨6, _⟩ => ⟨S2816x1024, .f32⟩
  | .hbm, ⟨7, _⟩ => ⟨S9216x1024, .f32⟩
  | .hbm, ⟨8, _⟩ => ⟨S9216x1024, .f32⟩
  | .hbm, ⟨9, _⟩ => ⟨S9216x2816, .f32⟩
  | .hbm, ⟨10, _⟩ => ⟨S9216x2816, .f32⟩
  | .hbm, ⟨11, _⟩ => ⟨S9216x2816, .f32⟩
  | .hbm, ⟨12, _⟩ => ⟨S9216x2816, .f32⟩
  | .hbm, ⟨13, _⟩ => ⟨S9216x2816, .f32⟩
  | .hbm, ⟨14, _⟩ => ⟨S9216x1408, .f32⟩
  | .hbm, ⟨15, _⟩ => ⟨S9216x1408, .f32⟩
  | .hbm, ⟨16, _⟩ => ⟨S9216x1408, .f32⟩
  | .hbm, ⟨17, _⟩ => ⟨S9216x1408, .f32⟩
  | .hbm, ⟨18, _⟩ => ⟨S9216x5632, .f32⟩
  | .hbm, ⟨19, _⟩ => ⟨S9216x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Dwd1.lean ====
abbrev S9216x2816 : Shape := ⟨2, ![9216, 2816]⟩
abbrev S9216x1024 : Shape := ⟨2, ![9216, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwd1RefIdeal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwgu1.lean ====
abbrev S9216x1024 : Shape := ⟨2, ![9216, 1024]⟩
abbrev S9216x2816 : Shape := ⟨2, ![9216, 2816]⟩
abbrev S9216x1408 : Shape := ⟨2, ![9216, 1408]⟩
abbrev S9216x5632 : Shape := ⟨2, ![9216, 5632]⟩
abbrev S1024x5632 : Shape := ⟨2, ![1024, 5632]⟩
abbrev S1536x1024 : Shape := ⟨2, ![1536, 1024]⟩
abbrev S1536x1408 : Shape := ⟨2, ![1536, 1408]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x2816, .bf16⟩
  | .hbm, ⟨2, _⟩ => ⟨S9216x2816, .bf16⟩
  | .hbm, ⟨3, _⟩ => ⟨S9216x1408, .bf16⟩
  | .hbm, ⟨4, _⟩ => ⟨S9216x1408, .bf16⟩
  | .hbm, ⟨5, _⟩ => ⟨S9216x1408, .bf16⟩
  | .hbm, ⟨6, _⟩ => ⟨S9216x1408, .bf16⟩
  | .hbm, ⟨7, _⟩ => ⟨S9216x5632, .bf16⟩
  | .hbm, ⟨8, _⟩ => ⟨S1024x5632, .f32⟩
  | .local _ .vmem, ⟨0, _⟩ => ⟨S1536x1024, .bf16⟩
  | .local _ .vmem, ⟨1, _⟩ => ⟨S1536x1024, .bf16⟩
  | .local _ .vmem, ⟨2, _⟩ => ⟨S1536x1408, .bf16⟩
  | .local _ .vmem, ⟨3, _⟩ => ⟨S1536x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwgu1RefIdeal.lean ====
abbrev S9216x1024 : Shape := ⟨2, ![9216, 1024]⟩
abbrev S9216x2816 : Shape := ⟨2, ![9216, 2816]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1024x5632 : Shape := ⟨2, ![1024, 5632]⟩

abbrev nBuf : Space → Nat
  | .hbm => 20
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x2816, .bf16⟩
  | .hbm, ⟨2, _⟩ => ⟨S9216x2816, .bf16⟩
  | .hbm, ⟨3, _⟩ => ⟨S_, .f32⟩
  | .hbm, ⟨4, _⟩ => ⟨S1024x2816, .f32⟩
  | .hbm, ⟨5, _⟩ => ⟨S9216x1024, .f32⟩
  | .hbm, ⟨6, _⟩ => ⟨S9216x2816, .f32⟩
  | .hbm, ⟨7, _⟩ => ⟨S9216x1024, .f32⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S1024x5632, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Dh1.lean ====
abbrev S9216x2816 : Shape := ⟨2, ![9216, 2816]⟩
abbrev S1024x2816 : Shape := ⟨2, ![1024, 2816]⟩
abbrev S9216x1408 : Shape := ⟨2, ![9216, 1408]⟩
abbrev S9216x5632 : Shape := ⟨2, ![9216, 5632]⟩
abbrev S1024x1408 : Shape := ⟨2, ![1024, 1408]⟩
abbrev S1024x5632 : Shape := ⟨2, ![1024, 5632]⟩
abbrev S9216x1024 : Shape := ⟨2, ![9216, 1024]⟩
abbrev S1536x1408 : Shape := ⟨2, ![1536, 1408]⟩
abbrev S1536x1024 : Shape := ⟨2, ![1536, 1024]⟩

abbrev nBuf : Space → Nat
  | .hbm => 15
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x2816, .bf16⟩
  | .hbm, ⟨2, _⟩ => ⟨S1024x2816, .bf16⟩
  | .hbm, ⟨3, _⟩ => ⟨S1024x2816, .bf16⟩
  | .hbm, ⟨4, _⟩ => ⟨S9216x1408, .bf16⟩
  | .hbm, ⟨5, _⟩ => ⟨S9216x1408, .bf16⟩
  | .hbm, ⟨6, _⟩ => ⟨S9216x1408, .bf16⟩
  | .hbm, ⟨7, _⟩ => ⟨S9216x1408, .bf16⟩
  | .hbm, ⟨8, _⟩ => ⟨S9216x5632, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x5632, .bf16⟩
  | .hbm, ⟨14, _⟩ => ⟨S9216x1024, .f32⟩
  | .local _ .vmem, ⟨0, _⟩ => ⟨S1536x1408, .bf16⟩
  | .local _ .vmem, ⟨1, _⟩ => ⟨S1536x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S9216x2816 : Shape := ⟨2, ![9216, 2816]⟩
abbrev S1024x2816 : Shape := ⟨2, ![1024, 2816]⟩
abbrev S_ : Shape := ⟨0, ![]⟩
abbrev S9216x1024 : Shape := ⟨2, ![9216, 1024]⟩

abbrev nBuf : Space → Nat
  | .hbm => 15
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x2816, .bf16⟩
  | .hbm, ⟨2, _⟩ => ⟨S1024x2816, .bf16⟩
  | .hbm, ⟨3, _⟩ => ⟨S1024x2816, .bf16⟩
  | .hbm, ⟨4, _⟩ => ⟨S_, .f32⟩
  | .hbm, ⟨5, _⟩ => ⟨S9216x1024, .f32⟩
  | .hbm, ⟨6, _⟩ => ⟨S1024x2816, .f32⟩
  | .hbm, ⟨7, _⟩ => ⟨S9216x2816, .f32⟩
  | .hbm, ⟨8, _⟩ => ⟨S1024x2816, .f32⟩
  | .hbm, ⟨9, _⟩ => ⟨S9216x2816, .f32⟩
  | .hbm, ⟨10, _⟩ => ⟨S9216x2816, .f32⟩
  | .hbm, ⟨11, _⟩ => ⟨S9216x2816, .f32⟩
  | .hbm, ⟨12, _⟩ => ⟨S9216x1024, .f32⟩
  | .hbm, ⟨13, _⟩ => ⟨S9216x1024, .f32⟩
  | .hbm, ⟨14, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Win.lean ====
abbrev S9216x1024 : Shape := ⟨2, ![9216, 1024]⟩
abbrev S1024x4640 : Shape := ⟨2, ![1024, 4640]⟩
abbrev S1024x1568 : Shape := ⟨2, ![1024, 1568]⟩
abbrev S_ : Shape := ⟨0, ![]⟩
abbrev S1024x480 : Shape := ⟨2, ![1024, 480]⟩
abbrev S1024x2048 : Shape := ⟨2, ![1024, 2048]⟩
abbrev S1024x1024 : Shape := ⟨2, ![1024, 1024]⟩
abbrev S1024x5120 : Shape := ⟨2, ![1024, 5120]⟩
abbrev S9216x5120 : Shape := ⟨2, ![9216, 5120]⟩
abbrev S512x1024 : Shape := ⟨2, ![512, 1024]⟩
abbrev S1024x2560 : Shape := ⟨2, ![1024, 2560]⟩
abbrev S512x2560 : Shape := ⟨2, ![512, 2560]⟩

abbrev nBuf : Space → Nat
  | .hbm => 9
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x4640, .bf16⟩
  | .hbm, ⟨2, _⟩ => ⟨S1024x1568, .bf16⟩
  | .hbm, ⟨3, _⟩ => ⟨S_, .bf16⟩
  | .hbm, ⟨4, _⟩ => ⟨S1024x480, .bf16⟩
  | .hbm, ⟨5, _⟩ => ⟨S1024x2048, .bf16⟩
  | .hbm, ⟨6, _⟩ => ⟨S1024x1024, .bf16⟩
  | .hbm, ⟨7, _⟩ => ⟨S1024x5120, .bf16⟩
  | .hbm, ⟨8, _⟩ => ⟨S9216x5120, .f32⟩
  | .local _ .vmem, ⟨0, _⟩ => ⟨S512x1024, .bf16⟩
  | .local _ .vmem, ⟨1, _⟩ => ⟨S512x1024, .bf16⟩
  | .local _ .vmem, ⟨2, _⟩ => ⟨S1024x2560, .bf16⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S9216x1024 : Shape := ⟨2, ![9216, 1024]⟩
abbrev S1024x4640 : Shape := ⟨2, ![1024, 4640]⟩
abbrev S9216x4640 : Shape := ⟨2, ![9216, 4640]⟩
abbrev S9216x1568 : Shape := ⟨2, ![9216, 1568]⟩
abbrev S_ : Shape := ⟨0, ![]⟩
abbrev S9216x480 : Shape := ⟨2, ![9216, 480]⟩
abbrev S9216x2048 : Shape := ⟨2, ![9216, 2048]⟩
abbrev S9216x5120 : Shape := ⟨2, ![9216, 5120]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x4640, .bf16⟩
  | .hbm, ⟨2, _⟩ => ⟨S9216x1024, .f32⟩
  | .hbm, ⟨3, _⟩ => ⟨S1024x4640, .f32⟩
  | .hbm, ⟨4, _⟩ => ⟨S9216x4640, .f32⟩
  | .hbm, ⟨5, _⟩ => ⟨S9216x1568, .f32⟩
  | .hbm, ⟨6, _⟩ => ⟨S_, .f32⟩
  | .hbm, ⟨7, _⟩ => ⟨S9216x480, .f32⟩
  | .hbm, ⟨8, _⟩ => ⟨S9216x2048, .f32⟩
  | .hbm, ⟨9, _⟩ => ⟨S9216x1024, .f32⟩
  | .hbm, ⟨10, _⟩ => ⟨S9216x5120, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gu.lean ====
abbrev S8192x1024 : Shape := ⟨2, ![8192, 1024]⟩
abbrev S1024x2816 : Shape := ⟨2, ![1024, 2816]⟩
abbrev S1024x1408 : Shape := ⟨2, ![1024, 1408]⟩
abbrev S1024x5632 : Shape := ⟨2, ![1024, 5632]⟩
abbrev S8192x5632 : Shape := ⟨2, ![8192, 5632]⟩
abbrev S8192x2816 : Shape := ⟨2, ![8192, 2816]⟩
abbrev S256x1024 : Shape := ⟨2, ![256, 1024]⟩
abbrev S256x2816 : Shape := ⟨2, ![256, 2816]⟩
abbrev S256x1408 : Shape := ⟨2, ![256, 1408]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x5632, .bf16⟩
  | .hbm, ⟨8, _⟩ => ⟨S8192x5632, .bf16⟩
  | .hbm, ⟨9, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1408, .bf16⟩
  | .local _ .vmem, ⟨7, _⟩ => ⟨S256x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GuIdeal.lean ====
abbrev S8192x1024 : Shape := ⟨2, ![8192, 1024]⟩
abbrev S1024x2816 : Shape := ⟨2, ![1024, 2816]⟩
abbrev S1024x1408 : Shape := ⟨2, ![1024, 1408]⟩
abbrev S1024x5632 : Shape := ⟨2, ![1024, 5632]⟩
abbrev S8192x5632 : Shape := ⟨2, ![8192, 5632]⟩
abbrev S8192x2816 : Shape := ⟨2, ![8192, 2816]⟩
abbrev S256x1024 : Shape := ⟨2, ![256, 1024]⟩
abbrev S256x2816 : Shape := ⟨2, ![256, 2816]⟩
abbrev S256x1408 : Shape := ⟨2, ![256, 1408]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x5632, .bf16⟩
  | .hbm, ⟨8, _⟩ => ⟨S8192x5632, .bf16⟩
  | .hbm, ⟨9, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1408, .bf16⟩
  | .local _ .vmem, ⟨7, _⟩ => ⟨S256x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GuRefIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S8192x1408 : Shape := ⟨2, ![8192, 1408]⟩
abbrev S8192x5632 : Shape := ⟨2, ![8192, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x1408, .f32⟩
  | .hbm, ⟨30, _⟩ => ⟨S8192x1408, .f32⟩
  | .hbm, ⟨31, _⟩ => ⟨S8192x1408, .f32⟩
  | .hbm, ⟨32, _⟩ => ⟨S8192x1408, .f32⟩
  | .hbm, ⟨33, _⟩ => ⟨S8192x5632, .f32⟩
  | .hbm, ⟨34, _⟩ => ⟨S8192x5632, .bf16⟩
  | .hbm, ⟨35, _⟩ => ⟨S8192x2816, .f32⟩
  | .hbm, ⟨36, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_cst : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Gu1.lean ====
abbrev S9216x1024 : Shape := ⟨2, ![9216, 1024]⟩
abbrev S1024x2816 : Shape := ⟨2, ![1024, 2816]⟩
abbrev S1024x1408 : Shape := ⟨2, ![1024, 1408]⟩
abbrev S1024x5632 : Shape := ⟨2, ![1024, 5632]⟩
abbrev S9216x5632 : Shape := ⟨2, ![9216, 5632]⟩
abbrev S9216x2816 : Shape := ⟨2, ![9216, 2816]⟩
abbrev S256x1024 : Shape := ⟨2, ![256, 1024]⟩
abbrev S256x2816 : Shape := ⟨2, ![256, 2816]⟩
abbrev S256x1408 : Shape := ⟨2, ![256, 1408]⟩

abbrev nBuf : Space → Nat
  | .hbm => 10
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .bf16⟩
  | .hbm, ⟨2, _⟩ => ⟨S1024x2816, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x5632, .bf16⟩
  | .hbm, ⟨8, _⟩ => ⟨S9216x5632, .bf16⟩
  | .hbm, ⟨9, _⟩ => ⟨S9216x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1408, .bf16⟩
  | .local _ .vmem, ⟨7, _⟩ => ⟨S256x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 36, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Gu1RefIdeal.lean ====
abbrev S9216x1024 : Shape := ⟨2, ![9216, 1024]⟩
abbrev S1024x2816 : Shape := ⟨2, ![1024, 2816]⟩
abbrev S9216x2816 : Shape := ⟨2, ![9216, 2816]⟩
abbrev S_ : Shape := ⟨0, ![]⟩
abbrev S9216x1408 : Shape := ⟨2, ![9216, 1408]⟩
abbrev S9216x5632 : Shape := ⟨2, ![9216, 5632]⟩

abbrev nBuf : Space → Nat
  | .hbm => 37
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .bf16⟩
  | .hbm, ⟨2, _⟩ => ⟨S1024x2816, .bf16⟩
  | .hbm, ⟨3, _⟩ => ⟨S9216x1024, .f32⟩
  | .hbm, ⟨4, _⟩ => ⟨S1024x2816, .f32⟩
  | .hbm, ⟨5, _⟩ => ⟨S9216x2816, .f32⟩
  | .hbm, ⟨6, _⟩ => ⟨S9216x1024, .f32⟩
  | .hbm, ⟨7, _⟩ => ⟨S1024x2816, .f32⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S_, .f32⟩
  | .hbm, ⟨15, _⟩ => ⟨S9216x2816, .f32⟩
  | .hbm, ⟨16, _⟩ => ⟨S9216x2816, .f32⟩
  | .hbm, ⟨17, _⟩ => ⟨S_, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S_, .f32⟩
  | .hbm, ⟨23, _⟩ => ⟨S9216x2816, .f32⟩
  | .hbm, ⟨24, _⟩ => ⟨S9216x2816, .f32⟩
  | .hbm, ⟨25, _⟩ => ⟨S9216x2816, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x1408, .f32⟩
  | .hbm, ⟨30, _⟩ => ⟨S9216x1408, .f32⟩
  | .hbm, ⟨31, _⟩ => ⟨S9216x1408, .f32⟩
  | .hbm, ⟨32, _⟩ => ⟨S9216x1408, .f32⟩
  | .hbm, ⟨33, _⟩ => ⟨S9216x5632, .f32⟩
  | .hbm, ⟨34, _⟩ => ⟨S9216x5632, .bf16⟩
  | .hbm, ⟨35, _⟩ => ⟨S9216x2816, .f32⟩
  | .hbm, ⟨36, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_cst : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S5x9x1024 : Shape := ⟨3, ![5, 9, 1024]⟩
abbrev S512x2816 : Shape := ⟨2, ![512, 2816]⟩
abbrev S512x1024 : Shape := ⟨2, ![512, 1024]⟩
abbrev S1x9x1024 : Shape := ⟨3, ![1, 9, 1024]⟩
abbrev S9x1024 : Shape := ⟨2, ![9, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S5x9x1024, .f32⟩
  | .hbm, ⟨4, _⟩ => ⟨S8192x1024, .f32⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c8192_i32 : BitVec 32 := 8192#32
  let v1 : BitVec 1 := Scalar.cmpi .slt v0 c8192_i32
  let c512_i32_0 : BitVec 32 := 512#32
  let v2 : BitVec 32 := Scalar.muli arg1 c512_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S5x9x1024 : Shape := ⟨3, ![5, 9, 1024]⟩
abbrev S4x2048x1024 : Shape := ⟨3, ![4, 2048, 1024]⟩
abbrev S4x1x1024 : Shape := ⟨3, ![4, 1, 1024]⟩
abbrev S4x1024 : Shape := ⟨2, ![4, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S5x9x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S4x2048x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Wout.lean ====
abbrev S8192x2048 : Shape := ⟨2, ![8192, 2048]⟩
abbrev S2048x1024 : Shape := ⟨2, ![2048, 1024]⟩
abbrev S8192x1024 : Shape := ⟨2, ![8192, 1024]⟩
abbrev S5x9x1024 : Shape := ⟨3, ![5, 9, 1024]⟩
abbrev S1x1024 : Shape := ⟨2, ![1, 1024]⟩
abbrev S1x1x1024 : Shape := ⟨3, ![1, 1, 1024]⟩
abbrev S512x2048 : Shape := ⟨2, ![512, 2048]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S5x9x1024, .f32⟩
  | .hbm, ⟨4, _⟩ => ⟨S1x1024, .f32⟩
  | .hbm, ⟨5, _⟩ => ⟨S1x1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c8192_i32 : BitVec 32 := 8192#32
  let v1 : BitVec 1 := Scalar.cmpi .slt v0 c8192_i32
  let c512_i32_0 : BitVec 32 := 512#32
  let v2 : BitVec 32 := Scalar.muli arg1 c512_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== WoutRefIdeal.lean ====
abbrev S8192x2048 : Shape := ⟨2, ![8192, 2048]⟩
abbrev S2048x1024 : Shape := ⟨2, ![2048, 1024]⟩
abbrev S8192x1024 : Shape := ⟨2, ![8192, 1024]⟩
abbrev S5x9x1024 : Shape := ⟨3, ![5, 9, 1024]⟩
abbrev S1x1024 : Shape := ⟨2, ![1, 1024]⟩
abbrev S4x2048x1024 : Shape := ⟨3, ![4, 2048, 1024]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S5x9x1024, .f32⟩
  | .hbm, ⟨4, _⟩ => ⟨S1x1024, .f32⟩
  | .hbm, ⟨5, _⟩ => ⟨S8192x2048, .f32⟩
  | .hbm, ⟨6, _⟩ => ⟨S2048x1024, .f32⟩
  | .hbm, ⟨7, _⟩ => ⟨S8192x1024, .f32⟩
  | .hbm, ⟨8, _⟩ => ⟨S4x2048x1024, .f32⟩
  | .hbm, ⟨9, _⟩ => ⟨S4x1x1024, .f32⟩
  | .hbm, ⟨10, _⟩ => ⟨S4x1024, .f32⟩
  | .hbm, ⟨11, _⟩ => ⟨S4x1x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1024, .f32⟩
  | .hbm, ⟨17, _⟩ => ⟨S4x2048x1024, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x2048x1024, .f32⟩
  | .hbm, ⟨40, _⟩ => ⟨S4x2048x1024, .f32⟩
  | .hbm, ⟨41, _⟩ => ⟨S4x1x1024, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S4x2048x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Down1.lean ====
abbrev S9216x2816 : Shape := ⟨2, ![9216, 2816]⟩
abbrev S2816x1024 : Shape := ⟨2, ![2816, 1024]⟩
abbrev S9216x1024 : Shape := ⟨2, ![9216, 1024]⟩
abbrev S5x9x1024 : Shape := ⟨3, ![5, 9, 1024]⟩
abbrev S1x1024 : Shape := ⟨2, ![1, 1024]⟩
abbrev S1x1x1024 : Shape := ⟨3, ![1, 1, 1024]⟩
abbrev S512x2816 : Shape := ⟨2, ![512, 2816]⟩
abbrev S512x1024 : Shape := ⟨2, ![512, 1024]⟩
abbrev S1x9x1024 : Shape := ⟨3, ![1, 9, 1024]⟩
abbrev S9x1024 : Shape := ⟨2, ![9, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x9x1024, .f32⟩
  | .hbm, ⟨4, _⟩ => ⟨S1x1024, .f32⟩
  | .hbm, ⟨5, _⟩ => ⟨S1x1x1024, .f32⟩
  | .hbm, ⟨6, _⟩ => ⟨S9216x1024, .f32⟩
  | .hbm, ⟨7, _⟩ => ⟨S9216x1024, .f32⟩
  | .hbm, ⟨8, _⟩ => ⟨S9216x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![1, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c8192_i32 : BitVec 32 := 8192#32
  let v1 : BitVec 1 := Scalar.cmpi .slt v0 c8192_i32
  let c512_i32_0 : BitVec 32 := 512#32
  let v2 : BitVec 32 := Scalar.muli arg1 c512_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Down1RefIdeal.lean ====
abbrev S9216x2816 : Shape := ⟨2, ![9216, 2816]⟩
abbrev S2816x1024 : Shape := ⟨2, ![2816, 1024]⟩
abbrev S9216x1024 : Shape := ⟨2, ![9216, 1024]⟩
abbrev S5x9x1024 : Shape := ⟨3, ![5, 9, 1024]⟩
abbrev S1x1024 : Shape := ⟨2, ![1, 1024]⟩
abbrev S4x9x1024 : Shape := ⟨3, ![4, 9, 1024]⟩
abbrev S4x1x9x1024 : Shape := ⟨4, ![4, 1, 9, 1024]⟩
abbrev S4x2048x9x1024 : Shape := ⟨4, ![4, 2048, 9, 1024]⟩
abbrev S8192x9x1024 : Shape := ⟨3, ![8192, 9, 1024]⟩
abbrev S1x9x1024 : Shape := ⟨3, ![1, 9, 1024]⟩
abbrev S1024x9x1024 : Shape := ⟨3, ![1024, 9, 1024]⟩
abbrev S9216x9x1024 : Shape := ⟨3, ![9216, 9, 1024]⟩
abbrev S9216x1x1024 : Shape := ⟨3, ![9216, 1, 1024]⟩
abbrev S_ : Shape := ⟨0, ![]⟩
abbrev S1024 : Shape := ⟨1, ![1024]⟩
abbrev S9216 : Shape := ⟨1, ![9216]⟩
abbrev S9216x1 : Shape := ⟨2, ![9216, 1]⟩

abbrev nBuf : Space → Nat
  | .hbm => 49
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x9x1024, .f32⟩
  | .hbm, ⟨4, _⟩ => ⟨S1x1024, .f32⟩
  | .hbm, ⟨5, _⟩ => ⟨S9216x2816, .f32⟩
  | .hbm, ⟨6, _⟩ => ⟨S2816x1024, .f32⟩
  | .hbm, ⟨7, _⟩ => ⟨S9216x1024, .f32⟩
  | .hbm, ⟨8, _⟩ => ⟨S4x9x1024, .f32⟩
  | .hbm, ⟨9, _⟩ => ⟨S4x1x9x1024, .f32⟩
  | .hbm, ⟨10, _⟩ => ⟨S4x2048x9x1024, .f32⟩
  | .hbm, ⟨11, _⟩ => ⟨S8192x9x1024, .f32⟩
  | .hbm, ⟨12, _⟩ => ⟨S1x9x1024, .f32⟩
  | .hbm, ⟨13, _⟩ => ⟨S1024x9x1024, .f32⟩
  | .hbm, ⟨14, _⟩ => ⟨S9216x9x1024, .f32⟩
  | .hbm, ⟨15, _⟩ => ⟨S9216x1x1024, .f32⟩
  | .hbm, ⟨16, _⟩ => ⟨S9216x1024, .f32⟩
  | .hbm, ⟨17, _⟩ => ⟨S_, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S1024, .f32⟩
  | .hbm, ⟨23, _⟩ => ⟨S9216x1024, .f32⟩
  | .hbm, ⟨24, _⟩ => ⟨S_, .f32⟩
  | .hbm, ⟨25, _⟩ => ⟨S9216, .f32⟩
  | .hbm, ⟨26, _⟩ => ⟨S9216x1, .f32⟩
  | .hbm, ⟨27, _⟩ => ⟨S_, .f32⟩
  | .hbm, ⟨28, _⟩ => ⟨S9216x1, .f32⟩
  | .hbm, ⟨29, _⟩ => ⟨S9216x1, .f32⟩
  | .hbm, ⟨30, _⟩ => ⟨S_, .f32⟩
  | .hbm, ⟨31, _⟩ => ⟨S9216x1, .f32⟩
  | .hbm, ⟨32, _⟩ => ⟨S9216x1, .f32⟩
  | .hbm, ⟨33, _⟩ => ⟨S9216x1, .f32⟩
  | .hbm, ⟨34, _⟩ => ⟨S9216x1024, .f32⟩
  | .hbm, ⟨35, _⟩ => ⟨S9216x1024, .f32⟩
  | .hbm, ⟨36, _⟩ => ⟨S1x1024, .f32⟩
  | .hbm, ⟨37, _⟩ => ⟨S9216x1024, .f32⟩
  | .hbm, ⟨38, _⟩ => ⟨S9216x1024, .f32⟩
  | .hbm, ⟨39, _⟩ => ⟨S9216x1x1024, .f32⟩
  | .hbm, ⟨40, _⟩ => ⟨S9216x1024, .f32⟩
  | .hbm, ⟨41, _⟩ => ⟨S_, .f32⟩
  | .hbm, ⟨42, _⟩ => ⟨S9216x1024, .f32⟩
  | .hbm, ⟨43, _⟩ => ⟨S9216x1024, .f32⟩
  | .hbm, ⟨44, _⟩ => ⟨S9216x1024, .f32⟩
  | .hbm, ⟨45, _⟩ => ⟨S9216x1x1024, .f32⟩
  | .hbm, ⟨46, _⟩ => ⟨S9216x1024, .f32⟩
  | .hbm, ⟨47, _⟩ => ⟨S9216x1024, .f32⟩
  | .hbm, ⟨48, _⟩ => ⟨S9216x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Ssd.lean ====
abbrev S9216x1536 : Shape := ⟨2, ![9216, 1536]⟩
abbrev S9216x128 : Shape := ⟨2, ![9216, 128]⟩
abbrev S1x128 : Shape := ⟨2, ![1, 128]⟩
abbrev S128x9216 : Shape := ⟨2, ![128, 9216]⟩
abbrev S128x1 : Shape := ⟨2, ![128, 1]⟩
abbrev S9216x1024 : Shape := ⟨2, ![9216, 1024]⟩
abbrev S73728x128 : Shape := ⟨2, ![73728, 128]⟩
abbrev S128x1536 : Shape := ⟨2, ![128, 1536]⟩
abbrev S128x128 : Shape := ⟨2, ![128, 128]⟩
abbrev S128x1024 : Shape := ⟨2, ![128, 1024]⟩
abbrev S1024x128 : Shape := ⟨2, ![1024, 128]⟩
abbrev S512x128 : Shape := ⟨2, ![512, 128]⟩
abbrev S128 : Shape := ⟨1, ![128]⟩
abbrev S1 : Shape := ⟨1, ![1]⟩
abbrev S1x1 : Shape := ⟨2, ![1, 1]⟩
abbrev S256x128 : Shape := ⟨2, ![256, 128]⟩
abbrev S128x512 : Shape := ⟨2, ![128, 512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S9216x1536, .f32⟩
  | .hbm, ⟨1, _⟩ => ⟨S9216x128, .f32⟩
  | .hbm, ⟨2, _⟩ => ⟨S1x128, .f32⟩
  | .hbm, ⟨3, _⟩ => ⟨S128x9216, .f32⟩
  | .hbm, ⟨4, _⟩ => ⟨S128x1, .f32⟩
  | .hbm, ⟨5, _⟩ => ⟨S9216x1024, .f32⟩
  | .hbm, ⟨6, _⟩ => ⟨S73728x128, .f32⟩
  | .local _ .vmem, ⟨0, _⟩ => ⟨S128x1536, .f32⟩
  | .local _ .vmem, ⟨1, _⟩ => ⟨S128x1536, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x1, .f32⟩
  | .local _ .vmem, ⟨8, _⟩ => ⟨S128x1024, .f32⟩
  | .local _ .vmem, ⟨9, _⟩ => ⟨S128x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S9216x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 1 := Scalar.cmpi .slt arg1 c2_i32_0
  let c2_i32_1 : BitVec 32 := 2#32
  let v2 : BitVec 32 := Scalar.muli arg0 c2_i32_1
  let c64_i32 : BitVec 32 := 64#32
  let v3 : BitVec 32 := Scalar.addi c64_i32 v2
  let v4 : BitVec 32 := Scalar.addi v3 arg1
  let c16_i32 : BitVec 32 := 16#32
  let v5 : BitVec 32 := Scalar.muli arg0 c16_i32
  let v6 : BitVec 32 := Scalar.addi v5 v0
  let v7 : BitVec 32 := Scalar.select v1 v4 v6
  let c0_i32 : BitVec 32 := 0#32
  let c0_i32_2 : BitVec 32 := 0#32
  ![v7.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 1 := Scalar.cmpi .slt arg1 c2_i32_0
  let c2_i32_1 : BitVec 32 := 2#32
  let v2 : BitVec 32 := Scalar.muli arg0 c2_i32_1
  let c64_i32 : BitVec 32 := 64#32
  let v3 : BitVec 32 := Scalar.addi c64_i32 v2
  let v4 : BitVec 32 := Scalar.addi v3 arg1
  let c16_i32 : BitVec 32 := 16#32
  let v5 : BitVec 32 := Scalar.muli arg0 c16_i32
  let v6 : BitVec 32 := Scalar.addi v5 v0
  let v7 : BitVec 32 := Scalar.select v1 v4 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 1 := Scalar.cmpi .slt arg1 c2_i32_0
  let c2_i32_1 : BitVec 32 := 2#32
  let v2 : BitVec 32 := Scalar.muli arg0 c2_i32_1
  let c64_i32 : BitVec 32 := 64#32
  let v3 : BitVec 32 := Scalar.addi c64_i32 v2
  let v4 : BitVec 32 := Scalar.addi v3 arg1
  let c16_i32 : BitVec 32 := 16#32
  let v5 : BitVec 32 := Scalar.muli arg0 c16_i32
  let v6 : BitVec 32 := Scalar.addi v5 v0
  let v7 : BitVec 32 := Scalar.select v1 v4 v6
  let c0_i32 : BitVec 32 := 0#32
  let c0_i32_2 : BitVec 32 := 0#32
  ![c0_i32.toNat, v7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 1 := Scalar.cmpi .slt arg1 c2_i32_0
  let c2_i32_1 : BitVec 32 := 2#32
  let v2 : BitVec 32 := Scalar.muli arg0 c2_i32_1
  let c64_i32 : BitVec 32 := 64#32
  let v3 : BitVec 32 := Scalar.addi c64_i32 v2
  let v4 : BitVec 32 := Scalar.addi v3 arg1
  let c16_i32 : BitVec 32 := 16#32
  let v5 : BitVec 32 := Scalar.muli arg0 c16_i32
  let v6 : BitVec 32 := Scalar.addi v5 v0
  let v7 : BitVec 32 := Scalar.select v1 v4 v6
  let c0_i32 : BitVec 32 := 0#32
  let c0_i32_2 : BitVec 32 := 0#32
  ![v7.toNat, c0_i32.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SsdIdeal.lean ====
variable {F : FTy → Type} [FloatOps F] [Named F]
def κ : String → Option EReal := fun
  | "mask" => some ⊥
  | _ => none
-- ==== SsdRefIdeal.lean ====
abbrev S9216x1536 : Shape := ⟨2, ![9216, 1536]⟩
abbrev S9216x128 : Shape := ⟨2, ![9216, 128]⟩
abbrev S1x128 : Shape := ⟨2, ![1, 128]⟩
abbrev S1024x1536 : Shape := ⟨2, ![1024, 1536]⟩
abbrev S4x256x1536 : Shape := ⟨3, ![4, 256, 1536]⟩
abbrev S8192x1536 : Shape := ⟨2, ![8192, 1536]⟩
abbrev S4x2048x1536 : Shape := ⟨3, ![4, 2048, 1536]⟩
abbrev S4x2304x1536 : Shape := ⟨3, ![4, 2304, 1536]⟩
abbrev S4x2304x1024 : Shape := ⟨3, ![4, 2304, 1024]⟩
abbrev S4x2304x16x64 : Shape := ⟨4, ![4, 2304, 16, 64]⟩
abbrev S4x2304x256 : Shape := ⟨3, ![4, 2304, 256]⟩
abbrev S1024x128 : Shape := ⟨2, ![1024, 128]⟩
abbrev S4x256x128 : Shape := ⟨3, ![4, 256, 128]⟩
abbrev S8192x128 : Shape := ⟨2, ![8192, 128]⟩
abbrev S4x2048x128 : Shape := ⟨3, ![4, 2048, 128]⟩
abbrev S4x2304x128 : Shape := ⟨3, ![4, 2304, 128]⟩
abbrev S4x2304x16 : Shape := ⟨3, ![4, 2304, 16]⟩
abbrev S1x16 : Shape := ⟨2, ![1, 16]⟩
abbrev S16 : Shape := ⟨1, ![16]⟩
abbrev S_ : Shape := ⟨0, ![]⟩
abbrev S1x4x2x8x64x128 : Shape := ⟨6, ![1, 4, 2, 8, 64, 128]⟩
abbrev S4x2304x16x1 : Shape := ⟨4, ![4, 2304, 16, 1]⟩
abbrev S4x18x128x2x8x64 : Shape := ⟨6, ![4, 18, 128, 2, 8, 64]⟩
abbrev S1x1x16 : Shape := ⟨3, ![1, 1, 16]⟩
abbrev S4x18x128x2x8 : Shape := ⟨5, ![4, 18, 128, 2, 8]⟩
abbrev S4x18x128x2x128 : Shape := ⟨5, ![4, 18, 128, 2, 128]⟩
abbrev S4x18x128x1x2x8 : Shape := ⟨6, ![4, 18, 128, 1, 2, 8]⟩
abbrev S4x18x1x128x2x8 : Shape := ⟨6, ![4, 18, 1, 128, 2, 8]⟩
abbrev S4x18x128x128x2x8 : Shape := ⟨6, ![4, 18, 128, 128, 2, 8]⟩
abbrev S128x128 : Shape := ⟨2, ![128, 128]⟩
abbrev S1x1x128x128x1x1 : Shape := ⟨6, ![1, 1, 128, 128, 1, 1]⟩
abbrev S4x18x2x128x128 : Shape := ⟨5, ![4, 18, 2, 128, 128]⟩
abbrev S4x18x128x128x2 : Shape := ⟨5, ![4, 18, 128, 128, 2]⟩
abbrev S4x18x128x128x2x1 : Shape := ⟨6, ![4, 18, 128, 128, 2, 1]⟩
abbrev S4x18x2x8x64x128 : Shape := ⟨6, ![4, 18, 2, 8, 64, 128]⟩
abbrev S4x18x1x2x8 : Shape := ⟨5, ![4, 18, 1, 2, 8]⟩
abbrev S4x18x128x2x8x1 : Shape := ⟨6, ![4, 18, 128, 2, 8, 1]⟩
abbrev S4x18x2x8 : Shape := ⟨4, ![4, 18, 2, 8]⟩
abbrev S18x4x2x8x64x128 : Shape := ⟨6, ![18, 4, 2, 8, 64, 128]⟩
abbrev S18x4x2x8 : Shape := ⟨4, ![18, 4, 2, 8]⟩
abbrev S18x4x2x8x1x1 : Shape := ⟨6, ![18, 4, 2, 8, 1, 1]⟩
abbrev S16x4x2x8x64x128 : Shape := ⟨6, ![16, 4, 2, 8, 64, 128]⟩
abbrev S2x4x2x8x64x128 : Shape := ⟨6, ![2, 4, 2, 8, 64, 128]⟩
abbrev S4x2048x1024 : Shape := ⟨3, ![4, 2048, 1024]⟩
abbrev S8192x1024 : Shape := ⟨2, ![8192, 1024]⟩
abbrev S4x256x1024 : Shape := ⟨3, ![4, 256, 1024]⟩
abbrev S1024x1024 : Shape := ⟨2, ![1024, 1024]⟩
abbrev S9216x1024 : Shape := ⟨2, ![9216, 1024]⟩
abbrev S73728x128 : Shape := ⟨2, ![73728, 128]⟩

abbrev nBuf : Space → Nat
  | .hbm => 166
  | .vmem => 0
  | .smem => 0
  | _ => 0

abbrev hbmTy0_0 (i : Nat) : BufTy := match i % 128 with
  | 0 => ⟨S9216x1536, .f32⟩
  | 1 => ⟨S9216x128, .f32⟩
  | 2 => ⟨S1x128, .f32⟩
  | 3 => ⟨S1024x1536, .f32⟩
  | 4 => ⟨S4x256x1536, .f32⟩
  | 5 => ⟨S8192x1536, .f32⟩
  | 6 => ⟨S4x2048x1536, .f32⟩
  | 7 => ⟨S4x2304x1536, .f32⟩
  | 8 => ⟨S4x2304x1024, .f32⟩
  | 9 => ⟨S4x2304x16x64, .f32⟩
  | 10 => ⟨S4x2304x256, .f32⟩
  | 11 => ⟨S4x2304x256, .f32⟩
  | 12 => ⟨S1024x128, .f32⟩
  | 13 => ⟨S4x256x128, .f32⟩
  | 14 => ⟨S8192x128, .f32⟩
  | 15 => ⟨S4x2048x128, .f32⟩
  | 16 => ⟨S4x2304x128, .f32⟩
  | 17 => ⟨S4x2304x16, .f32⟩
  | 18 => ⟨S1x16, .f32⟩
  | 19 => ⟨S16, .f32⟩
  | 20 => ⟨S_, .f32⟩
  | 21 => ⟨S1x4x2x8x64x128, .f32⟩
  | 22 => ⟨S4x2304x16x1, .f32⟩
  | 23 => ⟨S4x2304x16x64, .f32⟩
  | 24 => ⟨S4x2304x16x64, .f32⟩
  | 25 => ⟨S4x18x128x2x8x64, .f32⟩
  | 26 => ⟨S1x1x16, .f32⟩
  | 27 => ⟨S4x2304x16, .f32⟩
  | 28 => ⟨S4x2304x16, .f32⟩
  | 29 => ⟨S4x18x128x2x8, .f32⟩
  | 30 => ⟨S_, .f32⟩
  | 31 => ⟨S_, .f32⟩
  | 32 => ⟨S4x18x128x2x8, .f32⟩
  | 33 => ⟨S4x18x128x2x128, .f32⟩
  | 34 => ⟨S4x18x128x2x128, .f32⟩
  | 35 => ⟨S4x18x128x1x2x8, .f32⟩
  | 36 => ⟨S4x18x1x128x2x8, .f32⟩
  | 37 => ⟨S4x18x128x128x2x8, .f32⟩
  | 38 => ⟨S4x18x128x128x2x8, .f32⟩
  | 39 => ⟨S4x18x128x128x2x8, .f32⟩
  | 40 => ⟨S_, .i1⟩
  | 41 => ⟨S128x128, .i1⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .i1⟩
  | 49 => ⟨S128x128, .i1⟩
  | 50 => ⟨S128x128, .i1⟩
  | 51 => ⟨S1x1x128x128x1x1, .i1⟩
  | 52 => ⟨S_, .f32⟩
  | 53 => ⟨S_, .f32⟩
  | 54 => ⟨S4x18x128x128x2x8, .i1⟩
  | 55 => ⟨S4x18x128x128x2x8, .f32⟩
  | 56 => ⟨S4x18x128x128x2x8, .f32⟩
  | 57 => ⟨S4x18x128x128x2x8, .f32⟩
  | 58 => ⟨S4x18x2x128x128, .f32⟩
  | 59 => ⟨S4x18x128x128x2, .f32⟩
  | 60 => ⟨S4x18x128x128x2x1, .f32⟩
  | 61 => ⟨S4x18x128x128x2x8, .f32⟩
  | 62 => ⟨S4x18x128x128x2x8, .f32⟩
  | 63 => ⟨S4x18x2x8x64x128, .f32⟩
  | 64 => ⟨S4x18x128x2x8x64, .f32⟩
  | 65 => ⟨S4x18x1x2x8, .f32⟩
  | 66 => ⟨S4x18x128x2x8, .f32⟩
  | 67 => ⟨S4x18x128x2x8, .f32⟩
  | 68 => ⟨S4x18x128x2x8, .f32⟩
  | 69 => ⟨S4x18x128x2x8x1, .f32⟩
  | 70 => ⟨S4x18x128x2x8x64, .f32⟩
  | 71 => ⟨S4x18x128x2x8x64, .f32⟩
  | 72 => ⟨S4x18x2x8x64x128, .f32⟩
  | 73 => ⟨S4x18x1x2x8, .f32⟩
  | 74 => ⟨S4x18x2x8, .f32⟩
  | 75 => ⟨S4x18x2x8, .f32⟩
  | 76 => ⟨S18x4x2x8x64x128, .f32⟩
  | 77 => ⟨S18x4x2x8, .f32⟩
  | 78 => ⟨S18x4x2x8x1x1, .f32⟩
  | 79 => ⟨S18x4x2x8x64x128, .f32⟩
  | 80 => ⟨S1x4x2x8x64x128, .f32⟩
  | 81 => ⟨S1x4x2x8x64x128, .f32⟩
  | 82 => ⟨S1x4x2x8x64x128, .f32⟩
  | 83 => ⟨S1x4x2x8x64x128, .f32⟩
  | 84 => ⟨S1x4x2x8x64x128, .f32⟩
  | 85 => ⟨S1x4x2x8x64x128, .f32⟩
  | 86 => ⟨S1x4x2x8x64x128, .f32⟩
  | 87 => ⟨S1x4x2x8x64x128, .f32⟩
  | 88 => ⟨S1x4x2x8x64x128, .f32⟩
  | 89 => ⟨S1x4x2x8x64x128, .f32⟩
  | 90 => ⟨S1x4x2x8x64x128, .f32⟩
  | 91 => ⟨S1x4x2x8x64x128, .f32⟩
  | 92 => ⟨S1x4x2x8x64x128, .f32⟩
  | 93 => ⟨S1x4x2x8x64x128, .f32⟩
  | 94 => ⟨S1x4x2x8x64x128, .f32⟩
  | 95 => ⟨S1x4x2x8x64x128, .f32⟩
  | 96 => ⟨S1x4x2x8x64x128, .f32⟩
  | 97 => ⟨S1x4x2x8x64x128, .f32⟩
  | 98 => ⟨S1x4x2x8x64x128, .f32⟩
  | 99 => ⟨S1x4x2x8x64x128, .f32⟩
  | 100 => ⟨S1x4x2x8x64x128, .f32⟩
  | 101 => ⟨S1x4x2x8x64x128, .f32⟩
  | 102 => ⟨S1x4x2x8x64x128, .f32⟩
  | 103 => ⟨S1x4x2x8x64x128, .f32⟩
  | 104 => ⟨S1x4x2x8x64x128, .f32⟩
  | 105 => ⟨S1x4x2x8x64x128, .f32⟩
  | 106 => ⟨S1x4x2x8x64x128, .f32⟩
  | 107 => ⟨S1x4x2x8x64x128, .f32⟩
  | 108 => ⟨S1x4x2x8x64x128, .f32⟩
  | 109 => ⟨S1x4x2x8x64x128, .f32⟩
  | 110 => ⟨S1x4x2x8x64x128, .f32⟩
  | 111 => ⟨S1x4x2x8x64x128, .f32⟩
  | 112 => ⟨S1x4x2x8x64x128, .f32⟩
  | 113 => ⟨S1x4x2x8x64x128, .f32⟩
  | 114 => ⟨S1x4x2x8x64x128, .f32⟩
  | 115 => ⟨S1x4x2x8x64x128, .f32⟩
  | 116 => ⟨S1x4x2x8x64x128, .f32⟩
  | 117 => ⟨S1x4x2x8x64x128, .f32⟩
  | 118 => ⟨S1x4x2x8x64x128, .f32⟩
  | 119 => ⟨S1x4x2x8x64x128, .f32⟩
  | 120 => ⟨S1x4x2x8x64x128, .f32⟩
  | 121 => ⟨S1x4x2x8x64x128, .f32⟩
  | 122 => ⟨S1x4x2x8x64x128, .f32⟩
  | 123 => ⟨S1x4x2x8x64x128, .f32⟩
  | 124 => ⟨S1x4x2x8x64x128, .f32⟩
  | 125 => ⟨S1x4x2x8x64x128, .f32⟩
  | 126 => ⟨S1x4x2x8x64x128, .f32⟩
  | 127 => ⟨S1x4x2x8x64x128, .f32⟩
  | _ => ⟨S9216x1536, .f32⟩

abbrev hbmTy0_1 (i : Nat) : BufTy := match i % 128 with
  | 0 => ⟨S1x4x2x8x64x128, .f32⟩
  | 1 => ⟨S1x4x2x8x64x128, .f32⟩
  | 2 => ⟨S1x4x2x8x64x128, .f32⟩
  | 3 => ⟨S1x4x2x8x64x128, .f32⟩
  | 4 => ⟨S1x4x2x8x64x128, .f32⟩
  | 5 => ⟨S1x4x2x8x64x128, .f32⟩
  | 6 => ⟨S1x4x2x8x64x128, .f32⟩
  | 7 => ⟨S1x4x2x8x64x128, .f32⟩
  | 8 => ⟨S1x4x2x8x64x128, .f32⟩
  | 9 => ⟨S1x4x2x8x64x128, .f32⟩
  | 10 => ⟨S1x4x2x8x64x128, .f32⟩
  | 11 => ⟨S1x4x2x8x64x128, .f32⟩
  | 12 => ⟨S1x4x2x8x64x128, .f32⟩
  | 13 => ⟨S1x4x2x8x64x128, .f32⟩
  | 14 => ⟨S1x4x2x8x64x128, .f32⟩
  | 15 => ⟨S1x4x2x8x64x128, .f32⟩
  | 16 => ⟨S1x4x2x8x64x128, .f32⟩
  | 17 => ⟨S1x4x2x8x64x128, .f32⟩
  | 18 => ⟨S1x4x2x8x64x128, .f32⟩
  | 19 => ⟨S1x4x2x8x64x128, .f32⟩
  | 20 => ⟨S16x4x2x8x64x128, .f32⟩
  | 21 => ⟨S2x4x2x8x64x128, .f32⟩
  | 22 => ⟨S18x4x2x8x64x128, .f32⟩
  | 23 => ⟨S4x18x2x8x64x128, .f32⟩
  | 24 => ⟨S4x18x128x2x8x64, .f32⟩
  | 25 => ⟨S4x18x128x2x8, .f32⟩
  | 26 => ⟨S4x18x128x2x8x1, .f32⟩
  | 27 => ⟨S4x18x128x2x8x64, .f32⟩
  | 28 => ⟨S4x18x128x2x8x64, .f32⟩
  | 29 => ⟨S4x18x128x2x8x64, .f32⟩
  | 30 => ⟨S4x2304x1024, .f32⟩
  | 31 => ⟨S4x2048x1024, .f32⟩
  | 32 => ⟨S8192x1024, .f32⟩
  | 33 => ⟨S4x256x1024, .f32⟩
  | 34 => ⟨S1024x1024, .f32⟩
  | 35 => ⟨S9216x1024, .f32⟩
  | 36 => ⟨S4x18x2x8x64x128, .f32⟩
  | 37 => ⟨S73728x128, .f32⟩
  | _ => ⟨S9216x1536, .f32⟩

abbrev hbmTy (i : Nat) : BufTy := match i / 128 with
  | 0 => hbmTy0_0 i
  | 1 => hbmTy0_1 i
  | _ => ⟨S9216x1536, .f32⟩

abbrev bufTy : (tb : Table) → Fin (tcTables nBuf tb) → BufTy
  | .hbm, ⟨i, _⟩ => hbmTy i
  | _, _ => ⟨S9216x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_call0_cst : Ref sig .tc := ⟨.hbm, 30, rfl⟩
abbrev main_call0_call0_v0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩

abbrev nD : Nat := 1
abbrev τ : Topo := Topo.v7x

variable {F : FTy → Type} [FloatOps F]
-- ==== Proof.AxialTap.lean ====
module

public import proofs.«01_k».proof.Proof.Gen.AxialIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AxialIdeal.Value

open Cert.AxialIdeal Cert.AxialIdeal.Gen

/-- A block read `o` rows on, with nothing before its first row and after its last. -/
def padRow (X : FVec Ideal S2048x256 .f32) (o : ℕ) (r : Fin 2048) (l : Fin 256) : EReal :=
  if h : 960 ≤ o + r ∧ o + r < 3008 then X (ix2 ⟨o + r - 960, by omega⟩ l) else 0

theorem ext_read {sg : RefSig} {κ : Kind} {sp : Space} (v : View sg κ sp S3968x256 .f32)
    (Z Z' : FVec Ideal S960x256 .f32) (X : FVec Ideal S2048x256 .f32) (hZ : ∀ y, Z y = 0) (hZ' : ∀ y, Z' y = 0)
    (o : ℕ) (i0 i1 i2 io) (r : Fin 2048) (l : Fin 256) :
    v.readCov (Val := Elt Ideal) [⟨Rect.unit (s := S3968x256) ![3008, 0] ![960, 256] i2, Z'⟩, ⟨Rect.unit (s := S3968x256) ![960, 0] ![2048, 256] i1, X⟩,
      ⟨Rect.unit (s := S3968x256) ![0, 0] ![960, 256] i0, Z⟩] (Rect.unit (s := S3968x256) ![o, 0] ![2048, 256] io).toLoadRect (ix2 r l) = padRow X o r l := by
  rw [View.readCov_eq_canon']
  have ho : o ≤ 1920 := by have := io 0; simpa using this
  have key : ∀ y : S3968x256.Idx, (y 0).val = o + r.val → (y 1).val = l.val → View.canon (Val := Elt Ideal) [⟨Rect.unit (s := S3968x256) ![3008, 0] ![960, 256] i2, Z'⟩, ⟨Rect.unit (s := S3968x256) ![960, 0] ![2048, 256] i1, X⟩,
      (⟨Rect.unit (s := S3968x256) ![0, 0] ![960, 256] i0, Z⟩ : View.Piece (Elt Ideal) S3968x256 .f32)] y = padRow X o r l := fun y h0 h1 => by
    unfold padRow
    by_cases c2 : 3008 ≤ o + r.val
    · have e : y = (Rect.unit (s := S3968x256) ![3008, 0] ![960, 256] i2).emb (ix2 (⟨o + r.val - 3008, by omega⟩ : Fin 960) l) := by
        funext a; apply Fin.ext; fin_cases a
        · show (y 0).val = 3008 + 1 * (o + r.val - 3008); omega
        · show (y 1).val = 0 + 1 * l.val; omega
      rw [e, View.canon_cons_emb, hZ', dif_neg (by omega)]
    rw [View.canon_cons_of_not_mem _ _ (fun hy => by rw [Rect.mem_set_unit] at hy; have := hy 0; simp at this; omega)]
    by_cases c1 : 960 ≤ o + r.val
    · have e : y = (Rect.unit (s := S3968x256) ![960, 0] ![2048, 256] i1).emb (ix2 (⟨o + r.val - 960, by omega⟩ : Fin 2048) l) := by
        funext a; apply Fin.ext; fin_cases a
        · show (y 0).val = 960 + 1 * (o + r.val - 960); omega
        · show (y 1).val = 0 + 1 * l.val; omega
      rw [e, View.canon_cons_emb, dif_pos ⟨c1, by omega⟩]
    rw [View.canon_cons_of_not_mem _ _ (fun hy => by rw [Rect.mem_set_unit] at hy; have := hy 0; simp at this; omega)]
    have e : y = (Rect.unit (s := S3968x256) ![0, 0] ![960, 256] i0).emb (ix2 (⟨o + r.val, by omega⟩ : Fin 960) l) := by
      funext a; apply Fin.ext; fin_cases a
      · show (y 0).val = 0 + 1 * (o + r.val); omega
      · show (y 1).val = 0 + 1 * l.val; omega
    rw [e, View.canon_cons_emb, hZ, dif_neg (by omega)]
  refine key _ ?_ ?_
  · show o + 1 * r.val = _; omega
  · show 0 + 1 * l.val = _; omega

theorem width_word : Scalar.select (Scalar.cmpi CmpIPredicate.eq 64#32 0#32) 1#32 64#32 = 64#32 := by decide

/-- The column of row `r`, as the kernel's word arithmetic computes it. -/
theorem col_word (r : Fin 2048) :
    Scalar.select
      (IntOp.andi
        (IntOp.xori
          (IntOp.cmpi CmpIPredicate.slt
            (IntOp.remsi ArithUnit.vector (BitVec.ofNat 32 ↑r) 64#32) 0#32)
          (Scalar.cmpi CmpIPredicate.slt 64#32 0#32))
        (IntOp.cmpi CmpIPredicate.ne
          (IntOp.remsi ArithUnit.vector (BitVec.ofNat 32 ↑r) 64#32) 0#32))
      (IntOp.addi
        (IntOp.remsi ArithUnit.vector (BitVec.ofNat 32 ↑r) 64#32)
        64#32)
      (IntOp.remsi ArithUnit.vector (BitVec.ofNat 32 ↑r) 64#32)
      = BitVec.ofNat 32 (r.val % 64) := by
  revert r; decide +kernel

/-- Whether the column `q`, moved by the word `o`, stays inside the line. -/
def inLine (q : ℕ) (o : BitVec 32) : BitVec 1 :=
  IntOp.andi (IntOp.cmpi CmpIPredicate.sge (IntOp.addi (BitVec.ofNat 32 q) o) 0#32)
    (IntOp.cmpi CmpIPredicate.slt (IntOp.addi (BitVec.ofNat 32 q) o) 64#32)

theorem inLine_back (q : Fin 64) (k : Fin 31) : inLine q (BitVec.ofNat 32 (4294967311 - k.val)) = if k.val ≤ q.val + 15 ∧ q.val + 15 - k.val < 64 then 1#1 else 0#1 := by
  revert q k; decide +kernel

theorem inLine_on (q : Fin 64) (k : Fin 31) : inLine q (BitVec.ofNat 32 (4294967281 + k.val)) = if 15 ≤ q.val + k.val ∧ q.val + k.val - 15 < 64 then 1#1 else 0#1 := by
  revert q k; decide +kernel

theorem head_zero_dy (y) : k0_pay194 (F := Ideal) y = 0 := by rw [eq_ix2 y]; pointwise [k0_pay194]
theorem tail_zero_dy (y) : k0_pay196 (F := Ideal) y = 0 := by rw [eq_ix2 y]; pointwise [k0_pay196]
theorem mid_dy (X) : k0_pay195 (F := Ideal) X = X := by funext y; rw [eq_ix2 y]; pointwise [k0_pay195]

/-- Tap `k` of channel `l`. -/
def tapAt (W : FVec Ideal S31x256 .f32) (l : Fin 256) (k : ℕ) : EReal := if h : k < 31 then W (ix2 ⟨k, h⟩ l) else 0

/-- The sum over the taps along the columns, against the rows of the padded block. -/
def rowTaps (W : FVec Ideal S31x256 .f32) (X : FVec Ideal S2048x256 .f32) (r : Fin 2048) (l : Fin 256) : EReal :=
  ∑ k ∈ Finset.range 31, Scalar.select (inLine (r.val % 64) (BitVec.ofNat 32 (4294967311 - k)))
      (tapAt W l k * padRow X (975 - k) r l) 0

theorem head_zero (y) : k0_pay191 (F := Ideal) y = 0 := by rw [eq_ix2 y]; pointwise [k0_pay191]
theorem tail_zero (y) : k0_pay193 (F := Ideal) y = 0 := by rw [eq_ix2 y]; pointwise [k0_pay193]
theorem mid_u (X) : k0_pay192 (F := Ideal) X = X := by funext y; rw [eq_ix2 y]; pointwise [k0_pay192]

/-- The rows of the block of tap gradients, the taps along the columns. -/
theorem rows_col {a0 a1 a2 a3 a4 a5 a6 a7 a8 a9 a10 a11 a12 a13 a14 a15 a16 a17 a18 a19 a20 a21 a22 a23 a24 a25 a26 a27 a28 a29 : FVec Ideal S1x256 .f32} {a30 : FVec Ideal S2048x256 .f32}
    (f : ℕ → Fin 256 → EReal) (h0 : ∀ l, a0 (ix2 0 l) = f 0 l) (h1 : ∀ l, a1 (ix2 0 l) = f 1 l) (h2 : ∀ l, a2 (ix2 0 l) = f 2 l) (h3 : ∀ l, a3 (ix2 0 l) = f 3 l) (h4 : ∀ l, a4 (ix2 0 l) = f 4 l) (h5 : ∀ l, a5 (ix2 0 l) = f 5 l) (h6 : ∀ l, a6 (ix2 0 l) = f 6 l) (h7 : ∀ l, a7 (ix2 0 l) = f 7 l) (h8 : ∀ l, a8 (ix2 0 l) = f 8 l) (h9 : ∀ l, a9 (ix2 0 l) = f 9 l) (h10 : ∀ l, a10 (ix2 0 l) = f 10 l) (h11 : ∀ l, a11 (ix2 0 l) = f 11 l) (h12 : ∀ l, a12 (ix2 0 l) = f 12 l) (h13 : ∀ l, a13 (ix2 0 l) = f 13 l) (h14 : ∀ l, a14 (ix2 0 l) = f 14 l) (h15 : ∀ l, a15 (ix2 0 l) = f 15 l) (h16 : ∀ l, a16 (ix2 0 l) = f 16 l) (h17 : ∀ l, a17 (ix2 0 l) = f 17 l) (h18 : ∀ l, a18 (ix2 0 l) = f 18 l) (h19 : ∀ l, a19 (ix2 0 l) = f 19 l) (h20 : ∀ l, a20 (ix2 0 l) = f 20 l) (h21 : ∀ l, a21 (ix2 0 l) = f 21 l) (h22 : ∀ l, a22 (ix2 0 l) = f 22 l) (h23 : ∀ l, a23 (ix2 0 l) = f 23 l) (h24 : ∀ l, a24 (ix2 0 l) = f 24 l) (h25 : ∀ l, a25 (ix2 0 l) = f 25 l) (h26 : ∀ l, a26 (ix2 0 l) = f 26 l) (h27 : ∀ l, a27 (ix2 0 l) = f 27 l) (h28 : ∀ l, a28 (ix2 0 l) = f 28 l) (h29 : ∀ l, a29 (ix2 0 l) = f 29 l) (h30 : ∀ l, ∑ x : Fin 2048, a30 (ix2 x l) = f 30 l) (k : Fin 31) (l : Fin 256) : k0_pay198 a0 a1 a2 a3 a4 a5 a6 a7 a8 a9 a10 a11 a12 a13 a14 a15 a16 a17 a18 a19 a20 a21 a22 a23 a24 a25 a26 a27 a28 a29 a30 (ix2 k l) = f k.val l := by
  have e : k0_pay198 a0 a1 a2 a3 a4 a5 a6 a7 a8 a9 a10 a11 a12 a13 a14 a15 a16 a17 a18 a19 a20 a21 a22 a23 a24 a25 a26 a27 a28 a29 a30 (ix2 k l) = ∑ j ∈ Finset.range 31, if k.val = j then f j l else 0 := by
    simp only [Finset.sum_range_succ, Finset.range_zero, Finset.sum_empty, zero_add, ← h0 l, ← h1 l, ← h2 l, ← h3 l, ← h4 l, ← h5 l, ← h6 l, ← h7 l, ← h8 l, ← h9 l, ← h10 l, ← h11 l, ← h12 l, ← h13 l, ← h14 l, ← h15 l, ← h16 l, ← h17 l, ← h18 l, ← h19 l, ← h20 l, ← h21 l, ← h22 l, ← h23 l, ← h24 l, ← h25 l, ← h26 l, ← h27 l, ← h28 l, ← h29 l, ← h30 l]
    fin_cases k <;> pointwise [k0_pay198]
  rw [e, Finset.sum_ite_eq, if_pos (Finset.mem_range.mpr k.isLt)]

/-- The same for the taps along the lines. -/
theorem rows_line {a0 a1 a2 a3 a4 a5 a6 a7 a8 a9 a10 a11 a12 a13 a14 a15 a16 a17 a18 a19 a20 a21 a22 a23 a24 a25 a26 : FVec Ideal S1x256 .f32} {a27 : FVec Ideal S256 .f32} {a28 : FVec Ideal S2048x256 .f32} {a29 : FVec Ideal S2048x256 .f32} {a30 : FVec Ideal S2048x256 .f32}
    (f : ℕ → Fin 256 → EReal) (h0 : ∀ l, a0 (ix2 0 l) = f 0 l) (h1 : ∀ l, a1 (ix2 0 l) = f 1 l) (h2 : ∀ l, a2 (ix2 0 l) = f 2 l) (h3 : ∀ l, a3 (ix2 0 l) = f 3 l) (h4 : ∀ l, a4 (ix2 0 l) = f 4 l) (h5 : ∀ l, a5 (ix2 0 l) = f 5 l) (h6 : ∀ l, a6 (ix2 0 l) = f 6 l) (h7 : ∀ l, a7 (ix2 0 l) = f 7 l) (h8 : ∀ l, a8 (ix2 0 l) = f 8 l) (h9 : ∀ l, a9 (ix2 0 l) = f 9 l) (h10 : ∀ l, a10 (ix2 0 l) = f 10 l) (h11 : ∀ l, a11 (ix2 0 l) = f 11 l) (h12 : ∀ l, a12 (ix2 0 l) = f 12 l) (h13 : ∀ l, a13 (ix2 0 l) = f 13 l) (h14 : ∀ l, a14 (ix2 0 l) = f 14 l) (h15 : ∀ l, a15 (ix2 0 l) = f 15 l) (h16 : ∀ l, a16 (ix2 0 l) = f 16 l) (h17 : ∀ l, a17 (ix2 0 l) = f 17 l) (h18 : ∀ l, a18 (ix2 0 l) = f 18 l) (h19 : ∀ l, a19 (ix2 0 l) = f 19 l) (h20 : ∀ l, a20 (ix2 0 l) = f 20 l) (h21 : ∀ l, a21 (ix2 0 l) = f 21 l) (h22 : ∀ l, a22 (ix2 0 l) = f 22 l) (h23 : ∀ l, a23 (ix2 0 l) = f 23 l) (h24 : ∀ l, a24 (ix2 0 l) = f 24 l) (h25 : ∀ l, a25 (ix2 0 l) = f 25 l) (h26 : ∀ l, a26 (ix2 0 l) = f 26 l) (h27 : ∀ l, a27 (ix1 l) = f 27 l) (h28 : ∀ l, ∑ x : Fin 2048, a28 (ix2 x l) = f 28 l) (h29 : ∀ l, ∑ x : Fin 2048, a29 (ix2 x l) = f 29 l) (h30 : ∀ l, ∑ x : Fin 2048, a30 (ix2 x l) = f 30 l) (k : Fin 31) (l : Fin 256) : k0_pay1 a0 a1 a2 a3 a4 a5 a6 a7 a8 a9 a10 a11 a12 a13 a14 a15 a16 a17 a18 a19 a20 a21 a22 a23 a24 a25 a26 a27 a28 a29 a30 (ix2 k l) = f k.val l := by
  have e : k0_pay1 a0 a1 a2 a3 a4 a5 a6 a7 a8 a9 a10 a11 a12 a13 a14 a15 a16 a17 a18 a19 a20 a21 a22 a23 a24 a25 a26 a27 a28 a29 a30 (ix2 k l) = ∑ j ∈ Finset.range 31, if k.val = j then f j l else 0 := by
    simp only [Finset.sum_range_succ, Finset.range_zero, Finset.sum_empty, zero_add, ← h0 l, ← h1 l, ← h2 l, ← h3 l, ← h4 l, ← h5 l, ← h6 l, ← h7 l, ← h8 l, ← h9 l, ← h10 l, ← h11 l, ← h12 l, ← h13 l, ← h14 l, ← h15 l, ← h16 l, ← h17 l, ← h18 l, ← h19 l, ← h20 l, ← h21 l, ← h22 l, ← h23 l, ← h24 l, ← h25 l, ← h26 l, ← h27 l, ← h28 l, ← h29 l, ← h30 l]
    fin_cases k <;> pointwise [k0_pay1]
  rw [e, Finset.sum_ite_eq, if_pos (Finset.mem_range.mpr k.isLt)]

end Cert.AxialIdeal.Value

end

end
-- ==== Proof.AxialTaps.lean ====
module

public import proofs.«01_k».proof.Proof.Gen.AxialIdeal.Value
public import proofs.«01_k».proof.Proof.AxialTap
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AxialIdeal.Value

open Cert.AxialIdeal Cert.AxialIdeal.Gen

variable (m : (ℓ : Loc nD τ sig) → Buf (Elt Ideal) ℓ) (c : Dev nD)

/-- One block of the gradient of the input, the taps along the columns. -/
theorem du_row (t : Fin cfg0.N) (h0 : t.val < 8) (r : Fin 2048) (l : Fin 256) : (outsAt0 m c t.val t.isLt).1 (ix2 r l)
    = rowTaps (iblk m c 2 t) (iblk m c 1 t) r l := by
  by_cases h1 : t.val % 4 = 0
  · rw [outsAt0_A m c t h0 h1 (by omega) (by omega) (by omega) (by omega)]
    frame_out
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
    simp only [width_word, col_word, ext_read _ _ _ _ head_zero_dy tail_zero_dy, mid_dy]
    simp only [rowTaps, tapAt, inLine, Finset.sum_range_succ, Finset.range_zero, Finset.sum_empty, zero_add, Nat.reduceSub, BitVec.reduceOfNat,
      Nat.reduceLT, ↓reduceDIte]
    rfl
  · rw [outsAt0_B m c t h0 h1 (by omega) (by omega) (by omega) (by omega)]
    frame_out
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
    simp only [width_word, col_word, ext_read _ _ _ _ head_zero_dy tail_zero_dy, mid_dy]
    simp only [rowTaps, tapAt, inLine, Finset.sum_range_succ, Finset.range_zero, Finset.sum_empty, zero_add, Nat.reduceSub, BitVec.reduceOfNat,
      Nat.reduceLT, ↓reduceDIte]
    rfl

/-- One block of the gradient of the input, the taps along the lines. -/
theorem du_col (t : Fin cfg0.N) (h0 : ¬ t.val < 8) (r : Fin 2048) (l : Fin 256) : (outsAt0 m c t.val t.isLt).1 (ix2 r l)
    = ∑ k ∈ Finset.range 31, tapAt (iblk m c 2 t) l k * padRow (iblk m c 1 t) (1920 - 64 * k) r l := by
  by_cases h1 : t.val % 4 = 0
  · rw [outsAt0_C m c t h0 (by omega) h1 (by omega) (by omega) (by omega)]
    frame_out
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
    simp only [width_word, col_word, ext_read _ _ _ _ head_zero_dy tail_zero_dy, mid_dy]
    simp only [tapAt, Finset.sum_range_succ, Finset.range_zero, Finset.sum_empty, zero_add, Nat.reduceSub, Nat.reduceMul,
      Nat.reduceLT, ↓reduceDIte]
    rfl
  · rw [outsAt0_D m c t h0 (by omega) h1 (by omega) (by omega) (by omega)]
    frame_out
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
    simp only [width_word, col_word, ext_read _ _ _ _ head_zero_dy tail_zero_dy, mid_dy]
    simp only [tapAt, Finset.sum_range_succ, Finset.range_zero, Finset.sum_empty, zero_add, Nat.reduceSub, Nat.reduceMul,
      Nat.reduceLT, ↓reduceDIte]
    rfl

/-- The sum of a block's column, as a row. -/
theorem row_sum (v : FVec Ideal S2048x256 .f32) (l : Fin 256) :
    shapeCast S1x256 (multiReduction .add [0] S256 v 0x00000000#32 reduces_S2048x256_S256 (.inl rfl) rfl) shapeCasts_S256_S1x256 (ix2 0 l) = ∑ r : Fin 2048, v (ix2 r l) := by
  pointwise

theorem row_sum' (v : FVec Ideal S2048x256 .f32) (l : Fin 256) :
    multiReduction .add [0] S256 v 0x00000000#32 reduces_S2048x256_S256 (.inl rfl) rfl (ix1 l) = ∑ r : Fin 2048, v (ix2 r l) := by
  pointwise

theorem add_col (v w : FVec Ideal S31x256 .f32) (k : Fin 31) (l : Fin 256) : k0_pay199 v w (ix2 k l) = w (ix2 k l) + v (ix2 k l) := by
  pointwise [k0_pay199]

theorem add_line (v w : FVec Ideal S31x256 .f32) (k : Fin 31) (l : Fin 256) : k0_pay2 v w (ix2 k l) = w (ix2 k l) + v (ix2 k l) := by
  pointwise [k0_pay2]

/-- One row of the block of tap gradients, the taps along the columns. -/
def tapCol (D U : FVec Ideal S2048x256 .f32) (j : ℕ) (l : Fin 256) : EReal :=
  ∑ r : Fin 2048, Scalar.select (inLine (r.val % 64) (BitVec.ofNat 32 (4294967281 + j))) (D (ix2 r l) * padRow U (945 + j) r l) 0

/-- One row of the block of tap gradients, the taps along the lines. -/
def tapLine (D U : FVec Ideal S2048x256 .f32) (j : ℕ) (l : Fin 256) : EReal :=
  ∑ r : Fin 2048, D (ix2 r l) * padRow U (64 * j) r l

theorem dw_col_first (t : Fin cfg0.N) (h0 : t.val < 8) (h1 : t.val % 4 = 0) (k : Fin 31) (l : Fin 256) : (outsAt0 m c t.val t.isLt).2.1 (ix2 k l)
    = tapCol (iblk m c 1 t) (iblk m c 0 t) k.val l := by
  rw [outsAt0_A m c t h0 h1 (by omega) (by omega) (by omega) (by omega)]
  frame_out
  refine rows_col (tapCol (iblk m c 1 t) (iblk m c 0 t)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ k l
  all_goals intro l
  all_goals try simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
  all_goals first | refine (row_sum _ _).trans (Finset.sum_congr rfl fun r _ => ?_) | refine (row_sum' _ _).trans (Finset.sum_congr rfl fun r _ => ?_) | refine Finset.sum_congr rfl fun r _ => ?_
  all_goals pointwise
  all_goals try simp only [width_word, col_word, ext_read _ _ _ _ head_zero tail_zero, mid_u]
  all_goals rfl

theorem dw_col_step (t : Fin cfg0.N) (h0 : t.val < 8) (h1 : ¬ t.val % 4 = 0) (k : Fin 31) (l : Fin 256) : (outsAt0 m c t.val t.isLt).2.1 (ix2 k l)
    = (outsAt0 m c (t.val - 1) (Nat.lt_of_le_of_lt (Nat.sub_le _ _) t.isLt)).2.1 (ix2 k l) + tapCol (iblk m c 1 t) (iblk m c 0 t) k.val l := by
  rw [outsAt0_B m c t h0 h1 (by omega) (by omega) (by omega) (by omega)]
  frame_out
  refine (add_col _ _ _ _).trans (congrArg _ ?_)
  refine rows_col (tapCol (iblk m c 1 t) (iblk m c 0 t)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ k l
  all_goals intro l
  all_goals try simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
  all_goals first | refine (row_sum _ _).trans (Finset.sum_congr rfl fun r _ => ?_) | refine (row_sum' _ _).trans (Finset.sum_congr rfl fun r _ => ?_) | refine Finset.sum_congr rfl fun r _ => ?_
  all_goals pointwise
  all_goals try simp only [width_word, col_word, ext_read _ _ _ _ head_zero tail_zero, mid_u]
  all_goals rfl

theorem dw_line_first (t : Fin cfg0.N) (h0 : ¬ t.val < 8) (h1 : t.val % 4 = 0) (k : Fin 31) (l : Fin 256) : (outsAt0 m c t.val t.isLt).2.1 (ix2 k l)
    = tapLine (iblk m c 1 t) (iblk m c 0 t) k.val l := by
  rw [outsAt0_C m c t h0 (by omega) h1 (by omega) (by omega) (by omega)]
  frame_out
  refine rows_line (tapLine (iblk m c 1 t) (iblk m c 0 t)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ k l
  all_goals intro l
  all_goals try simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
  all_goals first | refine (row_sum _ _).trans (Finset.sum_congr rfl fun r _ => ?_) | refine (row_sum' _ _).trans (Finset.sum_congr rfl fun r _ => ?_) | refine Finset.sum_congr rfl fun r _ => ?_
  all_goals pointwise
  all_goals try simp only [ext_read _ _ _ _ head_zero tail_zero, mid_u]
  all_goals rfl

theorem dw_line_step (t : Fin cfg0.N) (h0 : ¬ t.val < 8) (h1 : ¬ t.val % 4 = 0) (k : Fin 31) (l : Fin 256) : (outsAt0 m c t.val t.isLt).2.1 (ix2 k l)
    = (outsAt0 m c (t.val - 1) (Nat.lt_of_le_of_lt (Nat.sub_le _ _) t.isLt)).2.1 (ix2 k l) + tapLine (iblk m c 1 t) (iblk m c 0 t) k.val l := by
  rw [outsAt0_D m c t h0 (by omega) h1 (by omega) (by omega) (by omega)]
  frame_out
  refine (add_line _ _ _ _).trans (congrArg _ ?_)
  refine rows_line (tapLine (iblk m c 1 t) (iblk m c 0 t)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ k l
  all_goals intro l
  all_goals try simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay197]
  all_goals first | refine (row_sum _ _).trans (Finset.sum_congr rfl fun r _ => ?_) | refine (row_sum' _ _).trans (Finset.sum_congr rfl fun r _ => ?_) | refine Finset.sum_congr rfl fun r _ => ?_
  all_goals pointwise
  all_goals try simp only [ext_read _ _ _ _ head_zero tail_zero, mid_u]
  all_goals rfl

end Cert.AxialIdeal.Value

end

end
-- ==== Proof.AxialRef.lean ====
module

public import proofs.«01_k».proof.Proof.Gen.AxialRefIdeal.Read
public import Idealize.ShloMosaic.Lib.Pipeline.ValueKit

@[expose] public section

set_option maxRecDepth 16384

noncomputable section

open Idealize.ShloMosaic Idealize.ShloMosaic.TcCoe Idealize.SL.Sem

namespace Cert.AxialRefIdeal.Read

open Cert.AxialRefIdeal Cert.AxialRefIdeal.Gen

/-! The reference's gradients of the axial convolution, with the band matrices collapsed: each is a
sum over the taps (or over the outputs) that stay inside the line. -/

/-- The row of the flattened array that holds image `b`, line `r`, column `q`. -/
abbrev at4 (b : Fin 4) (r : Fin 32) (q : Fin 64) : Fin 8192 := ⟨b * 2048 + r * 64 + q, by omega⟩

/-- The word comparison of the indicator, as a comparison of numbers. -/
theorem reach_word (i j k : ℕ) (hi : i < 64) (hj : j < 64) (hk : k < 31) :
    Scalar.select (IntOp.cmpi CmpIPredicate.eq (BitVec.ofNat 32 j)
      (IntOp.subi (IntOp.addi (BitVec.ofNat 32 i) (BitVec.ofNat 32 k)) 15#32)) (1 : EReal) 0
      = if j + 15 = i + k then 1 else 0 := by
  have e : (BitVec.ofNat 32 j = BitVec.ofNat 32 i + BitVec.ofNat 32 k - 15#32) ↔ j + 15 = i + k := by
    rw [← BitVec.toNat_inj]
    simp only [BitVec.toNat_sub, BitVec.toNat_add, BitVec.toNat_ofNat]
    omega
  by_cases h : j + 15 = i + k
  · rw [if_pos h, IntOp.subi, IntOp.addi, e.mpr h]; simp [IntOp.cmpi, Scalar.select]
  · have h' := mt e.mp h
    rw [if_neg h]; simp only [IntOp.cmpi, IntOp.subi, IntOp.addi, Scalar.select, beq_eq_false_iff_ne.mpr h']; rfl

theorem reach64 (k : Fin 31) (i j : Fin 64) : val_main_v11 (F := Ideal) (ix3 k i j) = if j.val + 15 = i.val + k.val then 1 else 0 := by
  pointwise [val_main_v11, val_main_v10, val_main_v9, val_main_v8, val_main_v7, val_main_v6, val_main_v5, val_main_v4, val_main_c, val_main_call0_v0, val_main_call0_v1, val_main_cst_0, val_main_cst_1]
  exact reach_word i j k i.isLt j.isLt k.isLt

theorem reach32 (k : Fin 31) (i j : Fin 32) : val_main_v25 (F := Ideal) (ix3 k i j) = if j.val + 15 = i.val + k.val then 1 else 0 := by
  pointwise [val_main_v25, val_main_v24, val_main_v23, val_main_v22, val_main_v21, val_main_v20, val_main_v19, val_main_v18, val_main_c_2, val_main_call1_v0, val_main_call1_v1, val_main_cst_3, val_main_cst_4]
  exact reach_word i j k (by omega) (by omega) k.isLt

/-- A line of `N` values against the band matrix of 31 taps is a sum over the taps. -/
theorem line_taps {N : ℕ} (j : Fin N) (f : Fin N → EReal) (w : Fin 31 → EReal) :
    ∑ i : Fin N, f i * ∑ k : Fin 31, (if j.val + 15 = i.val + k.val then (1 : EReal) else 0) * w k
      = ∑ k : Fin 31, if h : k.val ≤ j.val + 15 ∧ j.val + 15 - k.val < N then f ⟨j.val + 15 - k.val, h.2⟩ * w k else 0 := by
  have e : ∀ i : Fin N, f i * ∑ k : Fin 31, (if j.val + 15 = i.val + k.val then (1 : EReal) else 0) * w k
      = ∑ k : Fin 31, if j.val + 15 = i.val + k.val then f i * w k else 0 := fun i => by
    by_cases h : i.val ≤ j.val + 15 ∧ j.val + 15 - i.val < 31
    · rw [Finset.sum_eq_single (⟨j.val + 15 - i.val, h.2⟩ : Fin 31), Finset.sum_eq_single (⟨j.val + 15 - i.val, h.2⟩ : Fin 31),
        if_pos (by simp only; omega), if_pos (by simp only; omega), one_mul]
      · exact fun b _ hb => if_neg fun hh => hb (Fin.ext (by simp only; omega))
      · exact fun hh => absurd (Finset.mem_univ _) hh
      · exact fun b _ hb => by rw [if_neg fun hh => hb (Fin.ext (by simp only; omega)), zero_mul]
      · exact fun hh => absurd (Finset.mem_univ _) hh
    · rw [Finset.sum_eq_zero fun k _ => by rw [if_neg (by omega), zero_mul], mul_zero,
        Finset.sum_eq_zero fun k _ => if_neg (by omega)]
  rw [Finset.sum_congr rfl fun i _ => e i, Finset.sum_comm]
  refine Finset.sum_congr rfl fun k _ => ?_
  by_cases h : k.val ≤ j.val + 15 ∧ j.val + 15 - k.val < N
  · rw [dif_pos h, Finset.sum_eq_single (⟨j.val + 15 - k.val, h.2⟩ : Fin N), if_pos (by simp only; omega)]
    · exact fun b _ hb => if_neg fun hh => hb (Fin.ext (by simp only; omega))
    · exact fun hh => absurd (Finset.mem_univ _) hh
  · rw [dif_neg h, Finset.sum_eq_zero fun i _ => if_neg (by omega)]

/-- A sum over pairs that keeps only the pairs `k - 15` apart. -/
theorem pairs_tap {N : ℕ} (k : ℕ) (g : Fin N → Fin N → EReal) :
    ∑ i : Fin N, ∑ j : Fin N, g i j * (if j.val + 15 = i.val + k then (1 : EReal) else 0)
      = ∑ i : Fin N, if h : 15 ≤ i.val + k ∧ i.val + k - 15 < N then g i ⟨i.val + k - 15, h.2⟩ else 0 := by
  refine Finset.sum_congr rfl fun i _ => ?_
  by_cases h : 15 ≤ i.val + k ∧ i.val + k - 15 < N
  · rw [dif_pos h, Finset.sum_eq_single (⟨i.val + k - 15, h.2⟩ : Fin N), if_pos (by simp only; omega), mul_one]
    · exact fun b _ hb => by rw [if_neg fun hh => hb (Fin.ext (by simp only; omega)), mul_zero]
    · exact fun hh => absurd (Finset.mem_univ _) hh
  · rw [dif_neg h, Finset.sum_eq_zero fun i _ => by rw [if_neg (by omega), mul_zero]]

variable (x0 x1 : FVec Ideal S8192x1024 .f32) (x2 : FVec Ideal S31x1024 .f32)

theorem du_flat (b : Fin 4) (r : Fin 32) (q : Fin 64) (D : Fin 1024) :
    val_main_v62 (F := Ideal) x1 x2 (ix2 (at4 b r q) D) = val_main_v61 (F := Ideal) x1 x2 (ix4 b r q D) := by
  pointwise [val_main_v62]
  congr 2 <;> exact Fin.ext (by simp only; omega)

/-- The gradient of the input, first half of the channels: the taps run along the columns. -/
theorem du_lo (b : Fin 4) (r : Fin 32) (q : Fin 64) (D : Fin 512) :
    val_main_v62 (F := Ideal) x1 x2 (ix2 (at4 b r q) ⟨D, by omega⟩)
      = ∑ k : Fin 31, if h : k.val ≤ q.val + 15 ∧ q.val + 15 - k.val < 64 then
          x1 (ix2 (at4 b r ⟨q.val + 15 - k.val, h.2⟩) ⟨D, by omega⟩) * x2 (ix2 k ⟨D, by omega⟩) else 0 := by
  rw [du_flat, ← line_taps q (fun i => x1 (ix2 (at4 b r i) ⟨D, by omega⟩)) fun k => x2 (ix2 k ⟨D, by omega⟩)]
  pointwise [val_main_v61, val_main_v60, val_main_v50]
  rw [dif_neg (by simp)]
  pointwise [val_main_cst_7, val_main_v55, val_main_v54_apply, lidx_main_v54, val_main_v51, val_main_v38, val_main_v37, val_main_v34]
  refine Finset.sum_congr rfl fun i _ => ?_
  have e : ridx_main_v54 (ix4 D b r q) i = ix3 i q D := by
    funext a; fin_cases a <;> rfl
  rw [e]
  pointwise [val_main_v12, val_main_v3, reach64]

/-- The same for the second half: the taps run along the lines. -/
theorem du_hi (b : Fin 4) (r : Fin 32) (q : Fin 64) (D : Fin 512) :
    val_main_v62 (F := Ideal) x1 x2 (ix2 (at4 b r q) ⟨512 + D, by omega⟩)
      = ∑ k : Fin 31, if h : k.val ≤ r.val + 15 ∧ r.val + 15 - k.val < 32 then
          x1 (ix2 (at4 b ⟨r.val + 15 - k.val, h.2⟩ q) ⟨512 + D, by omega⟩) * x2 (ix2 k ⟨512 + D, by omega⟩) else 0 := by
  rw [du_flat, ← line_taps r (fun i => x1 (ix2 (at4 b i q) ⟨512 + D, by omega⟩)) fun k => x2 (ix2 k ⟨512 + D, by omega⟩)]
  pointwise [val_main_v61, val_main_v60, val_main_v50, val_main_cst_9]
  pointwise [val_main_v49, val_main_v45, val_main_v44, val_main_v41, val_main_v40, val_main_v39, val_main_v37, val_main_v34]
  refine Finset.sum_congr rfl fun i _ => ?_
  pointwise [val_main_v26, val_main_v17, reach32]

/-- The gradient of the taps, first half of the channels. -/
theorem dw_lo (k : Fin 31) (D : Fin 512) :
    val_main_v59 (F := Ideal) x0 x1 (ix2 k ⟨D, by omega⟩)
      = ∑ i : Fin 64, ∑ b : Fin 4, ∑ r : Fin 32, if h : 15 ≤ i.val + k.val ∧ i.val + k.val - 15 < 64 then
          x1 (ix2 (at4 b r i) ⟨D, by omega⟩) * x0 (ix2 (at4 b r ⟨i.val + k.val - 15, h.2⟩) ⟨D, by omega⟩) else 0 := by
  have e := pairs_tap k.val fun i j : Fin 64 => ∑ b : Fin 4, ∑ r : Fin 32,
    x1 (ix2 (at4 b r i) ⟨D, by omega⟩) * x0 (ix2 (at4 b r j) ⟨D, by omega⟩)
  pointwise [val_main_v59, val_main_v48, val_main_v58]
  rw [dif_neg (by simp)]
  pointwise [val_main_cst_6, val_main_v57, val_main_v56, reach64, val_main_v53, val_main_v52, val_main_v51, val_main_v2, val_main_v38, val_main_v37, val_main_v34, val_main_v1]
  refine e.trans (Finset.sum_congr rfl fun i _ => ?_)
  by_cases h : 15 ≤ i.val + k.val ∧ i.val + k.val - 15 < 64
  · simp only [dif_pos h]
  · simp only [dif_neg h, Finset.sum_const_zero]

/-- The same for the second half. -/
theorem dw_hi (k : Fin 31) (D : Fin 512) :
    val_main_v59 (F := Ideal) x0 x1 (ix2 k ⟨512 + D, by omega⟩)
      = ∑ i : Fin 32, ∑ b : Fin 4, ∑ q : Fin 64, if h : 15 ≤ i.val + k.val ∧ i.val + k.val - 15 < 32 then
          x1 (ix2 (at4 b i q) ⟨512 + D, by omega⟩) * x0 (ix2 (at4 b ⟨i.val + k.val - 15, h.2⟩ q) ⟨512 + D, by omega⟩) else 0 := by
  have e := pairs_tap k.val fun i j : Fin 32 => ∑ b : Fin 4, ∑ q : Fin 64,
    x1 (ix2 (at4 b i q) ⟨512 + D, by omega⟩) * x0 (ix2 (at4 b j q) ⟨512 + D, by omega⟩)
  pointwise [val_main_v59, val_main_v48, val_main_v58, val_main_cst_8]
  pointwise [val_main_v47, val_main_v46, reach32, val_main_v43, val_main_v42, val_main_v41, val_main_v16, val_main_v15, val_main_v40, val_main_v39, val_main_v37, val_main_v34, val_main_v1]
  refine e.trans (Finset.sum_congr rfl fun i _ => ?_)
  by_cases h : 15 ≤ i.val + k.val ∧ i.val + k.val - 15 < 32
  · simp only [dif_pos h]
  · simp only [dif_neg h, Finset.sum_const_zero]

/-- The gradient of the bias: the sum of the rows. -/
theorem db_ref (j : Fin 1) (D : Fin 1024) :
    val_main_v36 (F := Ideal) x1 (ix2 j D) = ∑ R : Fin 8192, x1 (ix2 R D) := by
  pointwise [val_main_v36, val_main_v35, val_main_cst_5]

end Cert.AxialRefIdeal.Read

end

end
-- ==== Proof.AxialValue.lean ====
module

public import proofs.«01_k».proof.Proof.Gen.AxialIdeal.Value
public import proofs.«01_k».proof.Proof.AxialTaps
public import proofs.«01_k».proof.Proof.AxialRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AxialIdeal.Value

open Cert.AxialIdeal Cert.AxialIdeal.Gen Cert.AxialRefIdeal.Read

theorem select_bit (p : Prop) [Decidable p] (x y : EReal) : Scalar.select (if p then 1#1 else 0#1) x y = if p then x else y := by
  by_cases h : p
  · rw [if_pos h, if_pos h]; rfl
  · rw [if_neg h, if_neg h]; rfl

/-- Row `a`, column `q` of a block of 32 lines of 64. -/
abbrev sp (a : Fin 32) (q : Fin 64) : Fin 2048 := ⟨a.val * 64 + q, by omega⟩

theorem rowTaps_eq (W : FVec Ideal S31x256 .f32) (X : FVec Ideal S2048x256 .f32) (a : Fin 32) (q : Fin 64) (l : Fin 256) :
    rowTaps W X (sp a q) l = ∑ k : Fin 31, if h : k.val ≤ q.val + 15 ∧ q.val + 15 - k.val < 64 then
      X (ix2 (sp a ⟨q.val + 15 - k.val, h.2⟩) l) * W (ix2 k l) else 0 := by
  unfold rowTaps
  rw [Finset.sum_range]
  refine Finset.sum_congr rfl fun k _ => ?_
  have e : (sp a q).val % 64 = q.val := by show (a.val * 64 + q.val) % 64 = q.val; omega
  rw [e, inLine_back, select_bit]
  by_cases h : k.val ≤ q.val + 15 ∧ q.val + 15 - k.val < 64
  · rw [if_pos h, dif_pos h, tapAt, dif_pos k.isLt, padRow, dif_pos (by show 960 ≤ 975 - k.val + (a.val * 64 + q.val) ∧ 975 - k.val + (a.val * 64 + q.val) < 3008; omega), mul_comm]
    congr 3
    exact Fin.ext (by show 975 - k.val + (a.val * 64 + q.val) - 960 = a.val * 64 + (q.val + 15 - k.val); omega)
  · rw [if_neg h, dif_neg h]

theorem lineTaps_eq (W : FVec Ideal S31x256 .f32) (X : FVec Ideal S2048x256 .f32) (a : Fin 32) (q : Fin 64) (l : Fin 256) :
    ∑ k ∈ Finset.range 31, tapAt W l k * padRow X (1920 - 64 * k) (sp a q) l
      = ∑ k : Fin 31, if h : k.val ≤ a.val + 15 ∧ a.val + 15 - k.val < 32 then
          X (ix2 (sp ⟨a.val + 15 - k.val, h.2⟩ q) l) * W (ix2 k l) else 0 := by
  rw [Finset.sum_range]
  refine Finset.sum_congr rfl fun k _ => ?_
  by_cases h : k.val ≤ a.val + 15 ∧ a.val + 15 - k.val < 32
  · rw [dif_pos h, tapAt, dif_pos k.isLt, padRow, dif_pos (by show 960 ≤ 1920 - 64 * k.val + (a.val * 64 + q.val) ∧ 1920 - 64 * k.val + (a.val * 64 + q.val) < 3008; omega), mul_comm]
    congr 3
    exact Fin.ext (by show 1920 - 64 * k.val + (a.val * 64 + q.val) - 960 = (a.val + 15 - k.val) * 64 + q.val; omega)
  · rw [dif_neg h, padRow, dif_neg (by show ¬ (960 ≤ 1920 - 64 * k.val + (a.val * 64 + q.val) ∧ 1920 - 64 * k.val + (a.val * 64 + q.val) < 3008); omega), mul_zero]

theorem tapCol_eq (D U : FVec Ideal S2048x256 .f32) (k : Fin 31) (l : Fin 256) :
    tapCol D U k.val l = ∑ i : Fin 64, ∑ a : Fin 32, if h : 15 ≤ i.val + k.val ∧ i.val + k.val - 15 < 64 then
      D (ix2 (sp a i) l) * U (ix2 (sp a ⟨i.val + k.val - 15, h.2⟩) l) else 0 := by
  unfold tapCol
  rw [Fin.sum_univ_tiles 32 64 rfl, Finset.sum_comm]
  refine Finset.sum_congr rfl fun i _ => Finset.sum_congr rfl fun a _ => ?_
  have e : (a.val * 64 + i.val) % 64 = i.val := by omega
  simp only [e]
  rw [inLine_on, select_bit]
  by_cases h : 15 ≤ i.val + k.val ∧ i.val + k.val - 15 < 64
  · rw [if_pos h, dif_pos h, padRow, dif_pos (by show 960 ≤ 945 + k.val + (a.val * 64 + i.val) ∧ 945 + k.val + (a.val * 64 + i.val) < 3008; omega)]
    congr 3
    exact Fin.ext (by show 945 + k.val + (a.val * 64 + i.val) - 960 = a.val * 64 + (i.val + k.val - 15); omega)
  · rw [if_neg h, dif_neg h]

theorem tapLine_eq (D U : FVec Ideal S2048x256 .f32) (k : Fin 31) (l : Fin 256) :
    tapLine D U k.val l = ∑ i : Fin 32, ∑ q : Fin 64, if h : 15 ≤ i.val + k.val ∧ i.val + k.val - 15 < 32 then
      D (ix2 (sp i q) l) * U (ix2 (sp ⟨i.val + k.val - 15, h.2⟩ q) l) else 0 := by
  unfold tapLine
  rw [Fin.sum_univ_tiles 32 64 rfl]
  refine Finset.sum_congr rfl fun i _ => Finset.sum_congr rfl fun q _ => ?_
  by_cases h : 15 ≤ i.val + k.val ∧ i.val + k.val - 15 < 32
  · rw [dif_pos h, padRow, dif_pos (by show 960 ≤ 64 * k.val + (i.val * 64 + q.val) ∧ 64 * k.val + (i.val * 64 + q.val) < 3008; omega)]
    congr 3
    exact Fin.ext (by show 64 * k.val + (i.val * 64 + q.val) - 960 = (i.val + k.val - 15) * 64 + q.val; omega)
  · rw [dif_neg h, padRow, dif_neg (by show ¬ (960 ≤ 64 * k.val + (i.val * 64 + q.val) ∧ 64 * k.val + (i.val * 64 + q.val) < 3008); omega), mul_zero]

variable (m : (ℓ : Loc nD τ sig) → Buf (Elt Ideal) ℓ) (c : Dev nD)

/-- Every window's block index at every grid point. -/
theorem idx : ∀ t : Fin cfg0.N, win0_0.index t = ![t.val % 4, t.val / 4]
    ∧ win0_1.index t = ![t.val % 4, t.val / 4]
    ∧ win0_2.index t = ![0, t.val / 4]
    ∧ win0_3.index t = ![t.val % 4, t.val / 4]
    ∧ win0_4.index t = ![0, t.val / 4]
    ∧ win0_5.index t = ![0, t.val / 4] :=
  (by decide +kernel : ∀ t : Fin grid0.N, _)

/-- Row `r` and column `l` of block `t` in the whole array. -/
abbrev row (t : Fin cfg0.N) (r : Fin 2048) : Fin 8192 := ⟨t.val % 4 * 2048 + r, by omega⟩
abbrev col (t : Fin cfg0.N) (l : Fin 256) : Fin 1024 := ⟨t.val / 4 * 256 + l, by have := t.isLt; have : cfg0.N = 16 := N_0; omega⟩

theorem blk_u (t : Fin cfg0.N) (r : Fin 2048) (l : Fin 256) :
    iblk m c 0 t (ix2 r l) = m ((c : Thread nD τ).loc main_arg0) (ix2 (row t r) (col t l)) := by
  blk_ext [iblk, V, idx t]

theorem blk_d (t : Fin cfg0.N) (r : Fin 2048) (l : Fin 256) :
    iblk m c 1 t (ix2 r l) = m ((c : Thread nD τ).loc main_arg1) (ix2 (row t r) (col t l)) := by
  blk_ext [iblk, V, idx t]

theorem blk_w (t : Fin cfg0.N) (k : Fin 31) (l : Fin 256) :
    iblk m c 2 t (ix2 k l) = m ((c : Thread nD τ).loc main_arg2) (ix2 k (col t l)) := by
  blk_ext [iblk, V, idx t]

theorem row_at (t : Fin cfg0.N) (a : Fin 32) (q : Fin 64) : row t (sp a q) = at4 ⟨t.val % 4, by omega⟩ a q :=
  Fin.ext (by show t.val % 4 * 2048 + (a.val * 64 + q.val) = t.val % 4 * 2048 + a.val * 64 + q.val; omega)

theorem col_hi (t : Fin cfg0.N) (h : ¬ t.val < 8) (l : Fin 256) :
    col t l = ⟨512 + (⟨t.val / 4 * 256 + l - 512, by have := t.isLt; have : cfg0.N = 16 := N_0; omega⟩ : Fin 512), by have := t.isLt; have : cfg0.N = 16 := N_0; simp only; omega⟩ :=
  Fin.ext (by show t.val / 4 * 256 + l.val = 512 + (t.val / 4 * 256 + l.val - 512); omega)

theorem du_at (t : Fin cfg0.N) (r : Fin 2048) (l : Fin 256) : (outsAt0 m c t.val t.isLt).1 (ix2 r l)
    = val_main_v62 (F := Ideal) (m ((c : Thread nD τ).loc main_arg1)) (m ((c : Thread nD τ).loc main_arg2)) (ix2 (row t r) (col t l)) := by
  have ht : t.val < 16 := lt_of_lt_of_eq t.isLt N_0
  obtain ⟨a, q, rfl⟩ : ∃ (a : Fin 32) (q : Fin 64), r = sp a q :=
    ⟨⟨r.val / 64, by omega⟩, ⟨r.val % 64, by omega⟩, Fin.ext (by show r.val = r.val / 64 * 64 + r.val % 64; omega)⟩
  by_cases h0 : t.val < 8
  · rw [du_row m c t h0, rowTaps_eq, row_at]
    refine Eq.trans ?_ (du_lo _ _ ⟨t.val % 4, by omega⟩ a q ⟨t.val / 4 * 256 + l, by omega⟩).symm
    refine Finset.sum_congr rfl fun k _ => ?_
    by_cases h : k.val ≤ q.val + 15 ∧ q.val + 15 - k.val < 64
    · rw [dif_pos h, dif_pos h, blk_d, blk_w, row_at]
    · rw [dif_neg h, dif_neg h]
  · rw [du_col m c t h0, lineTaps_eq, row_at, col_hi t h0]
    refine Eq.trans ?_ (du_hi _ _ ⟨t.val % 4, by omega⟩ a q ⟨t.val / 4 * 256 + l - 512, by omega⟩).symm
    refine Finset.sum_congr rfl fun k _ => ?_
    by_cases h : k.val ≤ a.val + 15 ∧ a.val + 15 - k.val < 32
    · rw [dif_pos h, dif_pos h, blk_d, blk_w, row_at, col_hi t h0]
    · rw [dif_neg h, dif_neg h]

theorem point_du (t : Fin cfg0.N) (y) : (outsAt0 m c t.val t.isLt).1 y
    = val_main_v62 (F := Ideal) (m ((c : Thread nD τ).loc main_arg1)) (m ((c : Thread nD τ).loc main_arg2)) (((cfg0.win 3).blk t).view.emb y) := by
  have he : ((cfg0.win 3).blk t).view.emb y = ix2 (row t (y 0)) (col t (y 1)) := by blk_ext [idx t]
  rw [he, eq_ix2 y]
  exact du_at m c t (y 0) (y 1)

theorem final_du : (dats m 0 c).arrAt 3 (cfgs 0).N
    = val_main_v62 (F := Ideal) (m ((c : Thread nD τ).loc main_arg1)) (m ((c : Thread nD τ).loc main_arg2)) := by
  refine (dats m 0 c).arrAt_eq_of_covers 3 _ (by decide +kernel) fun t hf y => ?_
  blk_simp
  rw [after0_3]
  exact point_du m c t y

/-- What one batch adds to the gradient of the taps. -/
def dwTerm (t : Fin cfg0.N) (j : S31x256.Idx) : EReal :=
  if t.val < 8 then tapCol (iblk m c 1 t) (iblk m c 0 t) (j 0).val (j 1) else tapLine (iblk m c 1 t) (iblk m c 0 t) (j 0).val (j 1)

theorem dw_sum (t : Fin cfg0.N) (hr : t.val % 4 = 3) (j : S31x256.Idx) : (outsAt0 m c t.val t.isLt).2.1 j
    = ∑ s : Fin 4, dwTerm m c ⟨4 * (t.val / 4) + s.val, by have := t.isLt; have : cfg0.N = 16 := N_0; omega⟩ j := by
  rw [Pipeline.eq_sum_fin_of_reset_step_apply_of_flush (fun n h => (outsAt0 m c n h).2.1) 4 (fun _ => 0) (dwTerm m c)
    (fun t h j => by
      rw [zero_add, eq_ix2 j]
      by_cases h0 : t.val < 8
      · exact (dw_col_first m c t h0 h (j 0) (j 1)).trans (by rw [dwTerm, if_pos h0]; rfl)
      · exact (dw_line_first m c t h0 h (j 0) (j 1)).trans (by rw [dwTerm, if_neg h0]; rfl))
    (fun t h j => by
      rw [eq_ix2 j]
      by_cases h0 : t.val < 8
      · exact (dw_col_step m c t h0 h (j 0) (j 1)).trans (by rw [dwTerm, if_pos h0]; rfl)
      · exact (dw_line_step m c t h0 h (j 0) (j 1)).trans (by rw [dwTerm, if_neg h0]; rfl)) t hr j, zero_add]

theorem dw_at (t : Fin cfg0.N) (k : Fin 31) (l : Fin 256) :
    ∑ s : Fin 4, dwTerm m c ⟨4 * (t.val / 4) + s.val, by have := t.isLt; have : cfg0.N = 16 := N_0; omega⟩ (ix2 k l)
      = val_main_v59 (F := Ideal) (m ((c : Thread nD τ).loc main_arg0)) (m ((c : Thread nD τ).loc main_arg1)) (ix2 k (col t l)) := by
  have ht : t.val < 16 := lt_of_lt_of_eq t.isLt N_0
  have hN : cfg0.N = 16 := N_0
  have hrow : ∀ (s : Fin 4) h (a : Fin 32) (q : Fin 64), row (⟨4 * (t.val / 4) + s.val, h⟩ : Fin cfg0.N) (sp a q) = at4 s a q := fun s h a q =>
    Fin.ext (by show (4 * (t.val / 4) + s.val) % 4 * 2048 + (a.val * 64 + q.val) = s.val * 2048 + a.val * 64 + q.val; omega)
  have hcol : ∀ (s : Fin 4) h, col (⟨4 * (t.val / 4) + s.val, h⟩ : Fin cfg0.N) l = col t l := fun s h =>
    Fin.ext (by show (4 * (t.val / 4) + s.val) / 4 * 256 + l.val = t.val / 4 * 256 + l.val; omega)
  by_cases h0 : t.val < 8
  · refine Eq.trans ?_ (dw_lo _ _ k ⟨t.val / 4 * 256 + l, by omega⟩).symm
    rw [Finset.sum_comm]
    refine Finset.sum_congr rfl fun s _ => ?_
    rw [dwTerm, if_pos (by show 4 * (t.val / 4) + s.val < 8; omega)]
    refine (tapCol_eq _ _ k l).trans ?_
    refine Finset.sum_congr rfl fun i _ => Finset.sum_congr rfl fun a _ => ?_
    by_cases h : 15 ≤ i.val + k.val ∧ i.val + k.val - 15 < 64
    · rw [dif_pos h, dif_pos h, blk_d, blk_u, hrow, hrow, hcol]
    · rw [dif_neg h, dif_neg h]
  · rw [col_hi t h0]
    refine Eq.trans ?_ (dw_hi _ _ k ⟨t.val / 4 * 256 + l - 512, by omega⟩).symm
    rw [Finset.sum_comm]
    refine Finset.sum_congr rfl fun s _ => ?_
    rw [dwTerm, if_neg (by show ¬ 4 * (t.val / 4) + s.val < 8; omega)]
    refine (tapLine_eq _ _ k l).trans ?_
    refine Finset.sum_congr rfl fun i _ => Finset.sum_congr rfl fun a _ => ?_
    by_cases h : 15 ≤ i.val + k.val ∧ i.val + k.val - 15 < 32
    · rw [dif_pos h, dif_pos h, blk_d, blk_u, hrow, hrow, hcol, col_hi t h0]
    · rw [dif_neg h, dif_neg h]

theorem final_dw : (dats m 0 c).arrAt 4 (cfgs 0).N
    = val_main_v59 (F := Ideal) (m ((c : Thread nD τ).loc main_arg0)) (m ((c : Thread nD τ).loc main_arg1)) := by
  refine (dats m 0 c).arrAt_eq_of_covers 4 _ (by decide +kernel) fun t hf y => ?_
  have hr : t.val % 4 = 3 := by have := (Gen.flush0_4 t).mp hf; omega
  blk_simp
  rw [after0_4]
  refine (dw_sum m c t hr y).trans ?_
  have he : ((cfg0.win 4).blk t).view.emb y = ix2 (y 0) (col t (y 1)) := by blk_ext [idx t]
  rw [he, eq_ix2 y]
  exact dw_at m c t (y 0) (y 1)

theorem first_row (v : FVec Ideal S2048x256 .f32) (j : Fin 1) (l : Fin 256) : k0_pay3 (F := Ideal) v (ix2 j l) = ∑ r : Fin 2048, v (ix2 r l) := by
  pointwise [k0_pay3]

theorem next_row (v : FVec Ideal S2048x256 .f32) (w : FVec Ideal S1x256 .f32) (j : Fin 1) (l : Fin 256) :
    k0_pay4 (F := Ideal) v w (ix2 j l) = w (ix2 j l) + ∑ r : Fin 2048, v (ix2 r l) := by
  pointwise [k0_pay4, k0_pay3]

/-- What one batch adds to the gradient of the bias. -/
def dbTerm (t : Fin cfg0.N) (j : S1x256.Idx) : EReal := ∑ r : Fin 2048, (show EReal from iblk m c 1 t (ix2 r (j 1)))

theorem db_sum (t : Fin cfg0.N) (hr : t.val % 4 = 3) (j : S1x256.Idx) : (outsAt0 m c t.val t.isLt).2.2 j
    = ∑ s : Fin 4, dbTerm m c ⟨4 * (t.val / 4) + s.val, by have := t.isLt; have : cfg0.N = 16 := N_0; omega⟩ j := by
  rw [Pipeline.eq_sum_fin_of_reset_step_apply_of_flush (fun n h => (outsAt0 m c n h).2.2) 4 (fun _ => 0) (dbTerm m c)
    (fun t h j => by
      rw [zero_add]
      by_cases h0 : t.val < 8
      · rw [outsAt0_A m c t h0 h (by omega) (by omega) (by omega) (by omega)]; frame_out
        rw [eq_ix2 j]; exact first_row _ _ _
      · rw [outsAt0_C m c t h0 (by omega) h (by omega) (by omega) (by omega)]; frame_out
        rw [eq_ix2 j]; exact first_row _ _ _)
    (fun t h j => by
      by_cases h0 : t.val < 8
      · rw [outsAt0_B m c t h0 h (by omega) (by omega) (by omega) (by omega)]; frame_out
        rw [eq_ix2 j]; exact next_row _ _ _ _
      · rw [outsAt0_D m c t h0 (by omega) h (by omega) (by omega) (by omega)]; frame_out
        rw [eq_ix2 j]; exact next_row _ _ _ _) t hr j, zero_add]

theorem db_at (t : Fin cfg0.N) (j : Fin 1) (l : Fin 256) :
    ∑ s : Fin 4, dbTerm m c ⟨4 * (t.val / 4) + s.val, by have := t.isLt; have : cfg0.N = 16 := N_0; omega⟩ (ix2 j l)
      = val_main_v36 (F := Ideal) (m ((c : Thread nD τ).loc main_arg1)) (ix2 j (col t l)) := by
  have ht : t.val < 16 := lt_of_lt_of_eq t.isLt N_0
  rw [db_ref, Fin.sum_univ_tiles 4 2048 rfl]
  refine Finset.sum_congr rfl fun s _ => Finset.sum_congr rfl fun r _ => ?_
  refine (blk_d m c _ r l).trans (congrArg _ ?_)
  refine congrArg₂ ix2 (Fin.ext ?_) (Fin.ext ?_)
  · show (4 * (t.val / 4) + s.val) % 4 * 2048 + r.val = s.val * 2048 + r.val; omega
  · show (4 * (t.val / 4) + s.val) / 4 * 256 + l.val = t.val / 4 * 256 + l.val; omega

theorem final_db : (dats m 0 c).arrAt 5 (cfgs 0).N
    = val_main_v36 (F := Ideal) (m ((c : Thread nD τ).loc main_arg1)) := by
  refine (dats m 0 c).arrAt_eq_of_covers 5 _ (by decide +kernel) fun t hf y => ?_
  have hr : t.val % 4 = 3 := by have := (Gen.flush0_5 t).mp hf; omega
  blk_simp
  rw [after0_5]
  refine (db_sum m c t hr y).trans ?_
  have he : ((cfg0.win 5).blk t).view.emb y = ix2 (y 0) (col t (y 1)) := by blk_ext [idx t]
  rw [he, eq_ix2 y]
  exact db_at m c t (y 0) (y 1)

end Cert.AxialIdeal.Value

end

end
-- ==== Proof.AxialClaim.lean ====
module

public import proofs.«01_k».proof.Defs
public import proofs.«01_k».proof.Proof.AxialValue
public import proofs.«01_k».proof.Proof.Gen.AxialIdeal.Value
public import proofs.«01_k».proof.Proof.Gen.AxialRefIdeal.Run
public import proofs.«01_k».proof.Proof.Gen.AxialRefIdeal.Read

@[expose] public section

set_option maxRecDepth 16384

noncomputable section

open Idealize.ShloMosaic Idealize.ShloMosaic.TcCoe Idealize.SL.Sem

namespace Cert.AxialIdeal.Value

open Cert.AxialIdeal Cert.AxialIdeal.Gen Cert.AxialRefIdeal.Read

/-- The backward pass of the axial convolutions: the kernel's three results are the reference's. -/
theorem algebraic :
    Cert.algebraic_AxialIdeal_AxialRefIdeal (hAxialIdeal := Cert.AxialIdeal.Gen.facts) (hAxialRefIdeal := Cert.AxialRefIdeal.Gen.facts) := by
  intro m g m' g' _ hagree
  refine ⟨fun c => val_main_v62 (F := Ideal) (m ((c : Thread nD τ).loc main_arg1)) (m ((c : Thread nD τ).loc main_arg2)),
    fun c => val_main_v59 (F := Ideal) (m ((c : Thread nD τ).loc main_arg0)) (m ((c : Thread nD τ).loc main_arg1)),
    fun c => val_main_v36 (F := Ideal) (m ((c : Thread nD τ).loc main_arg1)), ?_, ?_⟩
  · run_from Cert.AxialIdeal.Gen.run_main m g
    · exact final_du m c
    · exact final_dw m c
    · exact final_db m c
  · refine θ_run_mono (Cert.AxialRefIdeal.Value.run m' g') fun r h c => ?_
    obtain ⟨h0, h1, h2, a⟩ := h c
    obtain ⟨e0, e1, e2⟩ := hagree c
    refine ⟨h0.trans ?_, h1.trans ?_, h2.trans ?_, a⟩
    · rw [val_main_v62_eq, e1, e2]
    · rw [val_main_v59_eq, e0, e1]
    · rw [val_main_v36_eq, e1]

/-- The reference keeps its arguments and leaves no counter raised. -/
theorem frame_ref : Cert.quiescent_AxialRefIdeal (hAxialRefIdeal := Cert.AxialRefIdeal.Gen.facts) := fun m ρ _ =>
  (θ_run Cert.AxialRefIdeal.defs _ _).mono (fun r h => ⟨fun c => (h c).2.2.2, Idealize.ShloMosaic.sem_eq_zero_of_no_sems (by decide) r.2⟩)
    (Cert.AxialRefIdeal.Value.run (F := Ideal) m ρ)

end Cert.AxialIdeal.Value

end

end
-- ==== Proof.LnRow.lean ====
module

public import proofs.«01_k».proof.Proof.Gen.LnIdeal.Skeleton
public import proofs.«01_k».proof.Proof.Gen.LnRefIdeal.Read
public import Idealize.ShloMosaic.Lib.Pointwise

@[expose] public section

set_option maxRecDepth 16384

noncomputable section

open Idealize.ShloMosaic Idealize.ShloMosaic.TcCoe Idealize.SL.Sem

namespace Cert.LnIdeal.Value

open Cert.LnIdeal Cert.LnIdeal.Gen Cert.LnRefIdeal.Read

theorem centre_row (X : FVec Ideal S512x1024 .f32) (A : FVec Ideal Cert.LnRefIdeal.S8192x1024 .f32)
    (r : Fin 512) (R : Fin 8192) (l : Fin 1024) (hX : ∀ k : Fin 1024, X (ix2 r k) = A (ix2 R k)) :
    k0_pay5 (F := Ideal) X (ix2 r l) = val_main_v14 (F := Ideal) A (ix2 R l) := by
  pointwise [k0_pay2, k0_pay5, val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, hX]

theorem twice_row (X : FVec Ideal S512x1024 .f32) (A : FVec Ideal Cert.LnRefIdeal.S8192x1024 .f32)
    (r : Fin 512) (R : Fin 8192) (l : Fin 1024) (hX : ∀ k : Fin 1024, X (ix2 r k) = A (ix2 R k)) :
    k0_pay4 (F := Ideal) X (ix2 r l) = val_main_v8 (F := Ideal) A (ix2 R l) := by
  pointwise [k0_pay2, k0_pay3, k0_pay4, val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, hX]

theorem rstd_row (X : FVec Ideal S512x1024 .f32) (A : FVec Ideal Cert.LnRefIdeal.S8192x1024 .f32)
    (r : Fin 512) (R : Fin 8192) (l : Fin 1) (hX : ∀ k : Fin 1024, X (ix2 r k) = A (ix2 R k)) :
    k0_pay7 (F := Ideal) X (ix2 r l) = val_main_v17 (F := Ideal) A (ix2 R l) := by
  pointwise [k0_pay2, k0_pay3, k0_pay6, k0_pay7, val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, hX]

theorem drstd_row (X : FVec Ideal S512x1024 .f32) (A : FVec Ideal Cert.LnRefIdeal.S8192x1024 .f32)
    (r : Fin 512) (R : Fin 8192) (l : Fin 1) (hX : ∀ k : Fin 1024, X (ix2 r k) = A (ix2 R k)) :
    k0_pay8 (F := Ideal) X (ix2 r l) = val_main_v20 (F := Ideal) A (ix2 R l) := by
  pointwise [k0_pay2, k0_pay3, k0_pay6, k0_pay7, k0_pay8, val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, hX]

theorem norm_row (X : FVec Ideal S512x1024 .f32) (A : FVec Ideal Cert.LnRefIdeal.S8192x1024 .f32)
    (r : Fin 512) (R : Fin 8192) (l : Fin 1024) (hX : ∀ k : Fin 1024, X (ix2 r k) = A (ix2 R k)) :
    k0_pay9 (F := Ideal) X (ix2 r l) = val_main_v22 (F := Ideal) A (ix2 R l) := by
  pointwise [k0_pay2, k0_pay3, k0_pay5, k0_pay6, k0_pay7, k0_pay9, val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, hX]

theorem silu_row (X : FVec Ideal S512x1024 .f32) (w b : FVec Ideal S1x1024 .f32) (G : FVec Ideal S512x1024 .f32)
    (A : FVec Ideal Cert.LnRefIdeal.S8192x1024 .f32) (D : FVec Ideal Cert.LnRefIdeal.S8192x2048 .f32)
    (r : Fin 512) (R : Fin 8192) (l : Fin 1024) (hX : ∀ k : Fin 1024, X (ix2 r k) = A (ix2 R k))
    (hG : ∀ k : Fin 1024, G (ix2 r k) = D (ix2 R ⟨1024 + k, by omega⟩)) :
    k0_pay10 (F := Ideal) X w b G (ix2 r l) = val_main_v29 (F := Ideal) A w b D (ix2 R l) := by
  pointwise [k0_pay10, Ideal.logistic, norm_row X A r R l hX, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_v28, val_main_call1_v0, val_main_call1_v1, val_main_call1_v2, val_main_v29, hG]

theorem du_row (w : FVec Ideal S1x1024 .f32) (p4 p5 : FVec Ideal S512x1024 .f32) (p7 p8 : FVec Ideal S512x1 .f32) (p10 : FVec Ideal S512x1024 .f32)
    (b : FVec Ideal S1x1024 .f32) (A : FVec Ideal Cert.LnRefIdeal.S8192x1024 .f32) (D : FVec Ideal Cert.LnRefIdeal.S8192x2048 .f32)
    (r : Fin 512) (R : Fin 8192) (l : Fin 1024)
    (h4 : ∀ k : Fin 1024, p4 (ix2 r k) = val_main_v8 (F := Ideal) A (ix2 R k))
    (h5 : ∀ k : Fin 1024, p5 (ix2 r k) = val_main_v14 (F := Ideal) A (ix2 R k))
    (h7 : ∀ k : Fin 1, p7 (ix2 r k) = val_main_v17 (F := Ideal) A (ix2 R k))
    (h8 : ∀ k : Fin 1, p8 (ix2 r k) = val_main_v20 (F := Ideal) A (ix2 R k))
    (h10 : ∀ k : Fin 1024, p10 (ix2 r k) = val_main_v29 (F := Ideal) A w b D (ix2 R k)) :
    k0_pay13 (F := Ideal) w p4 p5 p7 p8 p10 (ix2 r l) = val_main_v60 (F := Ideal) A w b D (ix2 R l) := by
  pointwise [k0_pay13, zero_sub, val_main_v35, val_main_v36, val_main_v37, val_main_cst_8, val_main_v38, val_main_v39, val_main_v40, val_main_v41, val_main_v42, val_main_v43, val_main_cst_9, val_main_v44, val_main_v45, val_main_cst_10, val_main_v46, val_main_v47, val_main_cst_11, val_main_v48, val_main_v49, val_main_v50, val_main_v51, val_main_cst_12, val_main_v52, val_main_v53, val_main_v54, val_main_v55, val_main_cst_13, val_main_v56, val_main_v57, val_main_cst_14, val_main_v58, val_main_v59, val_main_v60, h4, h5, h7, h8, h10]

theorem dw_col (p9 p10 : FVec Ideal S512x1024 .f32) (w b : FVec Ideal S1x1024 .f32)
    (A : FVec Ideal Cert.LnRefIdeal.S8192x1024 .f32) (D : FVec Ideal Cert.LnRefIdeal.S8192x2048 .f32)
    (R : Fin 512 → Fin 8192) (i : Fin 1) (l : Fin 1024)
    (h9 : ∀ (r : Fin 512) (k : Fin 1024), p9 (ix2 r k) = val_main_v22 (F := Ideal) A (ix2 (R r) k))
    (h10 : ∀ (r : Fin 512) (k : Fin 1024), p10 (ix2 r k) = val_main_v29 (F := Ideal) A w b D (ix2 (R r) k)) :
    k0_pay12 (F := Ideal) p9 p10 (ix2 i l)
      = ∑ r : Fin 512, val_main_v22 (F := Ideal) A (ix2 (R r) l) * val_main_v29 (F := Ideal) A w b D (ix2 (R r) l) := by
  pointwise [k0_pay12, h9, h10]

theorem db_col (X : FVec Ideal S512x1024 .f32) (w b : FVec Ideal S1x1024 .f32) (G : FVec Ideal S512x1024 .f32)
    (A : FVec Ideal Cert.LnRefIdeal.S8192x1024 .f32) (D : FVec Ideal Cert.LnRefIdeal.S8192x2048 .f32)
    (R : Fin 512 → Fin 8192) (i : Fin 1) (l : Fin 1024)
    (h10 : ∀ (r : Fin 512) (k : Fin 1024), k0_pay10 (F := Ideal) X w b G (ix2 r k) = val_main_v29 (F := Ideal) A w b D (ix2 (R r) k)) :
    k0_pay11 (F := Ideal) X w b G (ix2 i l) = ∑ r : Fin 512, val_main_v29 (F := Ideal) A w b D (ix2 (R r) l) := by
  pointwise [k0_pay11, h10]

theorem dw_ref (A : FVec Ideal Cert.LnRefIdeal.S8192x1024 .f32) (w b : FVec Ideal S1x1024 .f32)
    (D : FVec Ideal Cert.LnRefIdeal.S8192x2048 .f32) (i : Fin 1) (l : Fin 1024) :
    val_main_v34 (F := Ideal) A w b D (ix2 i l)
      = ∑ r : Fin 8192, val_main_v22 (F := Ideal) A (ix2 r l) * val_main_v29 (F := Ideal) A w b D (ix2 r l) := by
  pointwise [val_main_v34, val_main_v33, val_main_v32, val_main_cst_7]

theorem db_ref (A : FVec Ideal Cert.LnRefIdeal.S8192x1024 .f32) (w b : FVec Ideal S1x1024 .f32)
    (D : FVec Ideal Cert.LnRefIdeal.S8192x2048 .f32) (i : Fin 1) (l : Fin 1024) :
    val_main_v31 (F := Ideal) A w b D (ix2 i l) = ∑ r : Fin 8192, val_main_v29 (F := Ideal) A w b D (ix2 r l) := by
  pointwise [val_main_v31, val_main_v30, val_main_cst_6]

end Cert.LnIdeal.Value

end
-- ==== Proof.LnValue.lean ====
module

public import proofs.«01_k».proof.Proof.Gen.LnIdeal.Value
public import proofs.«01_k».proof.Proof.LnRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LnIdeal.Value

open Cert.LnIdeal Cert.LnIdeal.Gen Cert.LnRefIdeal.Read

variable (m : (ℓ : Loc nD τ sig) → Buf (Elt Ideal) ℓ) (c : Dev nD)

/-- Every window's block index at every grid point. -/
theorem idx : ∀ t : Fin cfg0.N, win0_0.index t = ![t.val, 0]
    ∧ win0_1.index t = ![0, 0]
    ∧ win0_2.index t = ![0, 0]
    ∧ win0_3.index t = ![t.val, 1]
    ∧ win0_4.index t = ![t.val, 0]
    ∧ win0_5.index t = ![0, 0]
    ∧ win0_6.index t = ![0, 0] :=
  (by decide +kernel : ∀ t : Fin grid0.N, _)

/-- Row `r` of block `t` in the whole array. -/
abbrev row (t : Fin cfg0.N) (r : Fin 512) : Fin 8192 := ⟨t.val * 512 + r, by have := t.isLt; have : cfg0.N = 16 := N_0; omega⟩

theorem blk_u (t : Fin cfg0.N) (r : Fin 512) (k : Fin 1024) :
    iblk m c 0 t (ix2 r k) = m ((c : Thread nD τ).loc main_arg0) (ix2 (row t r) k) := by
  blk_ext [iblk, V, idx t]

theorem blk_d (t : Fin cfg0.N) (r : Fin 512) (k : Fin 1024) :
    iblk m c 3 t (ix2 r k) = m ((c : Thread nD τ).loc main_arg3) (ix2 (row t r) ⟨1024 + k, by omega⟩) := by
  blk_ext [iblk, V, idx t]

theorem blk_w (t : Fin cfg0.N) : iblk m c 1 t = m ((c : Thread nD τ).loc main_arg1) := by
  blk_ext! [iblk, V, idx t]

theorem blk_b (t : Fin cfg0.N) : iblk m c 2 t = m ((c : Thread nD τ).loc main_arg2) := by
  blk_ext! [iblk, V, idx t]

theorem point_du (t : Fin cfg0.N) (y) : (outsAt0 m c t.val t.isLt).1 y
    = val_main_v60 (F := Ideal) (m ((c : Thread nD τ).loc main_arg0)) (m ((c : Thread nD τ).loc main_arg1))
        (m ((c : Thread nD τ).loc main_arg2)) (m ((c : Thread nD τ).loc main_arg3)) (((cfg0.win 4).blk t).view.emb y) := by
  have key : ∀ (r : Fin 512) (l : Fin 1024), k0_pay13 (F := Ideal) (iblk m c 1 t) (k0_pay4 (iblk m c 0 t)) (k0_pay5 (iblk m c 0 t)) (k0_pay7 (iblk m c 0 t))
      (k0_pay8 (iblk m c 0 t)) (k0_pay10 (iblk m c 0 t) (iblk m c 1 t) (iblk m c 2 t) (iblk m c 3 t)) (ix2 r l) =
        val_main_v60 (F := Ideal) (m ((c : Thread nD τ).loc main_arg0)) (m ((c : Thread nD τ).loc main_arg1))
        (m ((c : Thread nD τ).loc main_arg2)) (m ((c : Thread nD τ).loc main_arg3)) (ix2 (row t r) l) := fun r l => by
    rw [blk_w, blk_b]
    have hX := blk_u m c t r
    have hG := blk_d m c t r
    exact du_row _ _ _ _ _ _ _ _ _ r (row t r) l (fun k => twice_row _ _ r _ k hX) (fun k => centre_row _ _ r _ k hX)
      (fun k => rstd_row _ _ r _ k hX) (fun k => drstd_row _ _ r _ k hX) (fun k => silu_row _ _ _ _ _ _ r _ k hX hG)
  have he : ((cfg0.win 4).blk t).view.emb y = ix2 (row t (y 0)) (y 1) := by blk_ext [idx t]
  rw [he]
  have ht : t.val < 16 := lt_of_lt_of_eq t.isLt N_0
  by_cases h : t.val % 16 = 0
  · rw [outsAt0_A m c t h (by omega) h (by omega)]
    frame_out
    rw [eq_ix2 y]
    exact key (y 0) (y 1)
  · rw [outsAt0_B m c t h (by omega) h (by omega)]
    frame_out
    rw [eq_ix2 y]
    exact key (y 0) (y 1)

theorem final_du : (dats m 0 c).arrAt 4 (cfgs 0).N
    = val_main_v60 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point_du m c t y

theorem dw_part (t : Fin cfg0.N) (j : S1x1024.Idx) :
    k0_pay12 (F := Ideal) (k0_pay9 (iblk m c 0 t)) (k0_pay10 (iblk m c 0 t) (iblk m c 1 t) (iblk m c 2 t) (iblk m c 3 t)) j
      = ∑ k : Fin 512, val_main_v22 (F := Ideal) (m ((c : Thread nD τ).loc main_arg0)) (ix2 (row t k) (j 1)) * val_main_v29 (F := Ideal) (m ((c : Thread nD τ).loc main_arg0)) (m ((c : Thread nD τ).loc main_arg1)) (m ((c : Thread nD τ).loc main_arg2)) (m ((c : Thread nD τ).loc main_arg3)) (ix2 (row t k) (j 1)) := by
  rw [blk_w, blk_b, eq_ix2 j]
  exact dw_col _ _ _ _ _ _ (row t) (j 0) (j 1) (fun r k => norm_row _ _ r _ k (blk_u m c t r)) (fun r k => silu_row _ _ _ _ _ _ r _ k (blk_u m c t r) (blk_d m c t r))

theorem final_dw : (dats m 0 c).arrAt 5 (cfgs 0).N
    = val_main_v34 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0)
    (fun t j => ∑ k : Fin 512, val_main_v22 (F := Ideal) (m ((c : Thread nD τ).loc main_arg0)) (ix2 (row t k) (j 1)) * val_main_v29 (F := Ideal) (m ((c : Thread nD τ).loc main_arg0)) (m ((c : Thread nD τ).loc main_arg1)) (m ((c : Thread nD τ).loc main_arg2)) (m ((c : Thread nD τ).loc main_arg3)) (ix2 (row t k) (j 1)))
    (fun t h j => by
      have ht : t.val < 16 := lt_of_lt_of_eq t.isLt N_0
      rw [outsAt0_A m c t h (by omega) h (by omega)]; frame_out
      rw [zero_add]; exact dw_part m c t j)
    (fun t h j => by
      have ht : t.val < 16 := lt_of_lt_of_eq t.isLt N_0
      rw [outsAt0_B m c t h (by omega) h (by omega)]; frame_out
      pointwise [k0_pay14]
      exact congrArg _ (dw_part m c t j))
    (le_of_eq N_0) t0_15 rfl j, zero_add]
  refine Eq.trans ?_ (dw_ref _ _ _ _ (j 0) (j 1)).symm
  refine Fin.sum_mul_add_congr fun s k hl => ?_
  rfl

theorem db_part (t : Fin cfg0.N) (j : S1x1024.Idx) :
    k0_pay11 (F := Ideal) (iblk m c 0 t) (iblk m c 1 t) (iblk m c 2 t) (iblk m c 3 t) j
      = ∑ k : Fin 512, val_main_v29 (F := Ideal) (m ((c : Thread nD τ).loc main_arg0)) (m ((c : Thread nD τ).loc main_arg1)) (m ((c : Thread nD τ).loc main_arg2)) (m ((c : Thread nD τ).loc main_arg3)) (ix2 (row t k) (j 1)) := by
  rw [blk_w, blk_b, eq_ix2 j]
  exact db_col _ _ _ _ _ _ (row t) (j 0) (j 1) (fun r k => silu_row _ _ _ _ _ _ r _ k (blk_u m c t r) (blk_d m c t r))

theorem final_db : (dats m 0 c).arrAt 6 (cfgs 0).N
    = val_main_v31 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun t j => ∑ k : Fin 512, val_main_v29 (F := Ideal) (m ((c : Thread nD τ).loc main_arg0)) (m ((c : Thread nD τ).loc main_arg1)) (m ((c : Thread nD τ).loc main_arg2)) (m ((c : Thread nD τ).loc main_arg3)) (ix2 (row t k) (j 1)))
    (fun t h j => by
      have ht : t.val < 16 := lt_of_lt_of_eq t.isLt N_0
      rw [outsAt0_A m c t h (by omega) h (by omega)]; frame_out
      rw [zero_add]; exact db_part m c t j)
    (fun t h j => by
      have ht : t.val < 16 := lt_of_lt_of_eq t.isLt N_0
      rw [outsAt0_B m c t h (by omega) h (by omega)]; frame_out
      pointwise [k0_pay1]
      exact congrArg _ (db_part m c t j))
    (le_of_eq N_0) t0_15 rfl j, zero_add]
  refine Eq.trans ?_ (db_ref _ _ _ _ (j 0) (j 1)).symm
  refine Fin.sum_mul_add_congr fun s k hl => ?_
  rfl

end Cert.LnIdeal.Value

end
-- ==== Proof.LnClaim.lean ====
module

public import proofs.«01_k».proof.Defs
public import proofs.«01_k».proof.Proof.LnValue
public import proofs.«01_k».proof.Proof.Gen.LnIdeal.Value
public import proofs.«01_k».proof.Proof.Gen.LnRefIdeal.Run
public import proofs.«01_k».proof.Proof.Gen.LnRefIdeal.Read

@[expose] public section

set_option maxRecDepth 16384

noncomputable section

open Idealize.ShloMosaic Idealize.ShloMosaic.TcCoe Idealize.SL.Sem

namespace Cert.LnIdeal.Value

open Cert.LnIdeal Cert.LnIdeal.Gen Cert.LnRefIdeal.Read

/-- The backward pass of the normalisation and its gate: the kernel's three results are the
reference's. -/
theorem algebraic :
    Cert.algebraic_LnIdeal_LnRefIdeal (hLnIdeal := Cert.LnIdeal.Gen.facts) (hLnRefIdeal := Cert.LnRefIdeal.Gen.facts) := by
  intro m g m' g' _ hagree
  refine ⟨fun c => val_main_v60 (F := Ideal) (m ((c : Thread nD τ).loc main_arg0)) (m ((c : Thread nD τ).loc main_arg1))
        (m ((c : Thread nD τ).loc main_arg2)) (m ((c : Thread nD τ).loc main_arg3)),
    fun c => val_main_v34 (F := Ideal) (m ((c : Thread nD τ).loc main_arg0)) (m ((c : Thread nD τ).loc main_arg1))
        (m ((c : Thread nD τ).loc main_arg2)) (m ((c : Thread nD τ).loc main_arg3)),
    fun c => val_main_v31 (F := Ideal) (m ((c : Thread nD τ).loc main_arg0)) (m ((c : Thread nD τ).loc main_arg1))
        (m ((c : Thread nD τ).loc main_arg2)) (m ((c : Thread nD τ).loc main_arg3)), ?_, ?_⟩
  · run_from Cert.LnIdeal.Gen.run_main m g
    · exact final_du m c
    · exact final_dw m c
    · exact final_db m c
  · refine θ_run_mono (Cert.LnRefIdeal.Value.run m' g') fun r h c => ?_
    obtain ⟨h0, h1, h2, a⟩ := h c
    obtain ⟨e0, e1, e2, e3⟩ := hagree c
    refine ⟨h0.trans ?_, h1.trans ?_, h2.trans ?_, a⟩
    · rw [val_main_v60_eq, e0, e1, e2, e3]
    · rw [val_main_v34_eq, e0, e1, e2, e3]
    · rw [val_main_v31_eq, e0, e1, e2, e3]

/-- The reference keeps its arguments and leaves no counter raised. -/
theorem frame_ref : Cert.quiescent_LnRefIdeal (hLnRefIdeal := Cert.LnRefIdeal.Gen.facts) := fun m ρ _ =>
  (θ_run Cert.LnRefIdeal.defs _ _).mono (fun r h => ⟨fun c => (h c).2.2.2, Idealize.ShloMosaic.sem_eq_zero_of_no_sems (by decide) r.2⟩)
    (Cert.LnRefIdeal.Value.run (F := Ideal) m ρ)

end Cert.LnIdeal.Value

end

end
-- ==== Proof.DwdValue.lean ====
module

public import proofs.«01_k».proof.Proof.Gen.DwdIdeal.Value
public import proofs.«01_k».proof.Proof.Gen.DwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwdIdeal.Value

open Cert.DwdIdeal Cert.DwdIdeal.Gen Cert.DwdRefIdeal.Read

variable (m : (ℓ : Loc nD τ sig) → Buf (Elt Ideal) ℓ) (c : Dev nD)

/-- Every window's block index at every grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of a tile, entry by entry. -/
theorem tile (v0 v1) (j : S1408x1024.Idx) :
    k0_pay1 (F := Ideal) v0 v1 j = ∑ k : Fin 2048, v0 (ix2 k (j 0)) * v1 (ix2 k (j 1)) := by
  pointwise [k0_pay1]

/-- At the first tile of a run the accumulator is the tile's product. -/
theorem fresh (v0 v1) (j : S1408x1024.Idx) :
    k0_pay2 (F := Ideal) v0 v1 j = ∑ k : Fin 2048, v0 (ix2 k (j 0)) * v1 (ix2 k (j 1)) := by
  pointwise [k0_pay2, k0_pay1]

/-- At the later ones the tile's product is added to it. -/
theorem added (v0 v1 acc) (j : S1408x1024.Idx) :
    k0_pay3 (F := Ideal) v0 v1 acc j = acc j + ∑ k : Fin 2048, v0 (ix2 k (j 0)) * v1 (ix2 k (j 1)) := by
  pointwise [k0_pay3, k0_pay1]

/-- What the reference computes, entry by entry. -/
theorem ref_at (x0 x1) (j) :
    val_main_v5 (F := Ideal) x0 x1 j = ∑ k : Fin 8192, x0 (ix2 k (j 0)) * x1 (ix2 k (j 1)) := by
  have e : val_main_v5 (F := Ideal) x0 x1 j = ∑ k : Fin 8192, x1 (ix2 k (j 1)) * x0 (ix2 k (j 0)) := by
    pointwise [val_main_v5, val_main_v4, val_main_v3, val_main_v1]
  exact e.trans (Finset.sum_congr rfl fun k _ => mul_comm _ _)

/-- The point that ends a run writes back what the accumulator holds. -/
theorem stored (t : Fin cfg0.N) (h : t.val % 4 = 3) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega) (by omega)]; frame_out; rw [fresh, zero_add])
    (fun t h j => by
      by_cases h3 : t.val % 4 = 3
      · rw [outsAt0_C m c t h (by omega) h3]; frame_out; rw [added, (Memref.isWhole_whole _).read_unread]
      · rw [outsAt0_B m c t h (by omega) h3]; frame_out; rw [added, (Memref.isWhole_whole _).read_unread])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.DwdIdeal.Value

end

end
-- ==== Proof.DwdClaim.lean ====
module

public import proofs.«01_k».proof.Defs
public import proofs.«01_k».proof.Proof.DwdValue
public import proofs.«01_k».proof.Proof.Gen.DwdIdeal.Value
public import proofs.«01_k».proof.Proof.Gen.DwdRefIdeal.Run
public import proofs.«01_k».proof.Proof.Gen.DwdRefIdeal.Read

@[expose] public section

set_option maxRecDepth 16384

noncomputable section

open Idealize.ShloMosaic Idealize.ShloMosaic.TcCoe Idealize.SL.Sem

namespace Cert.DwdIdeal.Value

open Cert.DwdIdeal Cert.DwdIdeal.Gen Cert.DwdRefIdeal.Read

/-- The gradient of the second matrix of a feed-forward block: the kernel's result is the reference's. -/
theorem algebraic :
    Cert.algebraic_DwdIdeal_DwdRefIdeal (hDwdIdeal := Cert.DwdIdeal.Gen.facts) (hDwdRefIdeal := Cert.DwdRefIdeal.Gen.facts) := by
  intro m g m' g' _ hagree
  refine ⟨fun c => val_main_v5 (F := Ideal) (m ((c : Thread nD τ).loc main_arg0)) (m ((c : Thread nD τ).loc main_arg1)), ?_, ?_⟩
  · run_from Cert.DwdIdeal.Gen.run_main m g
    exact final m c
  · refine θ_run_mono (Cert.DwdRefIdeal.Value.run m' g') fun r h c => ?_
    obtain ⟨h0, a⟩ := h c
    obtain ⟨e0, e1⟩ := hagree c
    refine ⟨h0.trans ?_, a⟩
    rw [val_main_v5_eq, e0, e1]

/-- The reference keeps its arguments and leaves no counter raised. -/
theorem frame_ref : Cert.quiescent_DwdRefIdeal (hDwdRefIdeal := Cert.DwdRefIdeal.Gen.facts) := fun m ρ _ =>
  (θ_run Cert.DwdRefIdeal.defs _ _).mono (fun r h => ⟨fun c => (h c).2, Idealize.ShloMosaic.sem_eq_zero_of_no_sems (by decide) r.2⟩)
    (Cert.DwdRefIdeal.Value.run (F := Ideal) m ρ)

end Cert.DwdIdeal.Value

end

end
-- ==== Proof.Tiles.lean ====
module

public import Idealize.ShloMosaic.Lib.Pipeline.ValueKit

@[expose] public section

open Idealize.ShloMosaic

namespace Cert.Tiles

/-! Sums over columns that are laid out in another order. -/

/-- Columns laid out in two tiles, each a tile of `G` and then the same tile of `U`: their sum is the sum of all of `G`
and all of `U`. -/
theorem gate_up_sum (G U : Fin 2816 → EReal) (f : Fin 2 → Fin 2816 → EReal)
    (hG : ∀ (s : Fin 2) (k : Fin 1408), f s ⟨k, by omega⟩ = G ⟨s * 1408 + k, by omega⟩)
    (hU : ∀ (s : Fin 2) (k : Fin 1408), f s ⟨1408 + k, by omega⟩ = U ⟨s * 1408 + k, by omega⟩) :
    ∑ s, ∑ k, f s k = ∑ k, U k + ∑ k, G k := by
  have e : ∀ s, ∑ k, f s k = ∑ k : Fin 1408, G ⟨s * 1408 + k, by omega⟩ + ∑ k : Fin 1408, U ⟨s * 1408 + k, by omega⟩ := fun s => by
    rw [show ∑ k, f s k = ∑ k : Fin (1408 + 1408), f s k from rfl, Fin.sum_univ_add]
    exact congrArg₂ (· + ·) (Finset.sum_congr rfl fun k _ => hG s k) (Finset.sum_congr rfl fun k _ => hU s k)
  rw [Finset.sum_congr rfl fun s _ => e s, Finset.sum_add_distrib, Fin.sum_mul_add_fin 2 1408 G, Fin.sum_mul_add_fin 2 1408 U, add_comm]

/-- Columns laid out as the second, (480 of nothing,) the third and the first part of `g`. -/
theorem padded_sum (f : Fin 5120 → EReal) (g : Fin 4640 → EReal)
    (hx : ∀ k : Fin 1568, f ⟨k, by omega⟩ = g ⟨1024 + k, by omega⟩)
    (h0 : ∀ k : Fin 480, f ⟨1568 + k, by omega⟩ = 0)
    (hg : ∀ k : Fin 2048, f ⟨2048 + k, by omega⟩ = g ⟨2592 + k, by omega⟩)
    (hz : ∀ k : Fin 1024, f ⟨4096 + k, by omega⟩ = g ⟨k, by omega⟩) :
    ∑ k, f k = ∑ k, g k := by
  rw [show ∑ k, f k = ∑ k : Fin (1568 + 480 + 2048 + 1024), f k from rfl, Fin.sum_univ_add, Fin.sum_univ_add, Fin.sum_univ_add,
    show ∑ k, g k = ∑ k : Fin (1024 + 1568 + 2048), g k from rfl, Fin.sum_univ_add, Fin.sum_univ_add]
  have e0 := (Finset.sum_congr rfl fun k _ => h0 k : ∑ k : Fin 480, f ⟨1568 + k, by omega⟩ = ∑ k : Fin 480, 0)
  have ex := (Finset.sum_congr rfl fun k _ => hx k : ∑ k : Fin 1568, f ⟨k, by omega⟩ = ∑ k : Fin 1568, g ⟨1024 + k, by omega⟩)
  have eg := (Finset.sum_congr rfl fun k _ => hg k : ∑ k : Fin 2048, f ⟨2048 + k, by omega⟩ = ∑ k : Fin 2048, g ⟨2592 + k, by omega⟩)
  have ez := (Finset.sum_congr rfl fun k _ => hz k : ∑ k : Fin 1024, f ⟨4096 + k, by omega⟩ = ∑ k : Fin 1024, g ⟨k, by omega⟩)
  rw [Finset.sum_const_zero] at e0
  refine (congrArg₂ (· + ·) (congrArg₂ (· + ·) (congrArg₂ (· + ·) ex e0) eg) ez).trans ?_
  rw [add_zero, add_comm, ← add_assoc]
  rfl

end Cert.Tiles

end
-- ==== Proof.DhValue.lean ====
module

public import proofs.«01_k».proof.Proof.Gen.DhIdeal.Value
public import proofs.«01_k».proof.Proof.Gen.DhRefIdeal.Read
public import proofs.«01_k».proof.Proof.Tiles
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DhIdeal.Value

open Cert.DhIdeal Cert.DhIdeal.Gen Cert.DhRefIdeal.Read

variable (m : (ℓ : Loc nD τ sig) → Buf (Elt Ideal) ℓ) (c : Dev nD)

/-- Every window's block index at every grid point. -/
theorem idx : ∀ t : Fin cfg0.N, win0_0.index t = ![t.val / 2, t.val % 2]
    ∧ win0_1.index t = ![0, t.val % 2]
    ∧ win0_2.index t = ![t.val / 2, 0] :=
  (by decide +kernel : ∀ t : Fin grid0.N, _)

/-- The gradients of gate and up matrix side by side, in two tiles. -/
def sideG (g u : FVec Ideal S8192x2816 .bf16) : FVec Ideal S8192x5632 .bf16 :=
  concatenate S8192x5632 1 [⟨S8192x1408, extractStridedSlice S8192x1408 ![0, 0] g slices_S8192x2816_S8192x1408_0_0⟩,
    ⟨S8192x1408, extractStridedSlice S8192x1408 ![0, 0] u slices_S8192x2816_S8192x1408_0_0⟩,
    ⟨S8192x1408, extractStridedSlice S8192x1408 ![0, 1408] g slices_S8192x2816_S8192x1408_0_1408⟩,
    ⟨S8192x1408, extractStridedSlice S8192x1408 ![0, 1408] u slices_S8192x2816_S8192x1408_0_1408⟩]
    concatenates_S8192x1408_S8192x1408_S8192x1408_S8192x1408_S8192x5632_d1

theorem sideG_gate (g u) (i : Fin 8192) (s : Fin 2) (k : Fin 1408) :
    sideG g u (ix2 i ⟨s * 2816 + k, by omega⟩) = g (ix2 i ⟨s * 1408 + k, by omega⟩) := by
  fin_cases s <;> pointwise [sideG] <;> split_ifs <;> first | omega | blk_ext

theorem sideG_up (g u) (i : Fin 8192) (s : Fin 2) (k : Fin 1408) :
    sideG g u (ix2 i ⟨s * 2816 + (1408 + k), by omega⟩) = u (ix2 i ⟨s * 1408 + k, by omega⟩) := by
  fin_cases s <;> pointwise [sideG] <;> split_ifs <;> first | omega | blk_ext

/-- The gate and the up matrix side by side, in two tiles. -/
def sideW (g u : FVec Ideal S1024x2816 .bf16) : FVec Ideal S1024x5632 .bf16 :=
  concatenate S1024x5632 1 [⟨S1024x1408, extractStridedSlice S1024x1408 ![0, 0] g slices_S1024x2816_S1024x1408_0_0⟩,
    ⟨S1024x1408, extractStridedSlice S1024x1408 ![0, 0] u slices_S1024x2816_S1024x1408_0_0⟩,
    ⟨S1024x1408, extractStridedSlice S1024x1408 ![0, 1408] g slices_S1024x2816_S1024x1408_0_1408⟩,
    ⟨S1024x1408, extractStridedSlice S1024x1408 ![0, 1408] u slices_S1024x2816_S1024x1408_0_1408⟩]
    concatenates_S1024x1408_S1024x1408_S1024x1408_S1024x1408_S1024x5632_d1

theorem sideW_gate (g u) (i : Fin 1024) (s : Fin 2) (k : Fin 1408) :
    sideW g u (ix2 i ⟨s * 2816 + k, by omega⟩) = g (ix2 i ⟨s * 1408 + k, by omega⟩) := by
  fin_cases s <;> pointwise [sideW] <;> split_ifs <;> first | omega | blk_ext

theorem sideW_up (g u) (i : Fin 1024) (s : Fin 2) (k : Fin 1408) :
    sideW g u (ix2 i ⟨s * 2816 + (1408 + k), by omega⟩) = u (ix2 i ⟨s * 1408 + k, by omega⟩) := by
  fin_cases s <;> pointwise [sideW] <;> split_ifs <;> first | omega | blk_ext

theorem V_grads : V m c main_v4 = sideG (m ((c : Thread nD τ).loc main_arg0)) (m ((c : Thread nD τ).loc main_arg1)) := by
  unfold V; after_results; try rfl

theorem V_mats : V m c main_v9 = sideW (m ((c : Thread nD τ).loc main_arg2)) (m ((c : Thread nD τ).loc main_arg3)) := by
  unfold V; after_results; try rfl

/-- At the first tile of a run the accumulator is the tile's product. -/
theorem fresh (v0 v1) (j : S1024x1024.Idx) :
    k0_pay2 (F := Ideal) v0 v1 j = ∑ k : Fin 2816, v0 (ix2 (j 0) k) * v1 (ix2 (j 1) k) := by
  pointwise [k0_pay2, k0_pay1]

/-- At the second its product is added to it. -/
theorem added (v0 v1 acc) (j : S1024x1024.Idx) :
    k0_pay3 (F := Ideal) v0 v1 acc j = acc j + ∑ k : Fin 2816, v0 (ix2 (j 0) k) * v1 (ix2 (j 1) k) := by
  pointwise [k0_pay3, k0_pay1]

/-- What the reference computes, entry by entry. -/
theorem ref_at (x0 x1 x2 x3) (j) :
    val_main_v9 (F := Ideal) x0 x1 x2 x3 j = ∑ k : Fin 2816, x1 (ix2 (j 0) k) * x3 (ix2 (j 1) k) + ∑ k : Fin 2816, x0 (ix2 (j 0) k) * x2 (ix2 (j 1) k) := by
  pointwise [val_main_v9, val_main_v8, val_main_v7, val_main_v6, val_main_v5, val_main_v3, val_main_v1]

/-- The point that ends a run writes back what the accumulator holds. -/
theorem stored (t : Fin cfg0.N) (h : t.val % 2 = 1) :
    (outsAt0 m c t.val t.isLt).1 = (outsAt0 m c t.val t.isLt).2 := by
  rw [outsAt0_B m c t (by omega) h h]
  dsimp only
  frame_out

/-- The kernel's result after the run is the reference's. -/
theorem final (c : Dev nD) : (dats m 0 c).arrAt 2 (cfgs 0).N
    = val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 2 (fun _ => 0) _
    (fun t h j => by rw [outsAt0_A m c t h (by omega) (by omega)]; frame_out; rw [fresh, zero_add])
    (fun t h j => by rw [outsAt0_B m c t h (by omega) (by omega)]; frame_out; rw [added, (Memref.isWhole_whole _).read_unread])
    t ((flush0_2 t).mp hf) _, zero_add, ref_at]
  refine Tiles.gate_up_sum _ _ _ (fun s k => ?_) fun s k => ?_
  · refine congrArg₂ (· * ·) (Eq.trans ?_ ((congrFun (V_grads m c) _).trans (sideG_gate _ _ _ s k))) (Eq.trans ?_ ((congrFun (V_mats m c) _).trans (sideW_gate _ _ _ s k)))
    · blk_ext [iblk, idx t, idx ⟨_, Pipeline.run_point_lt_of_flush t ((flush0_2 t).mp hf) s⟩]
    · blk_ext [iblk, idx t, idx ⟨_, Pipeline.run_point_lt_of_flush t ((flush0_2 t).mp hf) s⟩]
  · refine congrArg₂ (· * ·) (Eq.trans ?_ ((congrFun (V_grads m c) _).trans (sideG_up _ _ _ s k))) (Eq.trans ?_ ((congrFun (V_mats m c) _).trans (sideW_up _ _ _ s k)))
    · blk_ext [iblk, idx t, idx ⟨_, Pipeline.run_point_lt_of_flush t ((flush0_2 t).mp hf) s⟩]
    · blk_ext [iblk, idx t, idx ⟨_, Pipeline.run_point_lt_of_flush t ((flush0_2 t).mp hf) s⟩]

end Cert.DhIdeal.Value

end

end
-- ==== Proof.DwguValue.lean ====
module

public import proofs.«01_k».proof.Proof.Gen.DwguIdeal.Value
public import proofs.«01_k».proof.Proof.Gen.DwguRefIdeal.Read
public import proofs.«01_k».proof.Proof.DhValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwguIdeal.Value

open Cert.DwguIdeal Cert.DwguIdeal.Gen Cert.DwguRefIdeal.Read

variable (m : (ℓ : Loc nD τ sig) → Buf (Elt Ideal) ℓ) (c : Dev nD)

open Cert.DhIdeal.Value (sideG sideG_gate sideG_up)

/-- Every window's block index at every grid point. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

theorem V_h : V m c main_arg0 = m ((c : Thread nD τ).loc main_arg0) := V_main_arg0 m c

theorem V_grads : V m c main_v4 = sideG (m ((c : Thread nD τ).loc main_arg1)) (m ((c : Thread nD τ).loc main_arg2)) := by
  unfold V; after_results; try rfl

/-- At the first tile of a run the accumulator is the tile's product. -/
theorem fresh (v0 v1) (j : S1024x1408.Idx) :
    k0_pay2 (F := Ideal) v0 v1 j = ∑ k : Fin 2048, v0 (ix2 k (j 0)) * v1 (ix2 k (j 1)) := by
  pointwise [k0_pay2, k0_pay1]

/-- At the later ones the tile's product is added to it. -/
theorem added (v0 v1 acc) (j : S1024x1408.Idx) :
    k0_pay3 (F := Ideal) v0 v1 acc j = acc j + ∑ k : Fin 2048, v0 (ix2 k (j 0)) * v1 (ix2 k (j 1)) := by
  pointwise [k0_pay3, k0_pay1]

/-- The gradient of one matrix, entry by entry. -/
theorem ref_gate (x0 x1) (i : Fin 1024) (j : Fin 2816) :
    val_main_v10 (F := Ideal) x0 x1 (ix2 i j) = ∑ k : Fin 8192, x0 (ix2 k i) * x1 (ix2 k j) := by
  have e : val_main_v10 (F := Ideal) x0 x1 (ix2 i j) = ∑ k : Fin 8192, x1 (ix2 k j) * x0 (ix2 k i) := by
    pointwise [val_main_v10, val_main_v9, val_main_v5, val_main_v6, val_main_v3, val_main_v1]
  exact e.trans (Finset.sum_congr rfl fun k _ => mul_comm _ _)

theorem ref_up (x0 x2) (i : Fin 1024) (j : Fin 2816) :
    val_main_v8 (F := Ideal) x0 x2 (ix2 i j) = ∑ k : Fin 8192, x0 (ix2 k i) * x2 (ix2 k j) := by
  have e : val_main_v8 (F := Ideal) x0 x2 (ix2 i j) = ∑ k : Fin 8192, x2 (ix2 k j) * x0 (ix2 k i) := by
    pointwise [val_main_v8, val_main_v7, val_main_v5, val_main_v6, val_main_v3, val_main_v1]
  exact e.trans (Finset.sum_congr rfl fun k _ => mul_comm _ _)

/-- What the reference computes, entry by entry: the product with the matrices side by side. -/
theorem ref_at (x0 x1 x2) (i : Fin 1024) (j : Fin 5632) :
    val_main_v15 (F := Ideal) x0 x1 x2 (ix2 i j) = ∑ k : Fin 8192, x0 (ix2 k i) * sideG x1 x2 (ix2 k j) := by
  have hs : ∃ (s : Fin 2) (k : Fin 1408), j = ⟨s * 2816 + k, by omega⟩ ∨ j = ⟨s * 2816 + (1408 + k), by omega⟩ := by
    refine ⟨⟨j / 2816, by omega⟩, ⟨j % 2816 % 1408, by omega⟩, ?_⟩
    rcases Nat.lt_or_ge (j % 2816) 1408 with h | h
    · exact .inl (Fin.ext (by simp only; omega))
    · exact .inr (Fin.ext (by simp only; omega))
  obtain ⟨s, k, rfl | rfl⟩ := hs
  · rw [Finset.sum_congr rfl fun l _ => by rw [sideG_gate x1 x2 l s k], ← ref_gate]
    fin_cases s <;> pointwise [val_main_v15, val_main_v14, val_main_v13, val_main_v12, val_main_v11] <;> split_ifs <;> first | omega | blk_ext
  · rw [Finset.sum_congr rfl fun l _ => by rw [sideG_up x1 x2 l s k], ← ref_up]
    fin_cases s <;> pointwise [val_main_v15, val_main_v14, val_main_v13, val_main_v12, val_main_v11] <;> split_ifs <;> first | omega | blk_ext

/-- The point that ends a run writes back what the accumulator holds. -/
theorem stored (t : Fin cfg0.N) (h : t.val % 4 = 3) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega) (by omega)]; frame_out; rw [fresh, zero_add])
    (fun t h j => by
      by_cases h3 : t.val % 4 = 3
      · rw [outsAt0_C m c t h (by omega) h3]; frame_out; rw [added, (Memref.isWhole_whole _).read_unread]
      · rw [outsAt0_B m c t h (by omega) h3]; frame_out; rw [added, (Memref.isWhole_whole _).read_unread])
    t ((flush0_2 t).mp hf) _, zero_add]
  refine Eq.trans ?_ ((congrArg _ (eq_ix2 _)).trans (ref_at _ _ _ _ _)).symm
  refine Fin.sum_mul_add_congr fun s k hl => ?_
  refine congrArg₂ (· * ·) (Eq.trans ?_ (congrFun (V_h m c) _)) (Eq.trans ?_ (congrFun (V_grads m c) _))
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

end Cert.DwguIdeal.Value

end

end
-- ==== Proof.DwguClaim.lean ====
module

public import proofs.«01_k».proof.Defs
public import proofs.«01_k».proof.Proof.DwguValue
public import proofs.«01_k».proof.Proof.Gen.DwguIdeal.Value
public import proofs.«01_k».proof.Proof.Gen.DwguRefIdeal.Run
public import proofs.«01_k».proof.Proof.Gen.DwguRefIdeal.Read

@[expose] public section

set_option maxRecDepth 16384

noncomputable section

open Idealize.ShloMosaic Idealize.ShloMosaic.TcCoe Idealize.SL.Sem

namespace Cert.DwguIdeal.Value

open Cert.DwguIdeal Cert.DwguIdeal.Gen Cert.DwguRefIdeal.Read

/-- The gradient of its gate and up matrices: the kernel's result is the reference's. -/
theorem algebraic :
    Cert.algebraic_DwguIdeal_DwguRefIdeal (hDwguIdeal := Cert.DwguIdeal.Gen.facts) (hDwguRefIdeal := Cert.DwguRefIdeal.Gen.facts) := by
  intro m g m' g' _ hagree
  refine ⟨fun c => val_main_v15 (F := Ideal) (m ((c : Thread nD τ).loc main_arg0)) (m ((c : Thread nD τ).loc main_arg1)) (m ((c : Thread nD τ).loc main_arg2)), ?_, ?_⟩
  · run_from Cert.DwguIdeal.Gen.run_main m g
    exact final m c
  · refine θ_run_mono (Cert.DwguRefIdeal.Value.run m' g') fun r h c => ?_
    obtain ⟨h0, a⟩ := h c
    obtain ⟨e0, e1, e2⟩ := hagree c
    refine ⟨h0.trans ?_, a⟩
    rw [val_main_v15_eq, e0, e1, e2]

/-- The reference keeps its arguments and leaves no counter raised. -/
theorem frame_ref : Cert.quiescent_DwguRefIdeal (hDwguRefIdeal := Cert.DwguRefIdeal.Gen.facts) := fun m ρ _ =>
  (θ_run Cert.DwguRefIdeal.defs _ _).mono (fun r h => ⟨fun c => (h c).2, Idealize.ShloMosaic.sem_eq_zero_of_no_sems (by decide) r.2⟩)
    (Cert.DwguRefIdeal.Value.run (F := Ideal) m ρ)

end Cert.DwguIdeal.Value

end

end
-- ==== Proof.DhClaim.lean ====
module

public import proofs.«01_k».proof.Defs
public import proofs.«01_k».proof.Proof.DhValue
public import proofs.«01_k».proof.Proof.Gen.DhIdeal.Value
public import proofs.«01_k».proof.Proof.Gen.DhRefIdeal.Run
public import proofs.«01_k».proof.Proof.Gen.DhRefIdeal.Read

@[expose] public section

set_option maxRecDepth 16384

noncomputable section

open Idealize.ShloMosaic Idealize.ShloMosaic.TcCoe Idealize.SL.Sem

namespace Cert.DhIdeal.Value

open Cert.DhIdeal Cert.DhIdeal.Gen Cert.DhRefIdeal.Read

/-- The gradient of its input: the kernel's result is the reference's. -/
theorem algebraic :
    Cert.algebraic_DhIdeal_DhRefIdeal (hDhIdeal := Cert.DhIdeal.Gen.facts) (hDhRefIdeal := Cert.DhRefIdeal.Gen.facts) := by
  intro m g m' g' _ hagree
  refine ⟨fun c => val_main_v9 (F := Ideal) (m ((c : Thread nD τ).loc main_arg0)) (m ((c : Thread nD τ).loc main_arg1)) (m ((c : Thread nD τ).loc main_arg2)) (m ((c : Thread nD τ).loc main_arg3)), ?_, ?_⟩
  · run_from Cert.DhIdeal.Gen.run_main m g
    exact final m c
  · refine θ_run_mono (Cert.DhRefIdeal.Value.run m' g') fun r h c => ?_
    obtain ⟨h0, a⟩ := h c
    obtain ⟨e0, e1, e2, e3⟩ := hagree c
    refine ⟨h0.trans ?_, a⟩
    rw [val_main_v9_eq, e0, e1, e2, e3]

/-- The reference keeps its arguments and leaves no counter raised. -/
theorem frame_ref : Cert.quiescent_DhRefIdeal (hDhRefIdeal := Cert.DhRefIdeal.Gen.facts) := fun m ρ _ =>
  (θ_run Cert.DhRefIdeal.defs _ _).mono (fun r h => ⟨fun c => (h c).2, Idealize.ShloMosaic.sem_eq_zero_of_no_sems (by decide) r.2⟩)
    (Cert.DhRefIdeal.Value.run (F := Ideal) m ρ)

end Cert.DhIdeal.Value

end

end
-- ==== Proof.DcatValue.lean ====
module

public import proofs.«01_k».proof.Proof.Gen.DcatIdeal.Value
public import proofs.«01_k».proof.Proof.Gen.DcatRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DcatIdeal.Value

open Cert.DcatIdeal Cert.DcatIdeal.Gen Cert.DcatRefIdeal.Read

variable (m : (ℓ : Loc nD τ sig) → Buf (Elt Ideal) ℓ) (c : Dev nD)

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- The product of a block of rows, entry by entry. -/
theorem tile (v0 v1) (j : S512x2048.Idx) :
    k0_pay1 (F := Ideal) v0 v1 j = ∑ k : Fin 1024, v0 (ix2 (j 0) k) * v1 (ix2 (j 1) k) := by
  pointwise [k0_pay1]

/-- What the reference computes, entry by entry. -/
theorem ref_at (x0 x1) (j) :
    val_main_v4 (F := Ideal) x0 x1 j = ∑ k : Fin 1024, x0 (ix2 (j 0) k) * x1 (ix2 (j 1) k) := by
  pointwise [val_main_v4, val_main_v3, val_main_v1]

/-- The kernel's result after the run is the reference's. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [tile, ref_at]
  refine Fin.sum_fin_congr fun k => ?_
  blk_point [iblk, V, idx t]

end Cert.DcatIdeal.Value

end

end
-- ==== Proof.DcatClaim.lean ====
module

public import proofs.«01_k».proof.Defs
public import proofs.«01_k».proof.Proof.DcatValue
public import proofs.«01_k».proof.Proof.Gen.DcatIdeal.Value
public import proofs.«01_k».proof.Proof.Gen.DcatRefIdeal.Run
public import proofs.«01_k».proof.Proof.Gen.DcatRefIdeal.Read

@[expose] public section

set_option maxRecDepth 16384

noncomputable section

open Idealize.ShloMosaic Idealize.ShloMosaic.TcCoe Idealize.SL.Sem

namespace Cert.DcatIdeal.Value

open Cert.DcatIdeal Cert.DcatIdeal.Gen Cert.DcatRefIdeal.Read

/-- The gradient of the mixer's output before its last product: the kernel's result is the reference's. -/
theorem algebraic :
    Cert.algebraic_DcatIdeal_DcatRefIdeal (hDcatIdeal := Cert.DcatIdeal.Gen.facts) (hDcatRefIdeal := Cert.DcatRefIdeal.Gen.facts) := by
  intro m g m' g' _ hagree
  refine ⟨fun c => val_main_v4 (F := Ideal) (m ((c : Thread nD τ).loc main_arg0)) (m ((c : Thread nD τ).loc main_arg1)), ?_, ?_⟩
  · run_from Cert.DcatIdeal.Gen.run_main m g
    exact final m c
  · refine θ_run_mono (Cert.DcatRefIdeal.Value.run m' g') fun r h c => ?_
    obtain ⟨h0, a⟩ := h c
    obtain ⟨e0, e1⟩ := hagree c
    refine ⟨h0.trans ?_, a⟩
    rw [val_main_v4_eq, e0, e1]

/-- The reference keeps its arguments and leaves no counter raised. -/
theorem frame_ref : Cert.quiescent_DcatRefIdeal (hDcatRefIdeal := Cert.DcatRefIdeal.Gen.facts) := fun m ρ _ =>
  (θ_run Cert.DcatRefIdeal.defs _ _).mono (fun r h => ⟨fun c => (h c).2, Idealize.ShloMosaic.sem_eq_zero_of_no_sems (by decide) r.2⟩)
    (Cert.DcatRefIdeal.Value.run (F := Ideal) m ρ)

end Cert.DcatIdeal.Value

end

end
-- ==== Proof.DwoutValue.lean ====
module

public import proofs.«01_k».proof.Proof.Gen.DwoutIdeal.Value
public import proofs.«01_k».proof.Proof.Gen.DwoutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwoutIdeal.Value

open Cert.DwoutIdeal Cert.DwoutIdeal.Gen Cert.DwoutRefIdeal.Read

variable (m : (ℓ : Loc nD τ sig) → Buf (Elt Ideal) ℓ) (c : Dev nD)

/-- Every window's block index at every grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of a tile, entry by entry. -/
theorem tile (v0 v1) (j : S1024x1024.Idx) :
    k0_pay1 (F := Ideal) v0 v1 j = ∑ k : Fin 2048, v0 (ix2 k (j 0)) * v1 (ix2 k (j 1)) := by
  pointwise [k0_pay1]

/-- At the first tile of a run the accumulator is the tile's product. -/
theorem fresh (v0 v1) (j : S1024x1024.Idx) :
    k0_pay2 (F := Ideal) v0 v1 j = ∑ k : Fin 2048, v0 (ix2 k (j 0)) * v1 (ix2 k (j 1)) := by
  pointwise [k0_pay2, k0_pay1]

/-- At the later ones the tile's product is added to it. -/
theorem added (v0 v1 acc) (j : S1024x1024.Idx) :
    k0_pay3 (F := Ideal) v0 v1 acc j = acc j + ∑ k : Fin 2048, v0 (ix2 k (j 0)) * v1 (ix2 k (j 1)) := by
  pointwise [k0_pay3, k0_pay1]

/-- What the reference computes, entry by entry. -/
theorem ref_at (x0 x1) (j) :
    val_main_v5 (F := Ideal) x0 x1 j = ∑ k : Fin 8192, x0 (ix2 k (j 0)) * x1 (ix2 k (j 1)) := by
  have e : val_main_v5 (F := Ideal) x0 x1 j = ∑ k : Fin 8192, x1 (ix2 k (j 1)) * x0 (ix2 k (j 0)) := by
    pointwise [val_main_v5, val_main_v4, val_main_v3, val_main_v1]
  exact e.trans (Finset.sum_congr rfl fun k _ => mul_comm _ _)

/-- The point that ends a run writes back what the accumulator holds. -/
theorem stored (t : Fin cfg0.N) (h : t.val % 4 = 3) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega) (by omega)]; frame_out; rw [fresh, zero_add])
    (fun t h j => by
      by_cases h3 : t.val % 4 = 3
      · rw [outsAt0_C m c t h (by omega) h3]; frame_out; rw [added, (Memref.isWhole_whole _).read_unread]
      · rw [outsAt0_B m c t h (by omega) h3]; frame_out; rw [added, (Memref.isWhole_whole _).read_unread])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.DwoutIdeal.Value

end

end
-- ==== Proof.DwoutClaim.lean ====
module

public import proofs.«01_k».proof.Defs
public import proofs.«01_k».proof.Proof.DwoutValue
public import proofs.«01_k».proof.Proof.Gen.DwoutIdeal.Value
public import proofs.«01_k».proof.Proof.Gen.DwoutRefIdeal.Run
public import proofs.«01_k».proof.Proof.Gen.DwoutRefIdeal.Read

@[expose] public section

set_option maxRecDepth 16384

noncomputable section

open Idealize.ShloMosaic Idealize.ShloMosaic.TcCoe Idealize.SL.Sem

namespace Cert.DwoutIdeal.Value

open Cert.DwoutIdeal Cert.DwoutIdeal.Gen Cert.DwoutRefIdeal.Read

/-- The gradient of the mixer's output matrix: the kernel's result is the reference's. -/
theorem algebraic :
    Cert.algebraic_DwoutIdeal_DwoutRefIdeal (hDwoutIdeal := Cert.DwoutIdeal.Gen.facts) (hDwoutRefIdeal := Cert.DwoutRefIdeal.Gen.facts) := by
  intro m g m' g' _ hagree
  refine ⟨fun c => val_main_v5 (F := Ideal) (m ((c : Thread nD τ).loc main_arg0)) (m ((c : Thread nD τ).loc main_arg1)), ?_, ?_⟩
  · run_from Cert.DwoutIdeal.Gen.run_main m g
    exact final m c
  · refine θ_run_mono (Cert.DwoutRefIdeal.Value.run m' g') fun r h c => ?_
    obtain ⟨h0, a⟩ := h c
    obtain ⟨e0, e1⟩ := hagree c
    refine ⟨h0.trans ?_, a⟩
    rw [val_main_v5_eq, e0, e1]

/-- The reference keeps its arguments and leaves no counter raised. -/
theorem frame_ref : Cert.quiescent_DwoutRefIdeal (hDwoutRefIdeal := Cert.DwoutRefIdeal.Gen.facts) := fun m ρ _ =>
  (θ_run Cert.DwoutRefIdeal.defs _ _).mono (fun r h => ⟨fun c => (h c).2, Idealize.ShloMosaic.sem_eq_zero_of_no_sems (by decide) r.2⟩)
    (Cert.DwoutRefIdeal.Value.run (F := Ideal) m ρ)

end Cert.DwoutIdeal.Value

end

end
-- ==== Proof.DhaValue.lean ====
module

public import proofs.«01_k».proof.Proof.Gen.DhaIdeal.Value
public import proofs.«01_k».proof.Proof.Gen.DhaRefIdeal.Read
public import proofs.«01_k».proof.Proof.Tiles
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DhaIdeal.Value

open Cert.DhaIdeal Cert.DhaIdeal.Gen Cert.DhaRefIdeal.Read

variable (m : (ℓ : Loc nD τ sig) → Buf (Elt Ideal) ℓ) (c : Dev nD)

/-- Every window's block index at every grid point. -/
theorem idx : ∀ t : Fin cfg0.N, win0_0.index t = ![t.val / 4, t.val % 4]
    ∧ win0_1.index t = ![0, t.val % 4]
    ∧ win0_2.index t = ![t.val / 4, 0] :=
  (by decide +kernel : ∀ t : Fin grid0.N, _)

/-- The projection's matrix as the call takes it: its parts in another order, and 480 columns of zeros. -/
def laid (w : FVec Ideal S1024x4640 .bf16) : FVec Ideal S1024x5120 .bf16 :=
  concatenate S1024x5120 1 [⟨S1024x1568, extractStridedSlice S1024x1568 ![0, 1024] w slices_S1024x4640_S1024x1568_0_1024⟩,
    ⟨S1024x480, broadcastInDim S1024x480 ![] bcast_S_S1024x480 (constant S_ .bf16 0x0000#16)⟩,
    ⟨S1024x2048, extractStridedSlice S1024x2048 ![0, 2592] w slices_S1024x4640_S1024x2048_0_2592⟩,
    ⟨S1024x1024, extractStridedSlice S1024x1024 ![0, 0] w slices_S1024x4640_S1024x1024_0_0⟩]
    concatenates_S1024x1568_S1024x480_S1024x2048_S1024x1024_S1024x5120_d1

theorem V_w : V m c main_v4 = laid (m ((c : Thread nD τ).loc main_arg1)) := by
  unfold V; after_results; try rfl

theorem V_d : V m c main_arg0 = m ((c : Thread nD τ).loc main_arg0) := V_main_arg0 m c

/-- At the first tile of a run the accumulator is the tile's product. -/
theorem fresh (v0 v1) (j : S1536x1024.Idx) :
    k0_pay2 (F := Ideal) v0 v1 j = ∑ k : Fin 1280, v0 (ix2 (j 0) k) * v1 (ix2 (j 1) k) := by
  pointwise [k0_pay2, k0_pay1]

/-- At the later ones the tile's product is added to it. -/
theorem added (v0 v1 acc) (j : S1536x1024.Idx) :
    k0_pay3 (F := Ideal) v0 v1 acc j = acc j + ∑ k : Fin 1280, v0 (ix2 (j 0) k) * v1 (ix2 (j 1) k) := by
  pointwise [k0_pay3, k0_pay1]

/-- What the reference computes, entry by entry, over the parts in their own order. -/
theorem ref_at (x0 x1) (j) :
    val_main_v8 (F := Ideal) x0 x1 j = ∑ k : Fin 4640, val_main_v6 (F := Ideal) x0 (ix2 (j 0) k) * x1 (ix2 (j 1) k) := by
  pointwise [val_main_v8, val_main_v7, val_main_v4]

/-- The same sum over the call's order: the zeros add nothing. -/
theorem ref_laid (x0 x1) (i : Fin 9216) (j : Fin 1024) :
    ∑ k : Fin 5120, x0 (ix2 i k) * laid x1 (ix2 j k) = ∑ k : Fin 4640, val_main_v6 (F := Ideal) x0 (ix2 i k) * x1 (ix2 j k) := by
  refine Tiles.padded_sum _ _ (fun k => ?_) (fun k => ?_) (fun k => ?_) fun k => ?_
  · refine congrArg₂ (· * ·) ?_ ?_
    · pointwise [val_main_v6, val_main_v0, val_main_v1, val_main_v2] <;> split_ifs <;> first | omega | blk_ext
    · pointwise [laid] <;> split_ifs <;> first | omega | blk_ext
  · have e : laid x1 (ix2 j ⟨1568 + k, by omega⟩) = 0 := by pointwise [laid] <;> split_ifs <;> first | omega | blk_ext
    rw [e, mul_zero]
  · refine congrArg₂ (· * ·) ?_ ?_
    · pointwise [val_main_v6, val_main_v0, val_main_v1, val_main_v2] <;> split_ifs <;> first | omega | blk_ext
    · pointwise [laid] <;> split_ifs <;> first | omega | blk_ext
  · refine congrArg₂ (· * ·) ?_ ?_
    · pointwise [val_main_v6, val_main_v0, val_main_v1, val_main_v2] <;> split_ifs <;> first | omega | blk_ext
    · pointwise [laid] <;> split_ifs <;> first | omega | blk_ext

/-- The point that ends a run writes back what the accumulator holds. -/
theorem stored (t : Fin cfg0.N) (h : t.val % 4 = 3) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega) (by omega)]; frame_out; rw [fresh, zero_add])
    (fun t h j => by
      by_cases h3 : t.val % 4 = 3
      · rw [outsAt0_C m c t h (by omega) h3]; frame_out; rw [added, (Memref.isWhole_whole _).read_unread]
      · rw [outsAt0_B m c t h (by omega) h3]; frame_out; rw [added, (Memref.isWhole_whole _).read_unread])
    t ((flush0_2 t).mp hf) _, zero_add]
  refine Eq.trans ?_ ((ref_at _ _ _).trans (ref_laid _ _ _ _).symm).symm
  refine Fin.sum_mul_add_congr fun s k hl => ?_
  refine congrArg₂ (· * ·) (Eq.trans ?_ (congrFun (V_d m c) _)) (Eq.trans ?_ (congrFun (V_w m c) _))
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

end Cert.DhaIdeal.Value

end

end
-- ==== Proof.DhaClaim.lean ====
module

public import proofs.«01_k».proof.Defs
public import proofs.«01_k».proof.Proof.DhaValue
public import proofs.«01_k».proof.Proof.Gen.DhaIdeal.Value
public import proofs.«01_k».proof.Proof.Gen.DhaRefIdeal.Run
public import proofs.«01_k».proof.Proof.Gen.DhaRefIdeal.Read

@[expose] public section

set_option maxRecDepth 16384

noncomputable section

open Idealize.ShloMosaic Idealize.ShloMosaic.TcCoe Idealize.SL.Sem

namespace Cert.DhaIdeal.Value

open Cert.DhaIdeal Cert.DhaIdeal.Gen Cert.DhaRefIdeal.Read

/-- The gradient of the mixer's input: the kernel's result is the reference's. -/
theorem algebraic :
    Cert.algebraic_DhaIdeal_DhaRefIdeal (hDhaIdeal := Cert.DhaIdeal.Gen.facts) (hDhaRefIdeal := Cert.DhaRefIdeal.Gen.facts) := by
  intro m g m' g' _ hagree
  refine ⟨fun c => val_main_v8 (F := Ideal) (m ((c : Thread nD τ).loc main_arg0)) (m ((c : Thread nD τ).loc main_arg1)), ?_, ?_⟩
  · run_from Cert.DhaIdeal.Gen.run_main m g
    exact final m c
  · refine θ_run_mono (Cert.DhaRefIdeal.Value.run m' g') fun r h c => ?_
    obtain ⟨h0, a⟩ := h c
    obtain ⟨e0, e1⟩ := hagree c
    refine ⟨h0.trans ?_, a⟩
    rw [val_main_v8_eq, e0, e1]

/-- The reference keeps its arguments and leaves no counter raised. -/
theorem frame_ref : Cert.quiescent_DhaRefIdeal (hDhaRefIdeal := Cert.DhaRefIdeal.Gen.facts) := fun m ρ _ =>
  (θ_run Cert.DhaRefIdeal.defs _ _).mono (fun r h => ⟨fun c => (h c).2, Idealize.ShloMosaic.sem_eq_zero_of_no_sems (by decide) r.2⟩)
    (Cert.DhaRefIdeal.Value.run (F := Ideal) m ρ)

end Cert.DhaIdeal.Value

end

end
-- ==== Proof.DwinValue.lean ====
module

public import proofs.«01_k».proof.Proof.Gen.DwinIdeal.Value
public import proofs.«01_k».proof.Proof.Gen.DwinRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwinIdeal.Value

open Cert.DwinIdeal Cert.DwinIdeal.Gen Cert.DwinRefIdeal.Read

variable (m : (ℓ : Loc nD τ sig) → Buf (Elt Ideal) ℓ) (c : Dev nD)

/-- Every window's block index at every grid point. -/
theorem idx : ∀ t : Fin cfg0.N, win0_0.index t = ![t.val % 4, 0]
    ∧ win0_1.index t = ![t.val % 4, t.val / 4]
    ∧ win0_2.index t = ![0, t.val / 4] :=
  (by decide +kernel : ∀ t : Fin grid0.N, _)

/-- The product of a tile, entry by entry. -/
theorem tile (v0 v1) (j : S1024x1280.Idx) :
    k0_pay1 (F := Ideal) v0 v1 j = ∑ k : Fin 2304, v0 (ix2 k (j 0)) * v1 (ix2 k (j 1)) := by
  pointwise [k0_pay1]

/-- At the first tile of a run the accumulator is the tile's product. -/
theorem fresh (v0 v1) (j : S1024x1280.Idx) :
    k0_pay2 (F := Ideal) v0 v1 j = ∑ k : Fin 2304, v0 (ix2 k (j 0)) * v1 (ix2 k (j 1)) := by
  pointwise [k0_pay2, k0_pay1]

/-- At the later ones the tile's product is added to it. -/
theorem added (v0 v1 acc) (j : S1024x1280.Idx) :
    k0_pay3 (F := Ideal) v0 v1 acc j = acc j + ∑ k : Fin 2304, v0 (ix2 k (j 0)) * v1 (ix2 k (j 1)) := by
  pointwise [k0_pay3, k0_pay1]

/-- What the reference computes, entry by entry. -/
theorem ref_at (x0 x1) (j) :
    val_main_v5 (F := Ideal) x0 x1 j = ∑ k : Fin 9216, x0 (ix2 k (j 0)) * x1 (ix2 k (j 1)) := by
  have e : val_main_v5 (F := Ideal) x0 x1 j = ∑ k : Fin 9216, x1 (ix2 k (j 1)) * x0 (ix2 k (j 0)) := by
    pointwise [val_main_v5, val_main_v4, val_main_v3, val_main_v1]
  exact e.trans (Finset.sum_congr rfl fun k _ => mul_comm _ _)

/-- The point that ends a run writes back what the accumulator holds. -/
theorem stored (t : Fin cfg0.N) (h : t.val % 4 = 3) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega) (by omega)]; frame_out; rw [fresh, zero_add])
    (fun t h j => by
      by_cases h3 : t.val % 4 = 3
      · rw [outsAt0_C m c t h (by omega) h3]; frame_out; rw [added, (Memref.isWhole_whole _).read_unread]
      · rw [outsAt0_B m c t h (by omega) h3]; frame_out; rw [added, (Memref.isWhole_whole _).read_unread])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.DwinIdeal.Value

end

end
-- ==== Proof.DwinClaim.lean ====
module

public import proofs.«01_k».proof.Defs
public import proofs.«01_k».proof.Proof.DwinValue
public import proofs.«01_k».proof.Proof.Gen.DwinIdeal.Value
public import proofs.«01_k».proof.Proof.Gen.DwinRefIdeal.Run
public import proofs.«01_k».proof.Proof.Gen.DwinRefIdeal.Read

@[expose] public section

set_option maxRecDepth 16384

noncomputable section

open Idealize.ShloMosaic Idealize.ShloMosaic.TcCoe Idealize.SL.Sem

namespace Cert.DwinIdeal.Value

open Cert.DwinIdeal Cert.DwinIdeal.Gen Cert.DwinRefIdeal.Read

/-- The gradient of the mixer's input matrix: the kernel's result is the reference's. -/
theorem algebraic :
    Cert.algebraic_DwinIdeal_DwinRefIdeal (hDwinIdeal := Cert.DwinIdeal.Gen.facts) (hDwinRefIdeal := Cert.DwinRefIdeal.Gen.facts) := by
  intro m g m' g' _ hagree
  refine ⟨fun c => val_main_v5 (F := Ideal) (m ((c : Thread nD τ).loc main_arg0)) (m ((c : Thread nD τ).loc main_arg1)), ?_, ?_⟩
  · run_from Cert.DwinIdeal.Gen.run_main m g
    exact final m c
  · refine θ_run_mono (Cert.DwinRefIdeal.Value.run m' g') fun r h c => ?_
    obtain ⟨h0, a⟩ := h c
    obtain ⟨e0, e1⟩ := hagree c
    refine ⟨h0.trans ?_, a⟩
    rw [val_main_v5_eq, e0, e1]

/-- The reference keeps its arguments and leaves no counter raised. -/
theorem frame_ref : Cert.quiescent_DwinRefIdeal (hDwinRefIdeal := Cert.DwinRefIdeal.Gen.facts) := fun m ρ _ =>
  (θ_run Cert.DwinRefIdeal.defs _ _).mono (fun r h => ⟨fun c => (h c).2, Idealize.ShloMosaic.sem_eq_zero_of_no_sems (by decide) r.2⟩)
    (Cert.DwinRefIdeal.Value.run (F := Ideal) m ρ)

end Cert.DwinIdeal.Value

end

end
-- ==== Proof.DaValue.lean ====
module

public import proofs.«01_k».proof.Proof.Gen.DaIdeal.Value
public import proofs.«01_k».proof.Proof.Gen.DaRefIdeal.Read
public import proofs.«01_k».proof.Proof.DhValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DaIdeal.Value

open Cert.DaIdeal Cert.DaIdeal.Gen Cert.DaRefIdeal.Read

variable (m : (ℓ : Loc nD τ sig) → Buf (Elt Ideal) ℓ) (c : Dev nD)

open Cert.DhIdeal.Value (sideG sideG_gate sideG_up)

/-- Every window's block index at every grid point. -/
theorem idx : ∀ t : Fin cfg0.N, win0_0.index t = ![t.val % 8, 0]
    ∧ win0_1.index t = ![0, t.val / 8]
    ∧ win0_2.index t = ![t.val % 8, t.val / 8]
    ∧ win0_3.index t = ![t.val % 8, t.val / 8] :=
  (by decide +kernel : ∀ t : Fin grid0.N, _)

/-- The block's entry: the product's column, which the gate's and the up matrix's halves share, times the block of derivatives. -/
theorem tile (v0 v1 v2) (i : Fin 1024) (j : Fin 2816) :
    k0_pay1 (F := Ideal) v0 v1 v2 (ix2 i j) = (∑ k : Fin 1024, v0 (ix2 i k) * v1 (ix2 k ⟨j % 1408, by omega⟩)) * v2 (ix2 i j) := by
  have e (q : Fin 1408) (h : j.val % 1408 = q.val) : (⟨j % 1408, by omega⟩ : Fin 1408) = q := Fin.ext h
  rcases Nat.lt_or_ge j.val 1408 with h | h
  · rw [e ⟨j, h⟩ (by simp only; omega)]
    pointwise [k0_pay1] <;> split_ifs <;> first | omega | rfl
  · rw [e ⟨j - 1408, by omega⟩ (by simp only; omega)]
    pointwise [k0_pay1] <;> split_ifs <;> first | omega | rfl

/-- The product, entry by entry. -/
theorem ref_da (x0 x1) (i : Fin 8192) (j : Fin 2816) :
    val_main_v4 (F := Ideal) x0 x1 (ix2 i j) = ∑ k : Fin 1024, x0 (ix2 i k) * x1 (ix2 j k) := by
  pointwise [val_main_v4, val_main_v3, val_main_v1]

/-- What the reference computes, entry by entry: column `j` is in half `j / 2816`. -/
theorem ref_at (x0 x1 x2 x3) (i : Fin 8192) (j : Fin 5632) :
    val_main_v14 (F := Ideal) x0 x1 x2 x3 (ix2 i j)
      = (∑ k : Fin 1024, x0 (ix2 i k) * x1 (ix2 ⟨j / 2816 * 1408 + j % 2816 % 1408, by omega⟩ k)) * sideG x2 x3 (ix2 i j) := by
  rw [← ref_da]
  have hs : ∃ (s : Fin 2) (k : Fin 1408), j = ⟨s * 2816 + k, by omega⟩ ∨ j = ⟨s * 2816 + (1408 + k), by omega⟩ := by
    refine ⟨⟨j / 2816, by omega⟩, ⟨j % 2816 % 1408, by omega⟩, ?_⟩
    rcases Nat.lt_or_ge (j % 2816) 1408 with h | h
    · exact .inl (Fin.ext (by simp only; omega))
    · exact .inr (Fin.ext (by simp only; omega))
  obtain ⟨s, k, rfl | rfl⟩ := hs
  · rw [sideG_gate x2 x3 i s k]
    refine Eq.trans (b := val_main_v6 (F := Ideal) x0 x1 x2 (ix2 i ⟨s * 1408 + k, by omega⟩)) ?_ ?_
    · fin_cases s <;> pointwise [val_main_v14, val_main_v13, val_main_v12, val_main_v11, val_main_v10, val_main_v9] <;> split_ifs <;> first | omega | blk_ext
    · refine congrArg₂ (· * ·) (congrArg _ (congrArg _ (Fin.ext ?_))) rfl
      show s.val * 1408 + k.val = _ / 2816 * 1408 + _ % 2816 % 1408
      simp only
      omega
  · rw [sideG_up x2 x3 i s k]
    refine Eq.trans (b := val_main_v8 (F := Ideal) x0 x1 x3 (ix2 i ⟨s * 1408 + k, by omega⟩)) ?_ ?_
    · fin_cases s <;> pointwise [val_main_v14, val_main_v13, val_main_v12, val_main_v11, val_main_v10, val_main_v9] <;> split_ifs <;> first | omega | blk_ext
    · refine congrArg₂ (· * ·) (congrArg _ (congrArg _ (Fin.ext ?_))) rfl
      show s.val * 1408 + k.val = _ / 2816 * 1408 + _ % 2816 % 1408
      simp only
      omega

theorem V_do : V m c main_arg0 = (m ((c : Thread nD τ).loc main_arg0)) := V_main_arg0 m c

theorem V_wd (i : Fin 1024) (j : Fin 2816) : V m c main_v0 (ix2 i j) = (m ((c : Thread nD τ).loc main_arg1)) (ix2 j i) := by
  have e : V m c main_v0 = transpose S1024x2816 [1, 0] (m ((c : Thread nD τ).loc main_arg1)) transposes_S2816x1024_S1024x2816_1_0 := by
    unfold V; after_results; try rfl
  rw [e]
  pointwise []

theorem V_side : V m c main_v5 = sideG (m ((c : Thread nD τ).loc main_arg2)) (m ((c : Thread nD τ).loc main_arg3)) := by
  unfold V; after_results; try rfl

/-- The kernel's result after the run is the reference's. -/
theorem final (c : Dev nD) : (dats m 0 c).arrAt 3 (cfgs 0).N
    = val_main_v14 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  frame_out
  rw [eq_ix2 y]
  refine (tile _ _ _ (y 0) (y 1)).trans ?_
  refine Eq.trans ?_ ((congrArg _ (eq_ix2 _)).trans (ref_at _ _ _ _ _ _)).symm
  refine congrArg₂ (· * ·) (Finset.sum_congr rfl fun k _ => congrArg₂ (· * ·) (Eq.trans ?_ (congrFun (V_do m c) _)) (Eq.trans ?_ (V_wd m c _ _))) (Eq.trans ?_ (congrFun (V_side m c) _))
  · blk_ext [iblk, idx t]
  · blk_ext [iblk, idx t]
  · blk_ext [iblk, idx t]

end Cert.DaIdeal.Value

end

end
-- ==== Proof.DaClaim.lean ====
module

public import proofs.«01_k».proof.Defs
public import proofs.«01_k».proof.Proof.DaValue
public import proofs.«01_k».proof.Proof.Gen.DaIdeal.Value
public import proofs.«01_k».proof.Proof.Gen.DaRefIdeal.Run
public import proofs.«01_k».proof.Proof.Gen.DaRefIdeal.Read

@[expose] public section

set_option maxRecDepth 16384

noncomputable section

open Idealize.ShloMosaic Idealize.ShloMosaic.TcCoe Idealize.SL.Sem

namespace Cert.DaIdeal.Value

open Cert.DaIdeal Cert.DaIdeal.Gen Cert.DaRefIdeal.Read

/-- The gradients of the gate and up products of a feed-forward block, by the saved derivatives: the kernel's result is the reference's. -/
theorem algebraic :
    Cert.algebraic_DaIdeal_DaRefIdeal (hDaIdeal := Cert.DaIdeal.Gen.facts) (hDaRefIdeal := Cert.DaRefIdeal.Gen.facts) := by
  intro m g m' g' _ hagree
  refine ⟨fun c => val_main_v14 (F := Ideal) (m ((c : Thread nD τ).loc main_arg0)) (m ((c : Thread nD τ).loc main_arg1)) (m ((c : Thread nD τ).loc main_arg2)) (m ((c : Thread nD τ).loc main_arg3)), ?_, ?_⟩
  · run_from Cert.DaIdeal.Gen.run_main m g
    exact final m c
  · refine θ_run_mono (Cert.DaRefIdeal.Value.run m' g') fun r h c => ?_
    obtain ⟨h0, a⟩ := h c
    obtain ⟨e0, e1, e2, e3⟩ := hagree c
    refine ⟨h0.trans ?_, a⟩
    rw [val_main_v14_eq, e0, e1, e2, e3]

/-- The reference keeps its arguments and leaves no counter raised. -/
theorem frame_ref : Cert.quiescent_DaRefIdeal (hDaRefIdeal := Cert.DaRefIdeal.Gen.facts) := fun m ρ _ =>
  (θ_run Cert.DaRefIdeal.defs _ _).mono (fun r h => ⟨fun c => (h c).2, Idealize.ShloMosaic.sem_eq_zero_of_no_sems (by decide) r.2⟩)
    (Cert.DaRefIdeal.Value.run (F := Ideal) m ρ)

end Cert.DaIdeal.Value

end

end
-- ==== Proof.Dh1Value.lean ====
module

public import proofs.«01_k».proof.Proof.Gen.Dh1Ideal.Value
public import proofs.«01_k».proof.Proof.Gen.Dh1RefIdeal.Read
public import proofs.«01_k».proof.Proof.DhValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dh1Ideal.Value

open Cert.Dh1Ideal Cert.Dh1Ideal.Gen Cert.Dh1RefIdeal.Read

variable (m : (ℓ : Loc nD τ sig) → Buf (Elt Ideal) ℓ) (c : Dev nD)

/-- Every window's block index at every grid point. -/
theorem idx : ∀ t : Fin cfg0.N, win0_0.index t = ![t.val / 4, t.val % 4]
    ∧ win0_1.index t = ![0, t.val % 4]
    ∧ win0_2.index t = ![t.val / 4, 0] :=
  (by decide +kernel : ∀ t : Fin grid0.N, _)

open Cert.DhIdeal.Value (sideW sideW_gate sideW_up)

/-- The gradients of gate and up matrix side by side, in two tiles. -/
def sideG (g u : FVec Ideal S9216x2816 .bf16) : FVec Ideal S9216x5632 .bf16 :=
  concatenate S9216x5632 1 [⟨S9216x1408, extractStridedSlice S9216x1408 ![0, 0] g slices_S9216x2816_S9216x1408_0_0⟩,
    ⟨S9216x1408, extractStridedSlice S9216x1408 ![0, 0] u slices_S9216x2816_S9216x1408_0_0⟩,
    ⟨S9216x1408, extractStridedSlice S9216x1408 ![0, 1408] g slices_S9216x2816_S9216x1408_0_1408⟩,
    ⟨S9216x1408, extractStridedSlice S9216x1408 ![0, 1408] u slices_S9216x2816_S9216x1408_0_1408⟩]
    concatenates_S9216x1408_S9216x1408_S9216x1408_S9216x1408_S9216x5632_d1

theorem sideG_gate (g u) (i : Fin 9216) (s : Fin 2) (k : Fin 1408) :
    sideG g u (ix2 i ⟨s * 2816 + k, by omega⟩) = g (ix2 i ⟨s * 1408 + k, by omega⟩) := by
  fin_cases s <;> pointwise [sideG] <;> split_ifs <;> first | omega | blk_ext

theorem sideG_up (g u) (i : Fin 9216) (s : Fin 2) (k : Fin 1408) :
    sideG g u (ix2 i ⟨s * 2816 + (1408 + k), by omega⟩) = u (ix2 i ⟨s * 1408 + k, by omega⟩) := by
  fin_cases s <;> pointwise [sideG] <;> split_ifs <;> first | omega | blk_ext

theorem V_grads : V m c main_v4 = sideG (m ((c : Thread nD τ).loc main_arg0)) (m ((c : Thread nD τ).loc main_arg1)) := by
  unfold V; after_results; try rfl

theorem V_mats : V m c main_v9 = sideW (m ((c : Thread nD τ).loc main_arg2)) (m ((c : Thread nD τ).loc main_arg3)) := by
  unfold V; after_results; try rfl

/-- At the first tile of a run the accumulator is the tile's product. -/
theorem fresh (v0 v1) (j : S1536x1024.Idx) :
    k0_pay2 (F := Ideal) v0 v1 j = ∑ k : Fin 1408, v0 (ix2 (j 0) k) * v1 (ix2 (j 1) k) := by
  pointwise [k0_pay2, k0_pay1]

/-- At the later ones the tile's product is added to it. -/
theorem added (v0 v1 acc) (j : S1536x1024.Idx) :
    k0_pay3 (F := Ideal) v0 v1 acc j = acc j + ∑ k : Fin 1408, v0 (ix2 (j 0) k) * v1 (ix2 (j 1) k) := by
  pointwise [k0_pay3, k0_pay1]

/-- What the reference computes, entry by entry. -/
theorem ref_at (x0 x1 x2 x3) (j) :
    val_main_v9 (F := Ideal) x0 x1 x2 x3 j = ∑ k : Fin 2816, x1 (ix2 (j 0) k) * x3 (ix2 (j 1) k) + ∑ k : Fin 2816, x0 (ix2 (j 0) k) * x2 (ix2 (j 1) k) := by
  pointwise [val_main_v9, val_main_v8, val_main_v7, val_main_v6, val_main_v5, val_main_v3, val_main_v1]

/-- The same as one sum over the columns side by side. -/
theorem ref_side (x0 x1 x2 x3) (i : Fin 9216) (j : Fin 1024) :
    val_main_v9 (F := Ideal) x0 x1 x2 x3 (ix2 i j) = ∑ k : Fin 5632, sideG x0 x1 (ix2 i k) * sideW x2 x3 (ix2 j k) := by
  refine (ref_at _ _ _ _ _).trans (Eq.trans ?_ (Fin.sum_mul_add_fin 2 2816 fun k => sideG x0 x1 (ix2 i k) * sideW x2 x3 (ix2 j k)))
  exact (Tiles.gate_up_sum _ _ _ (fun s k => congrArg₂ (· * ·) (sideG_gate _ _ _ s k) (sideW_gate _ _ _ s k))
    fun s k => congrArg₂ (· * ·) (sideG_up _ _ _ s k) (sideW_up _ _ _ s k)).symm

/-- The point that ends a run writes back what the accumulator holds. -/
theorem stored (t : Fin cfg0.N) (h : t.val % 4 = 3) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega) (by omega)]; frame_out; rw [fresh, zero_add])
    (fun t h j => by
      by_cases h3 : t.val % 4 = 3
      · rw [outsAt0_C m c t h (by omega) h3]; frame_out; rw [added, (Memref.isWhole_whole _).read_unread]
      · rw [outsAt0_B m c t h (by omega) h3]; frame_out; rw [added, (Memref.isWhole_whole _).read_unread])
    t ((flush0_2 t).mp hf) _, zero_add]
  refine Eq.trans ?_ ((congrArg _ (eq_ix2 _)).trans (ref_side _ _ _ _ _ _)).symm
  refine Fin.sum_mul_add_congr fun s k hl => ?_
  refine congrArg₂ (· * ·) (Eq.trans ?_ (congrFun (V_grads m c) _)) (Eq.trans ?_ (congrFun (V_mats m c) _))
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

end Cert.Dh1Ideal.Value

end

end
-- ==== Proof.Da1Value.lean ====
module

public import proofs.«01_k».proof.Proof.Gen.Da1Ideal.Value
public import proofs.«01_k».proof.Proof.Gen.Da1RefIdeal.Read
public import proofs.«01_k».proof.Proof.Dh1Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Da1Ideal.Value

open Cert.Da1Ideal Cert.Da1Ideal.Gen Cert.Da1RefIdeal.Read

variable (m : (ℓ : Loc nD τ sig) → Buf (Elt Ideal) ℓ) (c : Dev nD)

open Cert.Dh1Ideal.Value (sideG sideG_gate sideG_up)

/-- Every window's block index at every grid point. -/
theorem idx : ∀ t : Fin cfg0.N, win0_0.index t = ![t.val % 9, 0]
    ∧ win0_1.index t = ![0, t.val / 9]
    ∧ win0_2.index t = ![t.val % 9, t.val / 9]
    ∧ win0_3.index t = ![t.val % 9, t.val / 9] :=
  (by decide +kernel : ∀ t : Fin grid0.N, _)

/-- The block's entry: the product's column, which the gate's and the up matrix's halves share, times the block of derivatives. -/
theorem tile (v0 v1 v2) (i : Fin 1024) (j : Fin 2816) :
    k0_pay1 (F := Ideal) v0 v1 v2 (ix2 i j) = (∑ k : Fin 1024, v0 (ix2 i k) * v1 (ix2 k ⟨j % 1408, by omega⟩)) * v2 (ix2 i j) := by
  have e (q : Fin 1408) (h : j.val % 1408 = q.val) : (⟨j % 1408, by omega⟩ : Fin 1408) = q := Fin.ext h
  rcases Nat.lt_or_ge j.val 1408 with h | h
  · rw [e ⟨j, h⟩ (by simp only; omega)]
    pointwise [k0_pay1] <;> split_ifs <;> first | omega | rfl
  · rw [e ⟨j - 1408, by omega⟩ (by simp only; omega)]
    pointwise [k0_pay1] <;> split_ifs <;> first | omega | rfl

/-- The product, entry by entry. -/
theorem ref_da (x0 x1) (i : Fin 9216) (j : Fin 2816) :
    val_main_v4 (F := Ideal) x0 x1 (ix2 i j) = ∑ k : Fin 1024, x0 (ix2 i k) * x1 (ix2 j k) := by
  pointwise [val_main_v4, val_main_v3, val_main_v1]

/-- What the reference computes, entry by entry: column `j` is in half `j / 2816`. -/
theorem ref_at (x0 x1 x2 x3) (i : Fin 9216) (j : Fin 5632) :
    val_main_v14 (F := Ideal) x0 x1 x2 x3 (ix2 i j)
      = (∑ k : Fin 1024, x0 (ix2 i k) * x1 (ix2 ⟨j / 2816 * 1408 + j % 2816 % 1408, by omega⟩ k)) * sideG x2 x3 (ix2 i j) := by
  rw [← ref_da]
  have hs : ∃ (s : Fin 2) (k : Fin 1408), j = ⟨s * 2816 + k, by omega⟩ ∨ j = ⟨s * 2816 + (1408 + k), by omega⟩ := by
    refine ⟨⟨j / 2816, by omega⟩, ⟨j % 2816 % 1408, by omega⟩, ?_⟩
    rcases Nat.lt_or_ge (j % 2816) 1408 with h | h
    · exact .inl (Fin.ext (by simp only; omega))
    · exact .inr (Fin.ext (by simp only; omega))
  obtain ⟨s, k, rfl | rfl⟩ := hs
  · rw [sideG_gate x2 x3 i s k]
    refine Eq.trans (b := val_main_v6 (F := Ideal) x0 x1 x2 (ix2 i ⟨s * 1408 + k, by omega⟩)) ?_ ?_
    · fin_cases s <;> pointwise [val_main_v14, val_main_v13, val_main_v12, val_main_v11, val_main_v10, val_main_v9] <;> split_ifs <;> first | omega | blk_ext
    · refine congrArg₂ (· * ·) (congrArg _ (congrArg _ (Fin.ext ?_))) rfl
      show s.val * 1408 + k.val = _ / 2816 * 1408 + _ % 2816 % 1408
      simp only
      omega
  · rw [sideG_up x2 x3 i s k]
    refine Eq.trans (b := val_main_v8 (F := Ideal) x0 x1 x3 (ix2 i ⟨s * 1408 + k, by omega⟩)) ?_ ?_
    · fin_cases s <;> pointwise [val_main_v14, val_main_v13, val_main_v12, val_main_v11, val_main_v10, val_main_v9] <;> split_ifs <;> first | omega | blk_ext
    · refine congrArg₂ (· * ·) (congrArg _ (congrArg _ (Fin.ext ?_))) rfl
      show s.val * 1408 + k.val = _ / 2816 * 1408 + _ % 2816 % 1408
      simp only
      omega

theorem V_do : V m c main_arg0 = (m ((c : Thread nD τ).loc main_arg0)) := V_main_arg0 m c

theorem V_wd (i : Fin 1024) (j : Fin 2816) : V m c main_v0 (ix2 i j) = (m ((c : Thread nD τ).loc main_arg1)) (ix2 j i) := by
  have e : V m c main_v0 = transpose S1024x2816 [1, 0] (m ((c : Thread nD τ).loc main_arg1)) transposes_S2816x1024_S1024x2816_1_0 := by
    unfold V; after_results; try rfl
  rw [e]
  pointwise []

theorem V_side : V m c main_v5 = sideG (m ((c : Thread nD τ).loc main_arg2)) (m ((c : Thread nD τ).loc main_arg3)) := by
  unfold V; after_results; try rfl

/-- The kernel's result after the run is the reference's. -/
theorem final (c : Dev nD) : (dats m 0 c).arrAt 3 (cfgs 0).N
    = val_main_v14 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  frame_out
  rw [eq_ix2 y]
  refine (tile _ _ _ (y 0) (y 1)).trans ?_
  refine Eq.trans ?_ ((congrArg _ (eq_ix2 _)).trans (ref_at _ _ _ _ _ _)).symm
  refine congrArg₂ (· * ·) (Finset.sum_congr rfl fun k _ => congrArg₂ (· * ·) (Eq.trans ?_ (congrFun (V_do m c) _)) (Eq.trans ?_ (V_wd m c _ _))) (Eq.trans ?_ (congrFun (V_side m c) _))
  · blk_ext [iblk, idx t]
  · blk_ext [iblk, idx t]
  · blk_ext [iblk, idx t]

end Cert.Da1Ideal.Value

end

end
-- ==== Proof.Da1Claim.lean ====
module

public import proofs.«01_k».proof.Defs
public import proofs.«01_k».proof.Proof.Da1Value
public import proofs.«01_k».proof.Proof.Gen.Da1Ideal.Value
public import proofs.«01_k».proof.Proof.Gen.Da1RefIdeal.Run
public import proofs.«01_k».proof.Proof.Gen.Da1RefIdeal.Read

@[expose] public section

set_option maxRecDepth 16384

noncomputable section

open Idealize.ShloMosaic Idealize.ShloMosaic.TcCoe Idealize.SL.Sem

namespace Cert.Da1Ideal.Value

open Cert.Da1Ideal Cert.Da1Ideal.Gen Cert.Da1RefIdeal.Read

/-- The gradients of the gate and up products of the first feed-forward block, by the saved derivatives: the kernel's result is the reference's. -/
theorem algebraic :
    Cert.algebraic_Da1Ideal_Da1RefIdeal (hDa1Ideal := Cert.Da1Ideal.Gen.facts) (hDa1RefIdeal := Cert.Da1RefIdeal.Gen.facts) := by
  intro m g m' g' _ hagree
  refine ⟨fun c => val_main_v14 (F := Ideal) (m ((c : Thread nD τ).loc main_arg0)) (m ((c : Thread nD τ).loc main_arg1)) (m ((c : Thread nD τ).loc main_arg2)) (m ((c : Thread nD τ).loc main_arg3)), ?_, ?_⟩
  · run_from Cert.Da1Ideal.Gen.run_main m g
    exact final m c
  · refine θ_run_mono (Cert.Da1RefIdeal.Value.run m' g') fun r h c => ?_
    obtain ⟨h0, a⟩ := h c
    obtain ⟨e0, e1, e2, e3⟩ := hagree c
    refine ⟨h0.trans ?_, a⟩
    rw [val_main_v14_eq, e0, e1, e2, e3]

/-- The reference keeps its arguments and leaves no counter raised. -/
theorem frame_ref : Cert.quiescent_Da1RefIdeal (hDa1RefIdeal := Cert.Da1RefIdeal.Gen.facts) := fun m ρ _ =>
  (θ_run Cert.Da1RefIdeal.defs _ _).mono (fun r h => ⟨fun c => (h c).2, Idealize.ShloMosaic.sem_eq_zero_of_no_sems (by decide) r.2⟩)
    (Cert.Da1RefIdeal.Value.run (F := Ideal) m ρ)

end Cert.Da1Ideal.Value

end

end
-- ==== Proof.Dwd1Value.lean ====
module

public import proofs.«01_k».proof.Proof.Gen.Dwd1Ideal.Value
public import proofs.«01_k».proof.Proof.Gen.Dwd1RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dwd1Ideal.Value

open Cert.Dwd1Ideal Cert.Dwd1Ideal.Gen Cert.Dwd1RefIdeal.Read

variable (m : (ℓ : Loc nD τ sig) → Buf (Elt Ideal) ℓ) (c : Dev nD)

/-- Every window's block index at every grid point. -/
theorem idx : ∀ t : Fin cfg0.N, win0_0.index t = ![t.val % 6, t.val / 6]
    ∧ win0_1.index t = ![t.val % 6, 0]
    ∧ win0_2.index t = ![t.val / 6, 0] :=
  (by decide +kernel : ∀ t : Fin grid0.N, _)

/-- At the first tile of a run the accumulator is the tile's product. -/
theorem fresh (v0 v1) (j : S1408x1024.Idx) :
    k0_pay2 (F := Ideal) v0 v1 j = ∑ k : Fin 1536, v0 (ix2 k (j 0)) * v1 (ix2 k (j 1)) := by
  pointwise [k0_pay2, k0_pay1]

/-- At the later ones the tile's product is added to it. -/
theorem added (v0 v1 acc) (j : S1408x1024.Idx) :
    k0_pay3 (F := Ideal) v0 v1 acc j = acc j + ∑ k : Fin 1536, v0 (ix2 k (j 0)) * v1 (ix2 k (j 1)) := by
  pointwise [k0_pay3, k0_pay1]

/-- What the reference computes, entry by entry. -/
theorem ref_at (x0 x1) (j) :
    val_main_v5 (F := Ideal) x0 x1 j = ∑ k : Fin 9216, x0 (ix2 k (j 0)) * x1 (ix2 k (j 1)) := by
  have e : val_main_v5 (F := Ideal) x0 x1 j = ∑ k : Fin 9216, x1 (ix2 k (j 1)) * x0 (ix2 k (j 0)) := by
    pointwise [val_main_v5, val_main_v4, val_main_v3, val_main_v1]
  exact e.trans (Finset.sum_congr rfl fun k _ => mul_comm _ _)

/-- The point that ends a run writes back what the accumulator holds. -/
theorem stored (t : Fin cfg0.N) (h : t.val % 6 = 5) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 6 (fun _ => 0) _
    (fun t h j => by rw [outsAt0_A m c t h (by omega) (by omega)]; frame_out; rw [fresh, zero_add])
    (fun t h j => by
      by_cases h5 : t.val % 6 = 5
      · rw [outsAt0_C m c t h (by omega) h5]; frame_out; rw [added, (Memref.isWhole_whole _).read_unread]
      · rw [outsAt0_B m c t h (by omega) h5]; frame_out; rw [added, (Memref.isWhole_whole _).read_unread])
    t ((flush0_2 t).mp hf) _, zero_add, ref_at]
  refine Fin.sum_mul_add_congr fun s k hl => ?_
  blk_point [iblk, V, idx t, idx ⟨_, Pipeline.run_point_lt_of_flush t ((flush0_2 t).mp hf) s⟩]

end Cert.Dwd1Ideal.Value

end

end
-- ==== Proof.Dwd1Claim.lean ====
module

public import proofs.«01_k».proof.Defs
public import proofs.«01_k».proof.Proof.Dwd1Value
public import proofs.«01_k».proof.Proof.Gen.Dwd1Ideal.Value
public import proofs.«01_k».proof.Proof.Gen.Dwd1RefIdeal.Run
public import proofs.«01_k».proof.Proof.Gen.Dwd1RefIdeal.Read

@[expose] public section

set_option maxRecDepth 16384

noncomputable section

open Idealize.ShloMosaic Idealize.ShloMosaic.TcCoe Idealize.SL.Sem

namespace Cert.Dwd1Ideal.Value

open Cert.Dwd1Ideal Cert.Dwd1Ideal.Gen Cert.Dwd1RefIdeal.Read

/-- The gradient of the second matrix of the first feed-forward block: the kernel's result is the reference's. -/
theorem algebraic :
    Cert.algebraic_Dwd1Ideal_Dwd1RefIdeal (hDwd1Ideal := Cert.Dwd1Ideal.Gen.facts) (hDwd1RefIdeal := Cert.Dwd1RefIdeal.Gen.facts) := by
  intro m g m' g' _ hagree
  refine ⟨fun c => val_main_v5 (F := Ideal) (m ((c : Thread nD τ).loc main_arg0)) (m ((c : Thread nD τ).loc main_arg1)), ?_, ?_⟩
  · run_from Cert.Dwd1Ideal.Gen.run_main m g
    exact final m c
  · refine θ_run_mono (Cert.Dwd1RefIdeal.Value.run m' g') fun r h c => ?_
    obtain ⟨h0, a⟩ := h c
    obtain ⟨e0, e1⟩ := hagree c
    refine ⟨h0.trans ?_, a⟩
    rw [val_main_v5_eq, e0, e1]

/-- The reference keeps its arguments and leaves no counter raised. -/
theorem frame_ref : Cert.quiescent_Dwd1RefIdeal (hDwd1RefIdeal := Cert.Dwd1RefIdeal.Gen.facts) := fun m ρ _ =>
  (θ_run Cert.Dwd1RefIdeal.defs _ _).mono (fun r h => ⟨fun c => (h c).2, Idealize.ShloMosaic.sem_eq_zero_of_no_sems (by decide) r.2⟩)
    (Cert.Dwd1RefIdeal.Value.run (F := Ideal) m ρ)

end Cert.Dwd1Ideal.Value

end

end
-- ==== Proof.Dwgu1Value.lean ====
module

public import proofs.«01_k».proof.Proof.Gen.Dwgu1Ideal.Value
public import proofs.«01_k».proof.Proof.Gen.Dwgu1RefIdeal.Read
public import proofs.«01_k».proof.Proof.Dh1Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dwgu1Ideal.Value

open Cert.Dwgu1Ideal Cert.Dwgu1Ideal.Gen Cert.Dwgu1RefIdeal.Read

variable (m : (ℓ : Loc nD τ sig) → Buf (Elt Ideal) ℓ) (c : Dev nD)

open Cert.Dh1Ideal.Value (sideG sideG_gate sideG_up)

/-- Every window's block index at every grid point. -/
theorem idx : ∀ t : Fin cfg0.N, win0_0.index t = ![t.val % 6, 0]
    ∧ win0_1.index t = ![t.val % 6, t.val / 6]
    ∧ win0_2.index t = ![0, t.val / 6] :=
  (by decide +kernel : ∀ t : Fin grid0.N, _)

theorem V_h : V m c main_arg0 = m ((c : Thread nD τ).loc main_arg0) := V_main_arg0 m c

theorem V_grads : V m c main_v4 = sideG (m ((c : Thread nD τ).loc main_arg1)) (m ((c : Thread nD τ).loc main_arg2)) := by
  unfold V; after_results; try rfl

/-- At the first tile of a run the accumulator is the tile's product. -/
theorem fresh (v0 v1) (j : S1024x1408.Idx) :
    k0_pay2 (F := Ideal) v0 v1 j = ∑ k : Fin 1536, v0 (ix2 k (j 0)) * v1 (ix2 k (j 1)) := by
  pointwise [k0_pay2, k0_pay1]

/-- At the later ones the tile's product is added to it. -/
theorem added (v0 v1 acc) (j : S1024x1408.Idx) :
    k0_pay3 (F := Ideal) v0 v1 acc j = acc j + ∑ k : Fin 1536, v0 (ix2 k (j 0)) * v1 (ix2 k (j 1)) := by
  pointwise [k0_pay3, k0_pay1]

/-- The gradient of one matrix, entry by entry. -/
theorem ref_gate (x0 x1) (i : Fin 1024) (j : Fin 2816) :
    val_main_v10 (F := Ideal) x0 x1 (ix2 i j) = ∑ k : Fin 9216, x0 (ix2 k i) * x1 (ix2 k j) := by
  have e : val_main_v10 (F := Ideal) x0 x1 (ix2 i j) = ∑ k : Fin 9216, x1 (ix2 k j) * x0 (ix2 k i) := by
    pointwise [val_main_v10, val_main_v9, val_main_v5, val_main_v6, val_main_v3, val_main_v1]
  exact e.trans (Finset.sum_congr rfl fun k _ => mul_comm _ _)

theorem ref_up (x0 x2) (i : Fin 1024) (j : Fin 2816) :
    val_main_v8 (F := Ideal) x0 x2 (ix2 i j) = ∑ k : Fin 9216, x0 (ix2 k i) * x2 (ix2 k j) := by
  have e : val_main_v8 (F := Ideal) x0 x2 (ix2 i j) = ∑ k : Fin 9216, x2 (ix2 k j) * x0 (ix2 k i) := by
    pointwise [val_main_v8, val_main_v7, val_main_v5, val_main_v6, val_main_v3, val_main_v1]
  exact e.trans (Finset.sum_congr rfl fun k _ => mul_comm _ _)

/-- What the reference computes, entry by entry: the product with the matrices side by side. -/
theorem ref_at (x0 x1 x2) (i : Fin 1024) (j : Fin 5632) :
    val_main_v15 (F := Ideal) x0 x1 x2 (ix2 i j) = ∑ k : Fin 9216, x0 (ix2 k i) * sideG x1 x2 (ix2 k j) := by
  have hs : ∃ (s : Fin 2) (k : Fin 1408), j = ⟨s * 2816 + k, by omega⟩ ∨ j = ⟨s * 2816 + (1408 + k), by omega⟩ := by
    refine ⟨⟨j / 2816, by omega⟩, ⟨j % 2816 % 1408, by omega⟩, ?_⟩
    rcases Nat.lt_or_ge (j % 2816) 1408 with h | h
    · exact .inl (Fin.ext (by simp only; omega))
    · exact .inr (Fin.ext (by simp only; omega))
  obtain ⟨s, k, rfl | rfl⟩ := hs
  · rw [Finset.sum_congr rfl fun l _ => by rw [sideG_gate x1 x2 l s k], ← ref_gate]
    fin_cases s <;> pointwise [val_main_v15, val_main_v14, val_main_v13, val_main_v12, val_main_v11] <;> split_ifs <;> first | omega | blk_ext
  · rw [Finset.sum_congr rfl fun l _ => by rw [sideG_up x1 x2 l s k], ← ref_up]
    fin_cases s <;> pointwise [val_main_v15, val_main_v14, val_main_v13, val_main_v12, val_main_v11] <;> split_ifs <;> first | omega | blk_ext

/-- The point that ends a run writes back what the accumulator holds. -/
theorem stored (t : Fin cfg0.N) (h : t.val % 6 = 5) :
    (outsAt0 m c t.val t.isLt).1 = (outsAt0 m c t.val t.isLt).2 := by
  rw [outsAt0_C m c t (by omega) (by omega) h]
  dsimp only
  frame_out

/-- The kernel's result after the run is the reference's. -/
theorem final (c : Dev nD) : (dats m 0 c).arrAt 2 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 6 (fun _ => 0) _
    (fun t h j => by rw [outsAt0_A m c t h (by omega) (by omega)]; frame_out; rw [fresh, zero_add])
    (fun t h j => by
      by_cases h5 : t.val % 6 = 5
      · rw [outsAt0_C m c t h (by omega) h5]; frame_out; rw [added, (Memref.isWhole_whole _).read_unread]
      · rw [outsAt0_B m c t h (by omega) h5]; frame_out; rw [added, (Memref.isWhole_whole _).read_unread])
    t ((flush0_2 t).mp hf) _, zero_add]
  refine Eq.trans ?_ ((congrArg _ (eq_ix2 _)).trans (ref_at _ _ _ _ _)).symm
  refine Fin.sum_mul_add_congr fun s k hl => ?_
  refine congrArg₂ (· * ·) (Eq.trans ?_ (congrFun (V_h m c) _)) (Eq.trans ?_ (congrFun (V_grads m c) _))
  · blk_ext [iblk, idx t, idx ⟨_, Pipeline.run_point_lt_of_flush t ((flush0_2 t).mp hf) s⟩]
  · blk_ext [iblk, idx t, idx ⟨_, Pipeline.run_point_lt_of_flush t ((flush0_2 t).mp hf) s⟩]

end Cert.Dwgu1Ideal.Value

end

end
-- ==== Proof.Dwgu1Claim.lean ====
module

public import proofs.«01_k».proof.Defs
public import proofs.«01_k».proof.Proof.Dwgu1Value
public import proofs.«01_k».proof.Proof.Gen.Dwgu1Ideal.Value
public import proofs.«01_k».proof.Proof.Gen.Dwgu1RefIdeal.Run
public import proofs.«01_k».proof.Proof.Gen.Dwgu1RefIdeal.Read

@[expose] public section

set_option maxRecDepth 16384

noncomputable section

open Idealize.ShloMosaic Idealize.ShloMosaic.TcCoe Idealize.SL.Sem

namespace Cert.Dwgu1Ideal.Value

open Cert.Dwgu1Ideal Cert.Dwgu1Ideal.Gen Cert.Dwgu1RefIdeal.Read

/-- The gradient of its gate and up matrices: the kernel's result is the reference's. -/
theorem algebraic :
    Cert.algebraic_Dwgu1Ideal_Dwgu1RefIdeal (hDwgu1Ideal := Cert.Dwgu1Ideal.Gen.facts) (hDwgu1RefIdeal := Cert.Dwgu1RefIdeal.Gen.facts) := by
  intro m g m' g' _ hagree
  refine ⟨fun c => val_main_v15 (F := Ideal) (m ((c : Thread nD τ).loc main_arg0)) (m ((c : Thread nD τ).loc main_arg1)) (m ((c : Thread nD τ).loc main_arg2)), ?_, ?_⟩
  · run_from Cert.Dwgu1Ideal.Gen.run_main m g
    exact final m c
  · refine θ_run_mono (Cert.Dwgu1RefIdeal.Value.run m' g') fun r h c => ?_
    obtain ⟨h0, a⟩ := h c
    obtain ⟨e0, e1, e2⟩ := hagree c
    refine ⟨h0.trans ?_, a⟩
    rw [val_main_v15_eq, e0, e1, e2]

/-- The reference keeps its arguments and leaves no counter raised. -/
theorem frame_ref : Cert.quiescent_Dwgu1RefIdeal (hDwgu1RefIdeal := Cert.Dwgu1RefIdeal.Gen.facts) := fun m ρ _ =>
  (θ_run Cert.Dwgu1RefIdeal.defs _ _).mono (fun r h => ⟨fun c => (h c).2, Idealize.ShloMosaic.sem_eq_zero_of_no_sems (by decide) r.2⟩)
    (Cert.Dwgu1RefIdeal.Value.run (F := Ideal) m ρ)

end Cert.Dwgu1Ideal.Value

end

end
-- ==== Proof.Dh1Claim.lean ====
module

public import proofs.«01_k».proof.Defs
public import proofs.«01_k».proof.Proof.Dh1Value
public import proofs.«01_k».proof.Proof.Gen.Dh1Ideal.Value
public import proofs.«01_k».proof.Proof.Gen.Dh1RefIdeal.Run
public import proofs.«01_k».proof.Proof.Gen.Dh1RefIdeal.Read

@[expose] public section

set_option maxRecDepth 16384

noncomputable section

open Idealize.ShloMosaic Idealize.ShloMosaic.TcCoe Idealize.SL.Sem

namespace Cert.Dh1Ideal.Value

open Cert.Dh1Ideal Cert.Dh1Ideal.Gen Cert.Dh1RefIdeal.Read

/-- The gradient of its input: the kernel's result is the reference's. -/
theorem algebraic :
    Cert.algebraic_Dh1Ideal_Dh1RefIdeal (hDh1Ideal := Cert.Dh1Ideal.Gen.facts) (hDh1RefIdeal := Cert.Dh1RefIdeal.Gen.facts) := by
  intro m g m' g' _ hagree
  refine ⟨fun c => val_main_v9 (F := Ideal) (m ((c : Thread nD τ).loc main_arg0)) (m ((c : Thread nD τ).loc main_arg1)) (m ((c : Thread nD τ).loc main_arg2)) (m ((c : Thread nD τ).loc main_arg3)), ?_, ?_⟩
  · run_from Cert.Dh1Ideal.Gen.run_main m g
    exact final m c
  · refine θ_run_mono (Cert.Dh1RefIdeal.Value.run m' g') fun r h c => ?_
    obtain ⟨h0, a⟩ := h c
    obtain ⟨e0, e1, e2, e3⟩ := hagree c
    refine ⟨h0.trans ?_, a⟩
    rw [val_main_v9_eq, e0, e1, e2, e3]

/-- The reference keeps its arguments and leaves no counter raised. -/
theorem frame_ref : Cert.quiescent_Dh1RefIdeal (hDh1RefIdeal := Cert.Dh1RefIdeal.Gen.facts) := fun m ρ _ =>
  (θ_run Cert.Dh1RefIdeal.defs _ _).mono (fun r h => ⟨fun c => (h c).2, Idealize.ShloMosaic.sem_eq_zero_of_no_sems (by decide) r.2⟩)
    (Cert.Dh1RefIdeal.Value.run (F := Ideal) m ρ)

end Cert.Dh1Ideal.Value

end

end
-- ==== Proof.WinValue.lean ====
module

public import proofs.«01_k».proof.Proof.Gen.WinIdeal.Value
public import proofs.«01_k».proof.Proof.Gen.WinRefIdeal.Read
public import proofs.«01_k».proof.Proof.DhaValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WinIdeal.Value

open Cert.WinIdeal Cert.WinIdeal.Gen Cert.WinRefIdeal.Read

variable (m : (ℓ : Loc nD τ sig) → Buf (Elt Ideal) ℓ) (c : Dev nD)

open Cert.DhaIdeal.Value (laid)

/-- Every window's block index at every grid point. -/
theorem idx : ∀ t : Fin cfg0.N, win0_0.index t = ![t.val % 18, 0]
    ∧ win0_1.index t = ![0, t.val / 18]
    ∧ win0_2.index t = ![t.val % 18, t.val / 18] :=
  (by decide +kernel : ∀ t : Fin grid0.N, _)

/-- The product of a tile, entry by entry. -/
theorem tile (v0 v1) (j : S512x2560.Idx) :
    k0_pay1 (F := Ideal) v0 v1 j = ∑ k : Fin 1024, v0 (ix2 (j 0) k) * v1 (ix2 k (j 1)) := by
  pointwise [k0_pay1]

/-- The projection, entry by entry. -/
theorem ref_proj (x0 x1) (i : Fin 9216) (j : Fin 4640) :
    val_main_v2 (F := Ideal) x0 x1 (ix2 i j) = ∑ k : Fin 1024, x0 (ix2 i k) * x1 (ix2 k j) := by
  pointwise [val_main_v2, val_main_v1, val_main_v0]

/-- What the reference computes, entry by entry: the product with the matrix as it is laid out. -/
theorem ref_at (x0 x1) (i : Fin 9216) (j : Fin 5120) :
    val_main_v7 (F := Ideal) x0 x1 (ix2 i j) = ∑ k : Fin 1024, x0 (ix2 i k) * laid x1 (ix2 k j) := by
  have hz (k : Fin 1024) (h : 1568 ≤ j.val) (h' : j.val < 2048) : laid x1 (ix2 k j) = 0 := by
    pointwise [laid] <;> split_ifs <;> first | omega | rfl | blk_ext
  have hj (q : Fin 4640) (h : ∀ k : Fin 1024, laid x1 (ix2 k j) = x1 (ix2 k q))
      (h' : val_main_v7 (F := Ideal) x0 x1 (ix2 i j) = val_main_v2 (F := Ideal) x0 x1 (ix2 i q)) :
      val_main_v7 (F := Ideal) x0 x1 (ix2 i j) = ∑ k : Fin 1024, x0 (ix2 i k) * laid x1 (ix2 k j) := by
    rw [h', ref_proj]
    exact Finset.sum_congr rfl fun k _ => by rw [h k]
  rcases Nat.lt_or_ge j.val 1568 with h1 | h1
  · refine hj ⟨1024 + j, by omega⟩ (fun k => ?_) ?_
    · pointwise [laid] <;> split_ifs <;> first | omega | rfl | blk_ext
    · pointwise [val_main_v7, val_main_v3, val_main_v4, val_main_v5, val_main_v6] <;> split_ifs <;> first | omega | rfl | blk_ext
  rcases Nat.lt_or_ge j.val 2048 with h2 | h2
  · rw [Finset.sum_eq_zero fun k _ => by rw [hz k h1 h2, mul_zero]]
    pointwise [val_main_v7, val_main_v3, val_main_v4, val_main_v5, val_main_v6, val_main_cst] <;> split_ifs <;> first | omega | rfl | blk_ext
  rcases Nat.lt_or_ge j.val 4096 with h3 | h3
  · refine hj ⟨544 + j, by omega⟩ (fun k => ?_) ?_
    · pointwise [laid] <;> split_ifs <;> first | omega | rfl | blk_ext
    · pointwise [val_main_v7, val_main_v3, val_main_v4, val_main_v5, val_main_v6] <;> split_ifs <;> first | omega | rfl | blk_ext
  · refine hj ⟨j - 4096, by omega⟩ (fun k => ?_) ?_
    · pointwise [laid] <;> split_ifs <;> first | omega | rfl | blk_ext
    · pointwise [val_main_v7, val_main_v3, val_main_v4, val_main_v5, val_main_v6] <;> split_ifs <;> first | omega | rfl | blk_ext

theorem V_h : V m c main_arg0 = (m ((c : Thread nD τ).loc main_arg0)) := V_main_arg0 m c

theorem V_w : V m c main_v4 = laid (m ((c : Thread nD τ).loc main_arg1)) := by
  unfold V; after_results; try rfl

/-- The kernel's result after the run is the reference's. -/
theorem final (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [eq_ix2 y]
  refine (tile _ _ (ix2 (y 0) (y 1))).trans ?_
  refine Eq.trans ?_ ((congrArg _ (eq_ix2 _)).trans (ref_at _ _ _ _)).symm
  refine Finset.sum_congr rfl fun k _ => congrArg₂ (· * ·) (Eq.trans ?_ (congrFun (V_h m c) _)) (Eq.trans ?_ (congrFun (V_w m c) _))
  · blk_ext [iblk, idx t]
  · blk_ext [iblk, idx t]

end Cert.WinIdeal.Value

end

end
-- ==== Proof.WinClaim.lean ====
module

public import proofs.«01_k».proof.Defs
public import proofs.«01_k».proof.Proof.WinValue
public import proofs.«01_k».proof.Proof.Gen.WinIdeal.Value
public import proofs.«01_k».proof.Proof.Gen.WinRefIdeal.Run
public import proofs.«01_k».proof.Proof.Gen.WinRefIdeal.Read

@[expose] public section

set_option maxRecDepth 16384

noncomputable section

open Idealize.ShloMosaic Idealize.ShloMosaic.TcCoe Idealize.SL.Sem

namespace Cert.WinIdeal.Value

open Cert.WinIdeal Cert.WinIdeal.Gen Cert.WinRefIdeal.Read

/-- The mixer's first product: the kernel's result is the reference's. -/
theorem algebraic :
    Cert.algebraic_WinIdeal_WinRefIdeal (hWinIdeal := Cert.WinIdeal.Gen.facts) (hWinRefIdeal := Cert.WinRefIdeal.Gen.facts) := by
  intro m g m' g' _ hagree
  refine ⟨fun c => val_main_v7 (F := Ideal) (m ((c : Thread nD τ).loc main_arg0)) (m ((c : Thread nD τ).loc main_arg1)), ?_, ?_⟩
  · run_from Cert.WinIdeal.Gen.run_main m g
    exact final m c
  · refine θ_run_mono (Cert.WinRefIdeal.Value.run m' g') fun r h c => ?_
    obtain ⟨h0, a⟩ := h c
    obtain ⟨e0, e1⟩ := hagree c
    refine ⟨h0.trans ?_, a⟩
    rw [val_main_v7_eq, e0, e1]

/-- The reference keeps its arguments and leaves no counter raised. -/
theorem frame_ref : Cert.quiescent_WinRefIdeal (hWinRefIdeal := Cert.WinRefIdeal.Gen.facts) := fun m ρ _ =>
  (θ_run Cert.WinRefIdeal.defs _ _).mono (fun r h => ⟨fun c => (h c).2, Idealize.ShloMosaic.sem_eq_zero_of_no_sems (by decide) r.2⟩)
    (Cert.WinRefIdeal.Value.run (F := Ideal) m ρ)

end Cert.WinIdeal.Value

end

end
-- ==== Proof.Silu.lean ====
module

public import Idealize.ShloMosaic.Lib.Pipeline.ValueKit

@[expose] public section

open Idealize.ShloMosaic

namespace Cert.Silu

/-- The derivative of `g * logistic g` in the two ways it is written: true at the infinities too, where the logistic function
is 0 and 1. -/
theorem deriv (g : EReal) :
    Ideal.logistic g * (1 + g * (1 - Ideal.logistic g)) = 1 * Ideal.logistic g + (g * 1) * (Ideal.logistic g * (1 - Ideal.logistic g)) := by
  induction g with
  | bot => simp
  | top =>
    have h : (1 : EReal) - 1 = 0 := EReal.sub_self (EReal.coe_ne_top 1) (EReal.coe_ne_bot 1)
    rw [Ideal.logistic_top, h]
    simp
  | coe r =>
    rw [Ideal.logistic_coe]
    generalize (1 + Real.exp (-r))⁻¹ = s
    norm_cast
    ring

end Cert.Silu

end
-- ==== Proof.GuValue.lean ====
module

public import proofs.«01_k».proof.Proof.Gen.GuIdeal.Value
public import proofs.«01_k».proof.Proof.Gen.GuRefIdeal.Read
public import proofs.«01_k».proof.Proof.DhValue
public import proofs.«01_k».proof.Proof.Silu
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GuIdeal.Value

open Cert.GuIdeal Cert.GuIdeal.Gen Cert.GuRefIdeal.Read

variable (m : (ℓ : Loc nD τ sig) → Buf (Elt Ideal) ℓ) (c : Dev nD)

open Cert.DhIdeal.Value (sideW sideW_gate sideW_up)

/-- Every window's block index at every grid point. -/
theorem idx : ∀ t : Fin cfg0.N, win0_0.index t = ![t.val % 32, 0]
    ∧ win0_1.index t = ![0, t.val / 32]
    ∧ win0_2.index t = ![t.val % 32, t.val / 32]
    ∧ win0_3.index t = ![t.val % 32, t.val / 32] :=
  (by decide +kernel : ∀ t : Fin grid0.N, _)

/-- The product of a block, entry by entry. -/
theorem acc (v0 v1) (r : Fin 256) (k : Fin 2816) : k0_pay1 (F := Ideal) v0 v1 (ix2 r k) = ∑ q : Fin 1024, v0 (ix2 r q) * v1 (ix2 q k) := by
  pointwise [k0_pay1]

/-- The block of activations, entry by entry. -/
theorem pay_a (v0 v1) (r : Fin 256) (k : Fin 1408) : k0_pay7 (F := Ideal) v0 v1 (ix2 r k)
    = k0_pay1 (F := Ideal) v0 v1 (ix2 r ⟨k, by omega⟩)
      * Ideal.logistic (k0_pay1 (F := Ideal) v0 v1 (ix2 r ⟨k, by omega⟩))
      * k0_pay1 (F := Ideal) v0 v1 (ix2 r ⟨1408 + k, by omega⟩) := by
  pointwise [k0_pay7, k0_pay5, k0_pay4, k0_pay3, k0_pay2]

/-- The block of derivatives: by the gate in the first half of its columns, by the other product in the second. -/
theorem pay_dg (v0 v1) (r : Fin 256) (k : Fin 1408) : k0_pay6 (F := Ideal) v0 v1 (ix2 r ⟨k, by omega⟩)
    = k0_pay1 (F := Ideal) v0 v1 (ix2 r ⟨1408 + k, by omega⟩)
      * (Ideal.logistic (k0_pay1 (F := Ideal) v0 v1 (ix2 r ⟨k, by omega⟩))
        * (1 + k0_pay1 (F := Ideal) v0 v1 (ix2 r ⟨k, by omega⟩)
          * (1 - Ideal.logistic (k0_pay1 (F := Ideal) v0 v1 (ix2 r ⟨k, by omega⟩))))) := by
  pointwise [k0_pay6, k0_pay5, k0_pay4, k0_pay3, k0_pay2] <;> split_ifs <;> first | omega | blk_ext

theorem pay_sl (v0 v1) (r : Fin 256) (k : Fin 1408) : k0_pay6 (F := Ideal) v0 v1 (ix2 r ⟨1408 + k, by omega⟩)
    = k0_pay1 (F := Ideal) v0 v1 (ix2 r ⟨k, by omega⟩)
      * Ideal.logistic (k0_pay1 (F := Ideal) v0 v1 (ix2 r ⟨k, by omega⟩)) := by
  pointwise [k0_pay6, k0_pay5, k0_pay4, k0_pay3, k0_pay2] <;> split_ifs <;> first | omega | blk_ext

/-- Both products of the reference, entry by entry. -/
theorem ref_g (x0 x1) (i : Fin 8192) (j : Fin 2816) :
    val_main_v2 (F := Ideal) x0 x1 (ix2 i j) = ∑ k : Fin 1024, x0 (ix2 i k) * x1 (ix2 k j) := by
  pointwise [val_main_v2, val_main_v1, val_main_v0]

theorem ref_u (x0 x2) (i : Fin 8192) (j : Fin 2816) :
    val_main_v5 (F := Ideal) x0 x2 (ix2 i j) = ∑ k : Fin 1024, x0 (ix2 i k) * x2 (ix2 k j) := by
  pointwise [val_main_v5, val_main_v4, val_main_v3]

/-- The reference's logistic function. -/
theorem ref_sig (x0 x1) (i : Fin 8192) (j : Fin 2816) :
    val_main_v6_2 (F := Ideal) x0 x1 (ix2 i j) = Ideal.logistic (val_main_v2 (F := Ideal) x0 x1 (ix2 i j)) := by
  pointwise [val_main_v6_2, val_main_call0_v0, val_main_call0_v1, val_main_call0_cst, val_main_call0_v2, val_main_call0_v3, val_main_call0_cst_0, val_main_call0_v4, Ideal.logistic]

theorem ref_sl (x0 x1) (i : Fin 8192) (j : Fin 2816) :
    val_main_v6_0 (F := Ideal) x0 x1 (ix2 i j)
      = val_main_v2 (F := Ideal) x0 x1 (ix2 i j) * Ideal.logistic (val_main_v2 (F := Ideal) x0 x1 (ix2 i j)) := by
  rw [← ref_sig]
  pointwise [val_main_v6_0]

theorem ref_dg (x0 x1 x2) (i : Fin 8192) (j : Fin 2816) :
    val_main_v9 (F := Ideal) x0 x1 x2 (ix2 i j)
      = val_main_v5 (F := Ideal) x0 x2 (ix2 i j) * (Ideal.logistic (val_main_v2 (F := Ideal) x0 x1 (ix2 i j))
        * (1 + val_main_v2 (F := Ideal) x0 x1 (ix2 i j) * (1 - Ideal.logistic (val_main_v2 (F := Ideal) x0 x1 (ix2 i j))))) := by
  rw [Silu.deriv, ← ref_sig]
  pointwise [val_main_v9, val_main_v8, val_main_call1_v0, val_main_call1_v1, val_main_call1_v2, val_main_v6_1, val_main_call0_v6, val_main_call0_v7, val_main_call0_cst_1, val_main_v7, val_main_cst]

theorem ref_a (x0 x1 x2) (i : Fin 8192) (j : Fin 2816) :
    val_main_v17 (F := Ideal) x0 x1 x2 (ix2 i j)
      = val_main_v2 (F := Ideal) x0 x1 (ix2 i j) * Ideal.logistic (val_main_v2 (F := Ideal) x0 x1 (ix2 i j)) * val_main_v5 (F := Ideal) x0 x2 (ix2 i j) := by
  rw [← ref_sl]
  pointwise [val_main_v17, val_main_v16]

/-- The derivatives side by side, in two tiles. -/
theorem ref_s_gate (x0 x1 x2) (i : Fin 8192) (s : Fin 2) (k : Fin 1408) :
    val_main_v15 (F := Ideal) x0 x1 x2 (ix2 i ⟨s * 2816 + k, by omega⟩) = val_main_v9 (F := Ideal) x0 x1 x2 (ix2 i ⟨s * 1408 + k, by omega⟩) := by
  fin_cases s <;> pointwise [val_main_v15, val_main_v14, val_main_v13, val_main_v12, val_main_v11, val_main_v10] <;> split_ifs <;> first | omega | blk_ext

theorem ref_s_up (x0 x1 x2) (i : Fin 8192) (s : Fin 2) (k : Fin 1408) :
    val_main_v15 (F := Ideal) x0 x1 x2 (ix2 i ⟨s * 2816 + (1408 + k), by omega⟩) = val_main_v6_0 (F := Ideal) x0 x1 (ix2 i ⟨s * 1408 + k, by omega⟩) := by
  fin_cases s <;> pointwise [val_main_v15, val_main_v14, val_main_v13, val_main_v12, val_main_v11, val_main_v10] <;> split_ifs <;> first | omega | blk_ext

theorem V_h : V m c main_arg0 = (m ((c : Thread nD τ).loc main_arg0)) := V_main_arg0 m c

theorem V_mats : V m c main_v4 = sideW (m ((c : Thread nD τ).loc main_arg1)) (m ((c : Thread nD τ).loc main_arg2)) := by
  unfold V; after_results; try rfl

/-- Row `r` of point `t`'s block, the half its columns are in, and column `k` of it. -/
abbrev row (t : Fin cfg0.N) (r : Fin 256) : Fin 8192 := ⟨t.val % 32 * 256 + r, by omega⟩
abbrev half (t : Fin cfg0.N) : Fin 2 := ⟨t.val / 32, by have := t.isLt; have : cfg0.N = 64 := N_0; omega⟩
abbrev col (t : Fin cfg0.N) (k : Fin 1408) : Fin 2816 := ⟨(half t).val * 1408 + k, by omega⟩

theorem blk_g (t : Fin cfg0.N) (r : Fin 256) (k : Fin 1408) :
    k0_pay1 (F := Ideal) (iblk m c 0 t) (iblk m c 1 t) (ix2 r ⟨k, by omega⟩)
      = val_main_v2 (F := Ideal) (m ((c : Thread nD τ).loc main_arg0)) (m ((c : Thread nD τ).loc main_arg1)) (ix2 (row t r) (col t k)) := by
  rw [acc, ref_g]
  refine Finset.sum_congr rfl fun q _ => congrArg₂ (· * ·) (Eq.trans ?_ (congrFun (V_h m c) _))
    (Eq.trans ?_ ((congrFun (V_mats m c) _).trans (sideW_gate _ _ _ (half t) k)))
  · blk_ext [iblk, idx t]
  · blk_ext [iblk, idx t]

theorem blk_u (t : Fin cfg0.N) (r : Fin 256) (k : Fin 1408) :
    k0_pay1 (F := Ideal) (iblk m c 0 t) (iblk m c 1 t) (ix2 r ⟨1408 + k, by omega⟩)
      = val_main_v5 (F := Ideal) (m ((c : Thread nD τ).loc main_arg0)) (m ((c : Thread nD τ).loc main_arg2)) (ix2 (row t r) (col t k)) := by
  rw [acc, ref_u]
  refine Finset.sum_congr rfl fun q _ => congrArg₂ (· * ·) (Eq.trans ?_ (congrFun (V_h m c) _))
    (Eq.trans ?_ ((congrFun (V_mats m c) _).trans (sideW_up _ _ _ (half t) k)))
  · blk_ext [iblk, idx t]
  · blk_ext [iblk, idx t]

theorem blk_s (t : Fin cfg0.N) (r : Fin 256) (j : Fin 2816) :
    k0_pay6 (F := Ideal) (iblk m c 0 t) (iblk m c 1 t) (ix2 r j)
      = val_main_v15 (F := Ideal) (m ((c : Thread nD τ).loc main_arg0)) (m ((c : Thread nD τ).loc main_arg1)) (m ((c : Thread nD τ).loc main_arg2))
          (ix2 (row t r) ⟨(half t).val * 2816 + j, by omega⟩) := by
  rcases Nat.lt_or_ge j.val 1408 with h | h
  · obtain ⟨k, rfl⟩ : ∃ k : Fin 1408, j = ⟨k, k.isLt.trans (by decide)⟩ := ⟨⟨j, h⟩, rfl⟩
    rw [pay_dg, blk_g, blk_u, ← ref_dg, ← ref_s_gate]
  · obtain ⟨k, rfl⟩ : ∃ k : Fin 1408, j = ⟨1408 + k, Nat.add_lt_add_left k.isLt 1408⟩ := ⟨⟨j - 1408, by omega⟩, Fin.ext (by simp only; omega)⟩
    rw [pay_sl, blk_g, ← ref_sl, ← ref_s_up _ _ (m ((c : Thread nD τ).loc main_arg2))]

/-- The array of derivatives after the run is the reference's. -/
theorem final_s : (dats m 0 c).arrAt 2 (cfgs 0).N = val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  rw [eq_ix2 y]
  refine (blk_s m c t (y 0) (y 1)).trans ?_
  blk_ext [idx t]

theorem blk_a (t : Fin cfg0.N) (r : Fin 256) (k : Fin 1408) :
    k0_pay7 (F := Ideal) (iblk m c 0 t) (iblk m c 1 t) (ix2 r k)
      = val_main_v17 (F := Ideal) (m ((c : Thread nD τ).loc main_arg0)) (m ((c : Thread nD τ).loc main_arg1)) (m ((c : Thread nD τ).loc main_arg2)) (ix2 (row t r) (col t k)) := by
  rw [pay_a, blk_g, blk_u, ← ref_a]

/-- The array of activations after the run is the reference's. -/
theorem final_a : (dats m 0 c).arrAt 3 (cfgs 0).N = val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [eq_ix2 y]
  refine (blk_a m c t (y 0) (y 1)).trans ?_
  blk_ext [idx t]

end Cert.GuIdeal.Value

end

end
-- ==== Proof.GuClaim.lean ====
module

public import proofs.«01_k».proof.Defs
public import proofs.«01_k».proof.Proof.GuValue
public import proofs.«01_k».proof.Proof.Gen.GuIdeal.Value
public import proofs.«01_k».proof.Proof.Gen.GuRefIdeal.Run
public import proofs.«01_k».proof.Proof.Gen.GuRefIdeal.Read

@[expose] public section

set_option maxRecDepth 16384

noncomputable section

open Idealize.ShloMosaic Idealize.ShloMosaic.TcCoe Idealize.SL.Sem

namespace Cert.GuIdeal.Value

open Cert.GuIdeal Cert.GuIdeal.Gen Cert.GuRefIdeal.Read

/-- The first half of a feed-forward block: the saved derivatives and the activations: the kernel's results are the reference's. -/
theorem algebraic :
    Cert.algebraic_GuIdeal_GuRefIdeal (hGuIdeal := Cert.GuIdeal.Gen.facts) (hGuRefIdeal := Cert.GuRefIdeal.Gen.facts) := by
  intro m g m' g' _ hagree
  refine ⟨fun c => val_main_v15 (F := Ideal) (m ((c : Thread nD τ).loc main_arg0)) (m ((c : Thread nD τ).loc main_arg1)) (m ((c : Thread nD τ).loc main_arg2)),
    fun c => val_main_v17 (F := Ideal) (m ((c : Thread nD τ).loc main_arg0)) (m ((c : Thread nD τ).loc main_arg1)) (m ((c : Thread nD τ).loc main_arg2)), ?_, ?_⟩
  · run_from Cert.GuIdeal.Gen.run_main m g
    · exact final_s m c
    · exact final_a m c
  · refine θ_run_mono (Cert.GuRefIdeal.Value.run m' g') fun r h c => ?_
    obtain ⟨h0, h1, a⟩ := h c
    obtain ⟨e0, e1, e2⟩ := hagree c
    refine ⟨h0.trans ?_, h1.trans ?_, a⟩
    · rw [val_main_v15_eq, e0, e1, e2]
    · rw [val_main_v17_eq, e0, e1, e2]

/-- The reference keeps its arguments and leaves no counter raised. -/
theorem frame_ref : Cert.quiescent_GuRefIdeal (hGuRefIdeal := Cert.GuRefIdeal.Gen.facts) := fun m ρ _ =>
  (θ_run Cert.GuRefIdeal.defs _ _).mono (fun r h => ⟨fun c => (h c).2.2, Idealize.ShloMosaic.sem_eq_zero_of_no_sems (by decide) r.2⟩)
    (Cert.GuRefIdeal.Value.run (F := Ideal) m ρ)

end Cert.GuIdeal.Value

end

end
-- ==== Proof.Gu1Value.lean ====
module

public import proofs.«01_k».proof.Proof.Gen.Gu1Ideal.Value
public import proofs.«01_k».proof.Proof.Gen.Gu1RefIdeal.Read
public import proofs.«01_k».proof.Proof.GuValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Gu1Ideal.Value

open Cert.Gu1Ideal Cert.Gu1Ideal.Gen Cert.Gu1RefIdeal.Read

variable (m : (ℓ : Loc nD τ sig) → Buf (Elt Ideal) ℓ) (c : Dev nD)

open Cert.DhIdeal.Value (sideW sideW_gate sideW_up)

/-- Every window's block index at every grid point. -/
theorem idx : ∀ t : Fin cfg0.N, win0_0.index t = ![t.val % 36, 0]
    ∧ win0_1.index t = ![0, t.val / 36]
    ∧ win0_2.index t = ![t.val % 36, t.val / 36]
    ∧ win0_3.index t = ![t.val % 36, t.val / 36] :=
  (by decide +kernel : ∀ t : Fin grid0.N, _)

/-- The block of activations, entry by entry. -/
theorem pay_a (v0 v1) (r : Fin 256) (k : Fin 1408) : k0_pay7 (F := Ideal) v0 v1 (ix2 r k)
    = k0_pay1 (F := Ideal) v0 v1 (ix2 r ⟨k, by omega⟩)
      * Ideal.logistic (k0_pay1 (F := Ideal) v0 v1 (ix2 r ⟨k, by omega⟩))
      * k0_pay1 (F := Ideal) v0 v1 (ix2 r ⟨1408 + k, by omega⟩) :=
  Cert.GuIdeal.Value.pay_a v0 v1 r k

/-- The block of derivatives: by the gate in the first half of its columns, by the other product in the second. -/
theorem pay_dg (v0 v1) (r : Fin 256) (k : Fin 1408) : k0_pay6 (F := Ideal) v0 v1 (ix2 r ⟨k, by omega⟩)
    = k0_pay1 (F := Ideal) v0 v1 (ix2 r ⟨1408 + k, by omega⟩)
      * (Ideal.logistic (k0_pay1 (F := Ideal) v0 v1 (ix2 r ⟨k, by omega⟩))
        * (1 + k0_pay1 (F := Ideal) v0 v1 (ix2 r ⟨k, by omega⟩)
          * (1 - Ideal.logistic (k0_pay1 (F := Ideal) v0 v1 (ix2 r ⟨k, by omega⟩))))) :=
  Cert.GuIdeal.Value.pay_dg v0 v1 r k

theorem pay_sl (v0 v1) (r : Fin 256) (k : Fin 1408) : k0_pay6 (F := Ideal) v0 v1 (ix2 r ⟨1408 + k, by omega⟩)
    = k0_pay1 (F := Ideal) v0 v1 (ix2 r ⟨k, by omega⟩)
      * Ideal.logistic (k0_pay1 (F := Ideal) v0 v1 (ix2 r ⟨k, by omega⟩)) :=
  Cert.GuIdeal.Value.pay_sl v0 v1 r k

/-- Both products of the reference, entry by entry. -/
theorem ref_g (x0 x1) (i : Fin 9216) (j : Fin 2816) :
    val_main_v2 (F := Ideal) x0 x1 (ix2 i j) = ∑ k : Fin 1024, x0 (ix2 i k) * x1 (ix2 k j) := by
  pointwise [val_main_v2, val_main_v1, val_main_v0]

theorem ref_u (x0 x2) (i : Fin 9216) (j : Fin 2816) :
    val_main_v5 (F := Ideal) x0 x2 (ix2 i j) = ∑ k : Fin 1024, x0 (ix2 i k) * x2 (ix2 k j) := by
  pointwise [val_main_v5, val_main_v4, val_main_v3]

/-- The reference's logistic function. -/
theorem ref_sig (x0 x1) (i : Fin 9216) (j : Fin 2816) :
    val_main_v6_2 (F := Ideal) x0 x1 (ix2 i j) = Ideal.logistic (val_main_v2 (F := Ideal) x0 x1 (ix2 i j)) := by
  pointwise [val_main_v6_2, val_main_call0_v0, val_main_call0_v1, val_main_call0_cst, val_main_call0_v2, val_main_call0_v3, val_main_call0_cst_0, val_main_call0_v4, Ideal.logistic]

theorem ref_sl (x0 x1) (i : Fin 9216) (j : Fin 2816) :
    val_main_v6_0 (F := Ideal) x0 x1 (ix2 i j)
      = val_main_v2 (F := Ideal) x0 x1 (ix2 i j) * Ideal.logistic (val_main_v2 (F := Ideal) x0 x1 (ix2 i j)) := by
  rw [← ref_sig]
  pointwise [val_main_v6_0]

theorem ref_dg (x0 x1 x2) (i : Fin 9216) (j : Fin 2816) :
    val_main_v9 (F := Ideal) x0 x1 x2 (ix2 i j)
      = val_main_v5 (F := Ideal) x0 x2 (ix2 i j) * (Ideal.logistic (val_main_v2 (F := Ideal) x0 x1 (ix2 i j))
        * (1 + val_main_v2 (F := Ideal) x0 x1 (ix2 i j) * (1 - Ideal.logistic (val_main_v2 (F := Ideal) x0 x1 (ix2 i j))))) := by
  rw [Silu.deriv, ← ref_sig]
  pointwise [val_main_v9, val_main_v8, val_main_call1_v0, val_main_call1_v1, val_main_call1_v2, val_main_v6_1, val_main_call0_v6, val_main_call0_v7, val_main_call0_cst_1, val_main_v7, val_main_cst]

theorem ref_a (x0 x1 x2) (i : Fin 9216) (j : Fin 2816) :
    val_main_v17 (F := Ideal) x0 x1 x2 (ix2 i j)
      = val_main_v2 (F := Ideal) x0 x1 (ix2 i j) * Ideal.logistic (val_main_v2 (F := Ideal) x0 x1 (ix2 i j)) * val_main_v5 (F := Ideal) x0 x2 (ix2 i j) := by
  rw [← ref_sl]
  pointwise [val_main_v17, val_main_v16]

/-- The derivatives side by side, in two tiles. -/
theorem ref_s_gate (x0 x1 x2) (i : Fin 9216) (s : Fin 2) (k : Fin 1408) :
    val_main_v15 (F := Ideal) x0 x1 x2 (ix2 i ⟨s * 2816 + k, by omega⟩) = val_main_v9 (F := Ideal) x0 x1 x2 (ix2 i ⟨s * 1408 + k, by omega⟩) := by
  fin_cases s <;> pointwise [val_main_v15, val_main_v14, val_main_v13, val_main_v12, val_main_v11, val_main_v10] <;> split_ifs <;> first | omega | blk_ext

theorem ref_s_up (x0 x1 x2) (i : Fin 9216) (s : Fin 2) (k : Fin 1408) :
    val_main_v15 (F := Ideal) x0 x1 x2 (ix2 i ⟨s * 2816 + (1408 + k), by omega⟩) = val_main_v6_0 (F := Ideal) x0 x1 (ix2 i ⟨s * 1408 + k, by omega⟩) := by
  fin_cases s <;> pointwise [val_main_v15, val_main_v14, val_main_v13, val_main_v12, val_main_v11, val_main_v10] <;> split_ifs <;> first | omega | blk_ext

theorem V_h : V m c main_arg0 = (m ((c : Thread nD τ).loc main_arg0)) := V_main_arg0 m c

theorem V_mats : V m c main_v4 = sideW (m ((c : Thread nD τ).loc main_arg1)) (m ((c : Thread nD τ).loc main_arg2)) := by
  unfold V; after_results; try rfl

/-- Row `r` of point `t`'s block, the half its columns are in, and column `k` of it. -/
abbrev row (t : Fin cfg0.N) (r : Fin 256) : Fin 9216 := ⟨t.val % 36 * 256 + r, by omega⟩
abbrev half (t : Fin cfg0.N) : Fin 2 := ⟨t.val / 36, by have := t.isLt; have : cfg0.N = 72 := N_0; omega⟩
abbrev col (t : Fin cfg0.N) (k : Fin 1408) : Fin 2816 := ⟨(half t).val * 1408 + k, by omega⟩

theorem blk_g (t : Fin cfg0.N) (r : Fin 256) (k : Fin 1408) :
    k0_pay1 (F := Ideal) (iblk m c 0 t) (iblk m c 1 t) (ix2 r ⟨k, by omega⟩)
      = val_main_v2 (F := Ideal) (m ((c : Thread nD τ).loc main_arg0)) (m ((c : Thread nD τ).loc main_arg1)) (ix2 (row t r) (col t k)) := by
  refine (Cert.GuIdeal.Value.acc _ _ r _).trans ?_
  rw [ref_g]
  refine Finset.sum_congr rfl fun q _ => congrArg₂ (· * ·) (Eq.trans ?_ (congrFun (V_h m c) _))
    (Eq.trans ?_ ((congrFun (V_mats m c) _).trans (sideW_gate _ _ _ (half t) k)))
  · blk_ext [iblk, idx t]
  · blk_ext [iblk, idx t]

theorem blk_u (t : Fin cfg0.N) (r : Fin 256) (k : Fin 1408) :
    k0_pay1 (F := Ideal) (iblk m c 0 t) (iblk m c 1 t) (ix2 r ⟨1408 + k, by omega⟩)
      = val_main_v5 (F := Ideal) (m ((c : Thread nD τ).loc main_arg0)) (m ((c : Thread nD τ).loc main_arg2)) (ix2 (row t r) (col t k)) := by
  refine (Cert.GuIdeal.Value.acc _ _ r _).trans ?_
  rw [ref_u]
  refine Finset.sum_congr rfl fun q _ => congrArg₂ (· * ·) (Eq.trans ?_ (congrFun (V_h m c) _))
    (Eq.trans ?_ ((congrFun (V_mats m c) _).trans (sideW_up _ _ _ (half t) k)))
  · blk_ext [iblk, idx t]
  · blk_ext [iblk, idx t]

theorem blk_s (t : Fin cfg0.N) (r : Fin 256) (j : Fin 2816) :
    k0_pay6 (F := Ideal) (iblk m c 0 t) (iblk m c 1 t) (ix2 r j)
      = val_main_v15 (F := Ideal) (m ((c : Thread nD τ).loc main_arg0)) (m ((c : Thread nD τ).loc main_arg1)) (m ((c : Thread nD τ).loc main_arg2))
          (ix2 (row t r) ⟨(half t).val * 2816 + j, by omega⟩) := by
  rcases Nat.lt_or_ge j.val 1408 with h | h
  · obtain ⟨k, rfl⟩ : ∃ k : Fin 1408, j = ⟨k, k.isLt.trans (by decide)⟩ := ⟨⟨j, h⟩, rfl⟩
    rw [pay_dg, blk_g, blk_u, ← ref_dg, ← ref_s_gate]
  · obtain ⟨k, rfl⟩ : ∃ k : Fin 1408, j = ⟨1408 + k, Nat.add_lt_add_left k.isLt 1408⟩ := ⟨⟨j - 1408, by omega⟩, Fin.ext (by simp only; omega)⟩
    rw [pay_sl, blk_g, ← ref_sl, ← ref_s_up _ _ (m ((c : Thread nD τ).loc main_arg2))]

/-- The array of derivatives after the run is the reference's. -/
theorem final_s : (dats m 0 c).arrAt 2 (cfgs 0).N = val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  rw [eq_ix2 y]
  refine (blk_s m c t (y 0) (y 1)).trans ?_
  blk_ext [idx t]

theorem blk_a (t : Fin cfg0.N) (r : Fin 256) (k : Fin 1408) :
    k0_pay7 (F := Ideal) (iblk m c 0 t) (iblk m c 1 t) (ix2 r k)
      = val_main_v17 (F := Ideal) (m ((c : Thread nD τ).loc main_arg0)) (m ((c : Thread nD τ).loc main_arg1)) (m ((c : Thread nD τ).loc main_arg2)) (ix2 (row t r) (col t k)) := by
  rw [pay_a, blk_g, blk_u, ← ref_a]

/-- The array of activations after the run is the reference's. -/
theorem final_a : (dats m 0 c).arrAt 3 (cfgs 0).N = val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [eq_ix2 y]
  refine (blk_a m c t (y 0) (y 1)).trans ?_
  blk_ext [idx t]

end Cert.Gu1Ideal.Value

end

end
-- ==== Proof.Gu1Claim.lean ====
module

public import proofs.«01_k».proof.Defs
public import proofs.«01_k».proof.Proof.Gu1Value
public import proofs.«01_k».proof.Proof.Gen.Gu1Ideal.Value
public import proofs.«01_k».proof.Proof.Gen.Gu1RefIdeal.Run
public import proofs.«01_k».proof.Proof.Gen.Gu1RefIdeal.Read

@[expose] public section

set_option maxRecDepth 16384

noncomputable section

open Idealize.ShloMosaic Idealize.ShloMosaic.TcCoe Idealize.SL.Sem

namespace Cert.Gu1Ideal.Value

open Cert.Gu1Ideal Cert.Gu1Ideal.Gen Cert.Gu1RefIdeal.Read

/-- The same for the first block: the kernel's results are the reference's. -/
theorem algebraic :
    Cert.algebraic_Gu1Ideal_Gu1RefIdeal (hGu1Ideal := Cert.Gu1Ideal.Gen.facts) (hGu1RefIdeal := Cert.Gu1RefIdeal.Gen.facts) := by
  intro m g m' g' _ hagree
  refine ⟨fun c => val_main_v15 (F := Ideal) (m ((c : Thread nD τ).loc main_arg0)) (m ((c : Thread nD τ).loc main_arg1)) (m ((c : Thread nD τ).loc main_arg2)),
    fun c => val_main_v17 (F := Ideal) (m ((c : Thread nD τ).loc main_arg0)) (m ((c : Thread nD τ).loc main_arg1)) (m ((c : Thread nD τ).loc main_arg2)), ?_, ?_⟩
  · run_from Cert.Gu1Ideal.Gen.run_main m g
    · exact final_s m c
    · exact final_a m c
  · refine θ_run_mono (Cert.Gu1RefIdeal.Value.run m' g') fun r h c => ?_
    obtain ⟨h0, h1, a⟩ := h c
    obtain ⟨e0, e1, e2⟩ := hagree c
    refine ⟨h0.trans ?_, h1.trans ?_, a⟩
    · rw [val_main_v15_eq, e0, e1, e2]
    · rw [val_main_v17_eq, e0, e1, e2]

/-- The reference keeps its arguments and leaves no counter raised. -/
theorem frame_ref : Cert.quiescent_Gu1RefIdeal (hGu1RefIdeal := Cert.Gu1RefIdeal.Gen.facts) := fun m ρ _ =>
  (θ_run Cert.Gu1RefIdeal.defs _ _).mono (fun r h => ⟨fun c => (h c).2.2, Idealize.ShloMosaic.sem_eq_zero_of_no_sems (by decide) r.2⟩)
    (Cert.Gu1RefIdeal.Value.run (F := Ideal) m ρ)

end Cert.Gu1Ideal.Value

end

end
-- ==== Proof.DownValue.lean ====
module

public import proofs.«01_k».proof.Proof.Gen.DownIdeal.Value
public import proofs.«01_k».proof.Proof.Gen.DownRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen Cert.DownRefIdeal.Read

variable (m : (ℓ : Loc nD τ sig) → Buf (Elt Ideal) ℓ) (c : Dev nD)

/-- Every window's block index at every grid point. -/
theorem idx : ∀ t : Fin cfg0.N, win0_0.index t = ![t.val, 0]
    ∧ win0_1.index t = ![0, 0]
    ∧ win0_2.index t = ![t.val, 0]
    ∧ win0_4.index t = ![t.val, 0]
    ∧ win0_5.index t = ![t.val, 0] :=
  (by decide +kernel : ∀ t : Fin grid0.N, _)

/-- The modulation's block at a point: its sequence, or the context tokens'. -/
theorem idx3 : ∀ t : Fin cfg0.N, win0_3.index t = ![t.val / 4, 0, 0] :=
  (by decide +kernel : ∀ t : Fin grid0.N, _)

/-- The product of a block of rows, entry by entry. -/
theorem acc (v0 v1) (r : Fin 512) (l : Fin 1024) : k0_pay1 (F := Ideal) v0 v1 (ix2 r l) = ∑ k : Fin 2816, v0 (ix2 r k) * v1 (ix2 k l) := by
  pointwise [k0_pay1]

/-- The reference's product, entry by entry. -/
theorem ref_o (x0 x1) (i : Fin 8192) (l : Fin 1024) : val_main_v2 (F := Ideal) x0 x1 (ix2 i l) = ∑ k : Fin 2816, x0 (ix2 i k) * x1 (ix2 k l) := by
  pointwise [val_main_v2, val_main_v1, val_main_v0]

/-- The reference's rows by sequence. -/
theorem ref_x (x2) (b : Fin 4) (q : Fin 2048) (l : Fin 1024) : val_main_v3 (F := Ideal) x2 (ix3 b q l) = x2 (ix2 ⟨b * 2048 + q, by omega⟩ l) := by
  pointwise [val_main_v3]

theorem ref_o3 (x0 x1) (b : Fin 4) (q : Fin 2048) (l : Fin 1024) : val_main_v9 (F := Ideal) x0 x1 (ix3 b q l) = val_main_v2 (F := Ideal) x0 x1 (ix2 ⟨b * 2048 + q, by omega⟩ l) := by
  pointwise [val_main_v9]

theorem ref_flat (x0 x1 x2 x3) (i : Fin 8192) (l : Fin 1024) :
    val_main_v13 (F := Ideal) x0 x1 x2 x3 (ix2 i l) = val_main_v12 (F := Ideal) x0 x1 x2 x3 (ix3 ⟨i / 2048, by omega⟩ ⟨i % 2048, by omega⟩ l) := by
  pointwise [val_main_v13]

/-- A row of the result. -/
theorem y_row (v0 v1 v3 v4 x0 x1 x2 x3) (r : Fin 512) (b : Fin 4) (q : Fin 2048) (l : Fin 1024)
    (ho : k0_pay1 (F := Ideal) v0 v1 (ix2 r l) = val_main_v2 (F := Ideal) x0 x1 (ix2 ⟨b * 2048 + q, by omega⟩ l))
    (hx : v3 (ix2 r l) = x2 (ix2 ⟨b * 2048 + q, by omega⟩ l)) (hm : ∀ a : Fin 9, v4 (ix3 0 a l) = x3 (ix3 ⟨b, by omega⟩ a l)) :
    k0_pay2 (F := Ideal) v0 v1 v3 v4 (ix2 r l) = val_main_v12 (F := Ideal) x0 x1 x2 x3 (ix3 b q l) := by
  rw [← ref_o3] at ho
  have hx := hx.trans (ref_x x2 b q l).symm
  pointwise [k0_pay2, val_main_v12, val_main_v11, val_main_v10, val_main_v8, val_main_v7, val_main_cst, val_main_v6, val_main_v5, val_main_v4, ho, hx, hm]

/-- Row `r` of block `t` in the whole array, and its row of the modulation. -/
abbrev row (t : Fin cfg0.N) (r : Fin 512) : Fin 8192 := ⟨t.val * 512 + r, by have := t.isLt; have : cfg0.N = 16 := N_0; omega⟩
abbrev seq (t : Fin cfg0.N) : Fin 5 := ⟨t.val / 4, by have := t.isLt; have : cfg0.N = 16 := N_0; omega⟩

theorem blk_o (t : Fin cfg0.N) (r : Fin 512) (l : Fin 1024) :
    k0_pay1 (F := Ideal) (iblk m c 0 t) (iblk m c 1 t) (ix2 r l) = val_main_v2 (F := Ideal) (m ((c : Thread nD τ).loc main_arg0)) (m ((c : Thread nD τ).loc main_arg1)) (ix2 (row t r) l) := by
  rw [acc, ref_o]
  refine Finset.sum_congr rfl fun k _ => congrArg₂ (· * ·) (Eq.trans ?_ (congrFun (V_main_arg0 m c) _)) (Eq.trans ?_ (congrFun (V_main_arg1 m c) _))
  · blk_ext [iblk, idx t]
  · blk_ext [iblk, idx t]

theorem blk_x (t : Fin cfg0.N) (r : Fin 512) (l : Fin 1024) : iblk m c 2 t (ix2 r l) = (m ((c : Thread nD τ).loc main_arg2)) (ix2 (row t r) l) := by
  refine Eq.trans ?_ (congrFun (V_main_arg2 m c) _)
  blk_ext [iblk, idx t]

theorem blk_m (t : Fin cfg0.N) (a : Fin 9) (l : Fin 1024) : iblk m c 3 t (ix3 0 a l) = (m ((c : Thread nD τ).loc main_arg3)) (ix3 (seq t) a l) := by
  refine Eq.trans ?_ (congrFun (V_main_arg3 m c) _)
  blk_ext [iblk, idx3 t]

/-- The product after the run is the reference's. -/
theorem final_o : (dats m 0 c).arrAt 4 (cfgs 0).N = val_main_v2 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  rw [eq_ix2 y]
  refine (blk_o m c t (y 0) (y 1)).trans ?_
  blk_ext [idx t]

/-- The sum with the gated product after the run is the reference's. -/
theorem final_y : (dats m 0 c).arrAt 5 (cfgs 0).N = val_main_v13 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [eq_ix2 y]
  have ht : t.val < 16 := lt_of_lt_of_eq t.isLt N_0
  have hq (r : Fin 512) : (⟨(row t r).val / 2048 * 2048 + (row t r).val % 2048, by omega⟩ : Fin 8192) = row t r := Fin.ext (by simp only; omega)
  have hs (r : Fin 512) : (⟨(row t r).val / 2048, by omega⟩ : Fin 5) = seq t := Fin.ext (by simp only; omega)
  refine (y_row _ _ _ _ (m ((c : Thread nD τ).loc main_arg0)) (m ((c : Thread nD τ).loc main_arg1)) (m ((c : Thread nD τ).loc main_arg2)) (m ((c : Thread nD τ).loc main_arg3)) (y 0) ⟨(row t (y 0)).val / 2048, by omega⟩ ⟨(row t (y 0)).val % 2048, by omega⟩ (y 1) ?_ ?_ fun a => ?_).trans ?_
  · exact (blk_o m c t (y 0) (y 1)).trans (congrArg _ (congrArg (ix2 · _) (hq (y 0)).symm))
  · exact (blk_x m c t (y 0) (y 1)).trans (congrArg _ (congrArg (ix2 · _) (hq (y 0)).symm))
  · exact (blk_m m c t a (y 1)).trans (congrArg _ (congrArg (ix3 · _ _) (hs (y 0)).symm))
  · refine (ref_flat _ _ _ _ _ _).symm.trans ?_
    blk_ext [idx t]

end Cert.DownIdeal.Value

end

end
-- ==== Proof.DownClaim.lean ====
module

public import proofs.«01_k».proof.Defs
public import proofs.«01_k».proof.Proof.DownValue
public import proofs.«01_k».proof.Proof.Gen.DownIdeal.Value
public import proofs.«01_k».proof.Proof.Gen.DownRefIdeal.Run
public import proofs.«01_k».proof.Proof.Gen.DownRefIdeal.Read

@[expose] public section

set_option maxRecDepth 16384

noncomputable section

open Idealize.ShloMosaic Idealize.ShloMosaic.TcCoe Idealize.SL.Sem

namespace Cert.DownIdeal.Value

open Cert.DownIdeal Cert.DownIdeal.Gen Cert.DownRefIdeal.Read

/-- The second half of a feed-forward block: its product and the stream it is added to: the kernel's results are the reference's. -/
theorem algebraic :
    Cert.algebraic_DownIdeal_DownRefIdeal (hDownIdeal := Cert.DownIdeal.Gen.facts) (hDownRefIdeal := Cert.DownRefIdeal.Gen.facts) := by
  intro m g m' g' _ hagree
  refine ⟨fun c => val_main_v2 (F := Ideal) (m ((c : Thread nD τ).loc main_arg0)) (m ((c : Thread nD τ).loc main_arg1)),
    fun c => val_main_v13 (F := Ideal) (m ((c : Thread nD τ).loc main_arg0)) (m ((c : Thread nD τ).loc main_arg1)) (m ((c : Thread nD τ).loc main_arg2))
        (m ((c : Thread nD τ).loc main_arg3)), ?_, ?_⟩
  · run_from Cert.DownIdeal.Gen.run_main m g
    · exact final_o m c
    · exact final_y m c
  · refine θ_run_mono (Cert.DownRefIdeal.Value.run m' g') fun r h c => ?_
    obtain ⟨h0, h1, a⟩ := h c
    obtain ⟨e0, e1, e2, e3⟩ := hagree c
    refine ⟨h0.trans ?_, h1.trans ?_, a⟩
    · rw [val_main_v2_eq, e0, e1]
    · rw [val_main_v13_eq, e0, e1, e2, e3]

/-- The reference keeps its arguments and leaves no counter raised. -/
theorem frame_ref : Cert.quiescent_DownRefIdeal (hDownRefIdeal := Cert.DownRefIdeal.Gen.facts) := fun m ρ _ =>
  (θ_run Cert.DownRefIdeal.defs _ _).mono (fun r h => ⟨fun c => (h c).2.2, Idealize.ShloMosaic.sem_eq_zero_of_no_sems (by decide) r.2⟩)
    (Cert.DownRefIdeal.Value.run (F := Ideal) m ρ)

end Cert.DownIdeal.Value

end

end
-- ==== Proof.WoutValue.lean ====
module

public import proofs.«01_k».proof.Proof.Gen.WoutIdeal.Value
public import proofs.«01_k».proof.Proof.Gen.WoutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WoutIdeal.Value

open Cert.WoutIdeal Cert.WoutIdeal.Gen Cert.WoutRefIdeal.Read

variable (m : (ℓ : Loc nD τ sig) → Buf (Elt Ideal) ℓ) (c : Dev nD)

/-- Every window's block index at every grid point. -/
theorem idx : ∀ t : Fin cfg0.N, win0_0.index t = ![t.val, 0]
    ∧ win0_1.index t = ![0, 0]
    ∧ win0_2.index t = ![t.val, 0]
    ∧ win0_4.index t = ![0, 0, 0]
    ∧ win0_5.index t = ![t.val, 0]
    ∧ win0_6.index t = ![t.val, 0]
    ∧ win0_7.index t = ![t.val, 0] :=
  (by decide +kernel : ∀ t : Fin grid0.N, _)

/-- The modulation's block at a point: its sequence, or the context tokens'. -/
theorem idx3 : ∀ t : Fin cfg0.N, win0_3.index t = ![t.val / 4, 0, 0] :=
  (by decide +kernel : ∀ t : Fin grid0.N, _)

/-- The product of a block of rows, entry by entry. -/
theorem acc (v0 v1) (r : Fin 512) (l : Fin 1024) : k0_pay2 (F := Ideal) v0 v1 (ix2 r l) = ∑ k : Fin 2048, v0 (ix2 r k) * v1 (ix2 k l) := by
  pointwise [k0_pay2]

/-- The reference's product, entry by entry. -/
theorem ref_o (x0 x1) (i : Fin 8192) (l : Fin 1024) : val_main_v2 (F := Ideal) x0 x1 (ix2 i l) = ∑ k : Fin 2048, x0 (ix2 i k) * x1 (ix2 k l) := by
  pointwise [val_main_v2, val_main_v1, val_main_v0]

/-- The reference's rows by sequence. -/
theorem ref_x (x2) (b : Fin 4) (q : Fin 2048) (l : Fin 1024) : val_main_v3 (F := Ideal) x2 (ix3 b q l) = x2 (ix2 ⟨b * 2048 + q, by omega⟩ l) := by
  pointwise [val_main_v3]

theorem ref_o3 (x0 x1) (b : Fin 4) (q : Fin 2048) (l : Fin 1024) : val_main_v7 (F := Ideal) x0 x1 (ix3 b q l) = val_main_v2 (F := Ideal) x0 x1 (ix2 ⟨b * 2048 + q, by omega⟩ l) := by
  pointwise [val_main_v7]

theorem ref_flat (x0 x1 x2 x3) (i : Fin 8192) (l : Fin 1024) :
    val_main_v37 (F := Ideal) x0 x1 x2 x3 (ix2 i l) = val_main_v10 (F := Ideal) x0 x1 x2 x3 (ix3 ⟨i / 2048, by omega⟩ ⟨i % 2048, by omega⟩ l) := by
  pointwise [val_main_v37]

theorem ref_flat_h (x0 x1 x2 x3 x4) (i : Fin 8192) (l : Fin 1024) :
    val_main_v39 (F := Ideal) x0 x1 x2 x3 x4 (ix2 i l) = val_main_v36 (F := Ideal) x0 x1 x2 x3 x4 (ix3 ⟨i / 2048, by omega⟩ ⟨i % 2048, by omega⟩ l) := by
  pointwise [val_main_v39, val_main_v38]

/-- A row of the sum with the gated product. -/
theorem y_row (v0 v1 v3 v4 x0 x1 x2 x3) (r : Fin 512) (b : Fin 4) (q : Fin 2048) (l : Fin 1024)
    (ho : k0_pay2 (F := Ideal) v0 v1 (ix2 r l) = val_main_v2 (F := Ideal) x0 x1 (ix2 ⟨b * 2048 + q, by omega⟩ l))
    (hx : v3 (ix2 r l) = x2 (ix2 ⟨b * 2048 + q, by omega⟩ l)) (hm : ∀ a : Fin 9, v4 (ix3 0 a l) = x3 (ix3 ⟨b, by omega⟩ a l)) :
    k0_pay4 (F := Ideal) v0 v1 v3 v4 (ix2 r l) = val_main_v10 (F := Ideal) x0 x1 x2 x3 (ix3 b q l) := by
  rw [← ref_o3] at ho
  have hx := hx.trans (ref_x x2 b q l).symm
  pointwise [k0_pay4, k0_pay3, val_main_v10, val_main_v9, val_main_v8, val_main_v6, val_main_v5, val_main_v4, ho, hx, hm]

/-- A row of its modulated norm. -/
theorem h_row (v0 v1 v3 v4 v6 x0 x1 x2 x3 x4) (r : Fin 512) (b : Fin 4) (q : Fin 2048) (l : Fin 1024)
    (hy : ∀ k : Fin 1024, k0_pay4 (F := Ideal) v0 v1 v3 v4 (ix2 r k) = val_main_v10 (F := Ideal) x0 x1 x2 x3 (ix3 b q k))
    (hw : v6 (ix3 0 0 l) = x4 (ix2 0 l)) (hm : ∀ a : Fin 9, v4 (ix3 0 a l) = x3 (ix3 ⟨b, by omega⟩ a l)) :
    k0_pay1 (F := Ideal) (k0_pay5 (F := Ideal) v0 v1 v3 v4 v6) (ix2 r l) = val_main_v36 (F := Ideal) x0 x1 x2 x3 x4 (ix3 b q l) := by
  pointwise [k0_pay1, k0_pay5, k0_pay3, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, hy, hw, hm]

/-- Row `r` of block `t` in the whole array, and its row of the modulation. -/
abbrev row (t : Fin cfg0.N) (r : Fin 512) : Fin 8192 := ⟨t.val * 512 + r, by have := t.isLt; have : cfg0.N = 16 := N_0; omega⟩
abbrev seq (t : Fin cfg0.N) : Fin 5 := ⟨t.val / 4, by have := t.isLt; have : cfg0.N = 16 := N_0; omega⟩

theorem blk_o (t : Fin cfg0.N) (r : Fin 512) (l : Fin 1024) :
    k0_pay2 (F := Ideal) (iblk m c 0 t) (iblk m c 1 t) (ix2 r l) = val_main_v2 (F := Ideal) (m ((c : Thread nD τ).loc main_arg0)) (m ((c : Thread nD τ).loc main_arg1)) (ix2 (row t r) l) := by
  rw [acc, ref_o]
  refine Finset.sum_congr rfl fun k _ => congrArg₂ (· * ·) (Eq.trans ?_ (congrFun (V_main_arg0 m c) _)) (Eq.trans ?_ (congrFun (V_main_arg1 m c) _))
  · blk_ext [iblk, idx t]
  · blk_ext [iblk, idx t]

theorem blk_x (t : Fin cfg0.N) (r : Fin 512) (l : Fin 1024) : iblk m c 2 t (ix2 r l) = (m ((c : Thread nD τ).loc main_arg2)) (ix2 (row t r) l) := by
  refine Eq.trans ?_ (congrFun (V_main_arg2 m c) _)
  blk_ext [iblk, idx t]

theorem blk_m (t : Fin cfg0.N) (a : Fin 9) (l : Fin 1024) : iblk m c 3 t (ix3 0 a l) = (m ((c : Thread nD τ).loc main_arg3)) (ix3 (seq t) a l) := by
  refine Eq.trans ?_ (congrFun (V_main_arg3 m c) _)
  blk_ext [iblk, idx3 t]

theorem blk_w (t : Fin cfg0.N) (l : Fin 1024) : iblk m c 4 t (ix3 0 0 l) = (m ((c : Thread nD τ).loc main_arg4)) (ix2 0 l) := by
  have e : V m c main_v0 = shapeCast S1x1x1024 (m ((c : Thread nD τ).loc main_arg4)) shapeCasts_S1x1024_S1x1x1024 := by
    unfold V; after_results; try rfl
  refine Eq.trans (b := V m c main_v0 (ix3 0 0 l)) ?_ ?_
  · blk_ext [iblk, idx t]
  · rw [e]
    pointwise []

theorem row_eq (t : Fin cfg0.N) (r : Fin 512) : (⟨(row t r).val / 2048 * 2048 + (row t r).val % 2048, by omega⟩ : Fin 8192) = row t r :=
  Fin.ext (by simp only; omega)

theorem seq_eq (t : Fin cfg0.N) (r : Fin 512) : (⟨(row t r).val / 2048, by omega⟩ : Fin 5) = seq t := Fin.ext (by simp only; omega)

theorem blk_y (t : Fin cfg0.N) (r : Fin 512) (l : Fin 1024) :
    k0_pay4 (F := Ideal) (iblk m c 0 t) (iblk m c 1 t) (iblk m c 2 t) (iblk m c 3 t) (ix2 r l)
      = val_main_v10 (F := Ideal) (m ((c : Thread nD τ).loc main_arg0)) (m ((c : Thread nD τ).loc main_arg1)) (m ((c : Thread nD τ).loc main_arg2)) (m ((c : Thread nD τ).loc main_arg3))
          (ix3 ⟨(row t r).val / 2048, by omega⟩ ⟨(row t r).val % 2048, by omega⟩ l) := by
  refine y_row _ _ _ _ _ _ _ _ r _ _ l ?_ ?_ fun a => ?_
  · rw [blk_o]; exact congrArg _ (congrArg (ix2 · _) (row_eq t r).symm)
  · rw [blk_x]; exact congrArg _ (congrArg (ix2 · _) (row_eq t r).symm)
  · rw [blk_m]; exact congrArg _ (congrArg (ix3 · _ _) (seq_eq t r).symm)

/-- The product after the run is the reference's. -/
theorem final_o : (dats m 0 c).arrAt 5 (cfgs 0).N = val_main_v2 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [eq_ix2 y]
  refine (blk_o m c t (y 0) (y 1)).trans ?_
  blk_ext [idx t]

/-- The sum with the gated product after the run is the reference's. -/
theorem final_y : (dats m 0 c).arrAt 6 (cfgs 0).N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [eq_ix2 y]
  refine (blk_y m c t (y 0) (y 1)).trans ((ref_flat _ _ _ _ _ _).symm.trans ?_)
  blk_ext [idx t]

/-- The modulated norm after the run is the reference's. -/
theorem final_h : (dats m 0 c).arrAt 7 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  rw [eq_ix2 y]
  refine (h_row _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (y 0) _ _ (y 1) (blk_y m c t (y 0)) (blk_w m c t _) fun a => ?_).trans ?_
  · exact (blk_m m c t a (y 1)).trans (congrArg _ (congrArg (ix3 · _ _) (seq_eq t (y 0)).symm))
  · refine (ref_flat_h _ _ _ _ _ _ _).symm.trans ?_
    blk_ext [idx t]

end Cert.WoutIdeal.Value

end

end
-- ==== Proof.WoutClaim.lean ====
module

public import proofs.«01_k».proof.Defs
public import proofs.«01_k».proof.Proof.WoutValue
public import proofs.«01_k».proof.Proof.Gen.WoutIdeal.Value
public import proofs.«01_k».proof.Proof.Gen.WoutRefIdeal.Run
public import proofs.«01_k».proof.Proof.Gen.WoutRefIdeal.Read

@[expose] public section

set_option maxRecDepth 16384

noncomputable section

open Idealize.ShloMosaic Idealize.ShloMosaic.TcCoe Idealize.SL.Sem

namespace Cert.WoutIdeal.Value

open Cert.WoutIdeal Cert.WoutIdeal.Gen Cert.WoutRefIdeal.Read

/-- The mixer's output: its product, the stream it is added to and the following norm: the kernel's results are the reference's. -/
theorem algebraic :
    Cert.algebraic_WoutIdeal_WoutRefIdeal (hWoutIdeal := Cert.WoutIdeal.Gen.facts) (hWoutRefIdeal := Cert.WoutRefIdeal.Gen.facts) := by
  intro m g m' g' _ hagree
  refine ⟨fun c => val_main_v2 (F := Ideal) (m ((c : Thread nD τ).loc main_arg0)) (m ((c : Thread nD τ).loc main_arg1)),
    fun c => val_main_v37 (F := Ideal) (m ((c : Thread nD τ).loc main_arg0)) (m ((c : Thread nD τ).loc main_arg1)) (m ((c : Thread nD τ).loc main_arg2))
        (m ((c : Thread nD τ).loc main_arg3)),
    fun c => val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · run_from Cert.WoutIdeal.Gen.run_main m g
    · exact final_o m c
    · exact final_y m c
    · exact final_h m c
  · refine θ_run_mono (Cert.WoutRefIdeal.Value.run m' g') fun r h c => ?_
    obtain ⟨h0, h1, h2, a⟩ := h c
    obtain ⟨e0, e1, e2, e3, e4⟩ := hagree c
    refine ⟨h0.trans ?_, h1.trans ?_, h2.trans ?_, a⟩
    · rw [val_main_v2_eq, e0, e1]
    · rw [val_main_v37_eq, e0, e1, e2, e3]
    · rw [val_main_v39_eq, e0, e1, e2, e3, e4]

/-- The reference keeps its arguments and leaves no counter raised. -/
theorem frame_ref : Cert.quiescent_WoutRefIdeal (hWoutRefIdeal := Cert.WoutRefIdeal.Gen.facts) := fun m ρ _ =>
  (θ_run Cert.WoutRefIdeal.defs _ _).mono (fun r h => ⟨fun c => (h c).2.2.2, Idealize.ShloMosaic.sem_eq_zero_of_no_sems (by decide) r.2⟩)
    (Cert.WoutRefIdeal.Value.run (F := Ideal) m ρ)

end Cert.WoutIdeal.Value

end

end
-- ==== Proof.Down1Value.lean ====
module

public import proofs.«01_k».proof.Proof.Gen.Down1Ideal.Value
public import proofs.«01_k».proof.Proof.Gen.Down1RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Down1Ideal.Value

open Cert.Down1Ideal Cert.Down1Ideal.Gen Cert.Down1RefIdeal.Read

variable (m : (ℓ : Loc nD τ sig) → Buf (Elt Ideal) ℓ) (c : Dev nD)

/-- Every window's block index at every grid point. -/
theorem idx : ∀ t : Fin cfg0.N, win0_0.index t = ![t.val, 0]
    ∧ win0_1.index t = ![0, 0]
    ∧ win0_2.index t = ![t.val, 0]
    ∧ win0_4.index t = ![0, 0, 0]
    ∧ win0_5.index t = ![t.val, 0]
    ∧ win0_6.index t = ![t.val, 0]
    ∧ win0_7.index t = ![t.val, 0] :=
  (by decide +kernel : ∀ t : Fin grid0.N, _)

/-- The modulation's block at a point: its sequence, or the context tokens'. -/
theorem idx3 : ∀ t : Fin cfg0.N, win0_3.index t = ![t.val / 4, 0, 0] :=
  (by decide +kernel : ∀ t : Fin grid0.N, _)

/-- The product of a block of rows, entry by entry. -/
theorem acc (v0 v1) (r : Fin 512) (l : Fin 1024) : k0_pay2 (F := Ideal) v0 v1 (ix2 r l) = ∑ k : Fin 2816, v0 (ix2 r k) * v1 (ix2 k l) := by
  pointwise [k0_pay2]

/-- The reference's product, entry by entry. -/
theorem ref_o (x0 x1) (i : Fin 9216) (l : Fin 1024) : val_main_v2 (F := Ideal) x0 x1 (ix2 i l) = ∑ k : Fin 2816, x0 (ix2 i k) * x1 (ix2 k l) := by
  pointwise [val_main_v2, val_main_v1, val_main_v0]

/-- A token's row of the modulation: its sequence's, or the context tokens'. -/
theorem ref_m (x3) (i : Fin 9216) (a : Fin 9) (l : Fin 1024) :
    val_main_v9 (F := Ideal) x3 (ix3 i a l) = x3 (ix3 ⟨i / 2048, by omega⟩ a l) := by
  rcases Nat.lt_or_ge i.val 8192 with h | h
  · pointwise [val_main_v9, val_main_v8, val_main_v7, val_main_v6, val_main_v5, val_main_v4, val_main_v3] <;> split_ifs <;> first | omega | blk_ext
  · pointwise [val_main_v9, val_main_v8, val_main_v7, val_main_v6, val_main_v5, val_main_v4, val_main_v3] <;> split_ifs <;> first | omega | blk_ext

/-- A row of the sum with the gated product. -/
theorem y_row (v0 v1 v3 v4 x0 x1 x2 x3) (r : Fin 512) (i : Fin 9216) (l : Fin 1024)
    (ho : k0_pay2 (F := Ideal) v0 v1 (ix2 r l) = val_main_v2 (F := Ideal) x0 x1 (ix2 i l))
    (hx : v3 (ix2 r l) = x2 (ix2 i l)) (hm : ∀ a : Fin 9, v4 (ix3 0 a l) = val_main_v9 (F := Ideal) x3 (ix3 i a l)) :
    k0_pay4 (F := Ideal) v0 v1 v3 v4 (ix2 r l) = val_main_v15 (F := Ideal) x0 x1 x2 x3 (ix2 i l) := by
  pointwise [k0_pay4, k0_pay3, val_main_v15, val_main_v14, val_main_v13, val_main_v12, val_main_cst, val_main_v11, val_main_v10, ho, hx, hm]

/-- A row of its modulated norm. -/
theorem h_row (v0 v1 v3 v4 v6 x0 x1 x2 x3 x4) (r : Fin 512) (i : Fin 9216) (l : Fin 1024)
    (hy : ∀ k : Fin 1024, k0_pay4 (F := Ideal) v0 v1 v3 v4 (ix2 r k) = val_main_v15 (F := Ideal) x0 x1 x2 x3 (ix2 i k))
    (hw : v6 (ix3 0 0 l) = x4 (ix2 0 l)) (hm : ∀ a : Fin 9, v4 (ix3 0 a l) = val_main_v9 (F := Ideal) x3 (ix3 i a l)) :
    k0_pay1 (F := Ideal) (k0_pay5 (F := Ideal) v0 v1 v3 v4 v6) (ix2 r l) = val_main_v38 (F := Ideal) x0 x1 x2 x3 x4 (ix2 i l) := by
  pointwise [k0_pay1, k0_pay5, k0_pay3, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_0, val_main_cst_1, val_main_cst_2, val_main_cst_3, hy, hw, hm]

/-- Row `r` of block `t` in the whole array, and its row of the modulation. -/
abbrev row (t : Fin cfg0.N) (r : Fin 512) : Fin 9216 := ⟨t.val * 512 + r, by have := t.isLt; have : cfg0.N = 18 := N_0; omega⟩
abbrev seq (t : Fin cfg0.N) : Fin 5 := ⟨t.val / 4, by have := t.isLt; have : cfg0.N = 18 := N_0; omega⟩

theorem blk_o (t : Fin cfg0.N) (r : Fin 512) (l : Fin 1024) :
    k0_pay2 (F := Ideal) (iblk m c 0 t) (iblk m c 1 t) (ix2 r l) = val_main_v2 (F := Ideal) (m ((c : Thread nD τ).loc main_arg0)) (m ((c : Thread nD τ).loc main_arg1)) (ix2 (row t r) l) := by
  rw [acc, ref_o]
  refine Finset.sum_congr rfl fun k _ => congrArg₂ (· * ·) (Eq.trans ?_ (congrFun (V_main_arg0 m c) _)) (Eq.trans ?_ (congrFun (V_main_arg1 m c) _))
  · blk_ext [iblk, idx t]
  · blk_ext [iblk, idx t]

theorem blk_x (t : Fin cfg0.N) (r : Fin 512) (l : Fin 1024) : iblk m c 2 t (ix2 r l) = (m ((c : Thread nD τ).loc main_arg2)) (ix2 (row t r) l) := by
  refine Eq.trans ?_ (congrFun (V_main_arg2 m c) _)
  blk_ext [iblk, idx t]

theorem blk_m (t : Fin cfg0.N) (a : Fin 9) (l : Fin 1024) : iblk m c 3 t (ix3 0 a l) = (m ((c : Thread nD τ).loc main_arg3)) (ix3 (seq t) a l) := by
  refine Eq.trans ?_ (congrFun (V_main_arg3 m c) _)
  blk_ext [iblk, idx3 t]

theorem blk_w (t : Fin cfg0.N) (l : Fin 1024) : iblk m c 4 t (ix3 0 0 l) = (m ((c : Thread nD τ).loc main_arg4)) (ix2 0 l) := by
  have e : V m c main_v0 = shapeCast S1x1x1024 (m ((c : Thread nD τ).loc main_arg4)) shapeCasts_S1x1024_S1x1x1024 := by
    unfold V; after_results; try rfl
  refine Eq.trans (b := V m c main_v0 (ix3 0 0 l)) ?_ ?_
  · blk_ext [iblk, idx t]
  · rw [e]
    pointwise []

theorem blk_mod (t : Fin cfg0.N) (r : Fin 512) (a : Fin 9) (l : Fin 1024) :
    iblk m c 3 t (ix3 0 a l) = val_main_v9 (F := Ideal) (m ((c : Thread nD τ).loc main_arg3)) (ix3 (row t r) a l) := by
  rw [blk_m, ref_m]
  exact congrArg _ (congrArg (ix3 · _ _) (Fin.ext (by simp only; omega)))

theorem blk_y (t : Fin cfg0.N) (r : Fin 512) (l : Fin 1024) :
    k0_pay4 (F := Ideal) (iblk m c 0 t) (iblk m c 1 t) (iblk m c 2 t) (iblk m c 3 t) (ix2 r l)
      = val_main_v15 (F := Ideal) (m ((c : Thread nD τ).loc main_arg0)) (m ((c : Thread nD τ).loc main_arg1)) (m ((c : Thread nD τ).loc main_arg2)) (m ((c : Thread nD τ).loc main_arg3)) (ix2 (row t r) l) :=
  y_row _ _ _ _ _ _ _ _ r _ l (blk_o m c t r l) (blk_x m c t r l) fun a => blk_mod m c t r a l

/-- The product after the run is the reference's. -/
theorem final_o : (dats m 0 c).arrAt 5 (cfgs 0).N = val_main_v2 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  rw [eq_ix2 y]
  refine (blk_o m c t (y 0) (y 1)).trans ?_
  blk_ext [idx t]

/-- The sum with the gated product after the run is the reference's. -/
theorem final_y : (dats m 0 c).arrAt 6 (cfgs 0).N = val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  rw [eq_ix2 y]
  refine (blk_y m c t (y 0) (y 1)).trans ?_
  blk_ext [idx t]

/-- The modulated norm after the run is the reference's. -/
theorem final_h : (dats m 0 c).arrAt 7 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  rw [eq_ix2 y]
  refine (h_row _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (y 0) (row t (y 0)) (y 1) (blk_y m c t (y 0)) (blk_w m c t _) fun a => blk_mod m c t _ a _).trans ?_
  blk_ext [idx t]

end Cert.Down1Ideal.Value

end

end
-- ==== Proof.Down1Claim.lean ====
module

public import proofs.«01_k».proof.Defs
public import proofs.«01_k».proof.Proof.Down1Value
public import proofs.«01_k».proof.Proof.Gen.Down1Ideal.Value
public import proofs.«01_k».proof.Proof.Gen.Down1RefIdeal.Run
public import proofs.«01_k».proof.Proof.Gen.Down1RefIdeal.Read

@[expose] public section

set_option maxRecDepth 16384

noncomputable section

open Idealize.ShloMosaic Idealize.ShloMosaic.TcCoe Idealize.SL.Sem

namespace Cert.Down1Ideal.Value

open Cert.Down1Ideal Cert.Down1Ideal.Gen Cert.Down1RefIdeal.Read

/-- The second half of the first feed-forward block: its product, the stream it is added to and the following norm: the kernel's results are the reference's. -/
theorem algebraic :
    Cert.algebraic_Down1Ideal_Down1RefIdeal (hDown1Ideal := Cert.Down1Ideal.Gen.facts) (hDown1RefIdeal := Cert.Down1RefIdeal.Gen.facts) := by
  intro m g m' g' _ hagree
  refine ⟨fun c => val_main_v2 (F := Ideal) (m ((c : Thread nD τ).loc main_arg0)) (m ((c : Thread nD τ).loc main_arg1)),
    fun c => val_main_v15 (F := Ideal) (m ((c : Thread nD τ).loc main_arg0)) (m ((c : Thread nD τ).loc main_arg1)) (m ((c : Thread nD τ).loc main_arg2))
        (m ((c : Thread nD τ).loc main_arg3)),
    fun c => val_main_v38 (F := Ideal) (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · run_from Cert.Down1Ideal.Gen.run_main m g
    · exact final_o m c
    · exact final_y m c
    · exact final_h m c
  · refine θ_run_mono (Cert.Down1RefIdeal.Value.run m' g') fun r h c => ?_
    obtain ⟨h0, h1, h2, a⟩ := h c
    obtain ⟨e0, e1, e2, e3, e4⟩ := hagree c
    refine ⟨h0.trans ?_, h1.trans ?_, h2.trans ?_, a⟩
    · rw [val_main_v2_eq, e0, e1]
    · refine (val_main_v15_eq _ _ _ _).trans ?_
      rw [e0, e1, e2, e3]
    · rw [val_main_v38_eq, e0, e1, e2, e3, e4]

/-- The reference keeps its arguments and leaves no counter raised. -/
theorem frame_ref : Cert.quiescent_Down1RefIdeal (hDown1RefIdeal := Cert.Down1RefIdeal.Gen.facts) := fun m ρ _ =>
  (θ_run Cert.Down1RefIdeal.defs _ _).mono (fun r h => ⟨fun c => (h c).2.2.2, Idealize.ShloMosaic.sem_eq_zero_of_no_sems (by decide) r.2⟩)
    (Cert.Down1RefIdeal.Value.run (F := Ideal) m ρ)

end Cert.Down1Ideal.Value

end

end
-- ==== Proof.SsdOps.lean ====
module

public import proofs.«01_k».proof.Proof.Gen.SsdIdeal.Skeleton
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.SsdIdeal.Value

open Cert.SsdIdeal Cert.SsdIdeal.Gen

/-! The kernel's body in named steps. A group of eight heads runs as four pairs; a head is a lane of `dt` and of the
running sums, a pair of heads is a block of 128 lanes, 64 for each. -/

abbrev zeros : FVec Ideal S128x128 .f32 := broadcast S128x128 (Scalar.ofBits .f32 0x00000000#32)

/-- Column `k` of a matrix, as a masked sum along each row. -/
def pick (M : FVec Ideal S128x128 .f32) (k : ℕ) : FVec Ideal S128x1 .f32 :=
  shapeCast S128x1 (multiReduction .add [1] S128 (select (cmpi .eq (iota .tc S128x128 32 [1] iota_S128x128_d1_w32) (broadcast S128x128 (BitVec.ofNat 32 k))) M zeros)
    0x00000000#32 reduces_S128x128_S128_2 (.inl rfl) rfl) shapeCasts_S128_S128x1

/-- Row `k` of a matrix, as a masked sum along each column. -/
def pickRow (M : FVec Ideal S128x128 .f32) (k : ℕ) : FVec Ideal S1x128 .f32 :=
  shapeCast S1x128 (multiReduction .add [0] S128 (select (cmpi .eq (iota .tc S128x128 32 [0] iota_S128x128_d0_w32) (broadcast S128x128 (BitVec.ofNat 32 k))) M zeros)
    0x00000000#32 reduces_S128x128_S128 (.inl rfl) rfl) shapeCasts_S128_S1x128

/-- Entry `k` of a row. -/
def pickOne (T : FVec Ideal S1x128 .f32) (k : ℕ) : FVec Ideal S1x1 .f32 :=
  shapeCast S1x1 (multiReduction .add [1] S1 (select (cmpi .eq (iota .tc S1x128 32 [1] iota_S1x128_d1_w32) (broadcast S1x128 (BitVec.ofNat 32 k))) T
    (broadcast S1x128 (Scalar.ofBits .f32 0x00000000#32))) 0x00000000#32 reduces_S1x128_S1 (.inl rfl) rfl) shapeCasts_S1_S1x1

/-- The scores of head `k`, with the decay from each step to each later one. -/
def decayed (S C R : FVec Ideal S128x128 .f32) (k : ℕ) : FVec Ideal S128x128 .f32 :=
  mulf S (exp (select k0_pay10 (subf (broadcastTo S128x128 (pick C k) broadcasts_S128x1_S128x128) (broadcastTo S128x128 (pickRow R k) broadcasts_S1x128_S128x128))
    (broadcast S128x128 (Named.named κ "mask" 0xF149F2CA#32))))

/-- One column for the first 64 lanes and another for the last 64. -/
def halves (u v : FVec Ideal S128x1 .f32) : FVec Ideal S128x128 .f32 :=
  select k0_pay11 (broadcastTo S128x128 (shapeCast S128x1 u shapeCasts_S128x1_S128x1) broadcasts_S128x1_S128x128)
    (broadcastTo S128x128 (shapeCast S128x1 v shapeCasts_S128x1_S128x1) broadcasts_S128x1_S128x128)

/-- One entry for the first 64 rows and another for the last 64. -/
def tops (u v : FVec Ideal S1x1 .f32) : FVec Ideal S128x1 .f32 :=
  select k0_pay12 (broadcastTo S128x1 (shapeCast S1x1 u shapeCasts_S1x1_S1x1) broadcasts_S1x1_S128x1)
    (broadcastTo S128x1 (shapeCast S1x1 v shapeCasts_S1x1_S1x1) broadcasts_S1x1_S128x1)

/-- `x` times `dt` for the heads `k` and `k + 1`. -/
def scaled (x dt : FVec Ideal S128x128 .f32) (k : ℕ) : FVec Ideal S128x128 .f32 :=
  mulf x (halves (pick dt k) (pick dt (k + 1)))

/-- Both heads' products over the chunk, one under the other. -/
def both (x dt S C R : FVec Ideal S128x128 .f32) (k : ℕ) : FVec Ideal S256x128 .f32 :=
  matmul dot_S256x128_S128x128_S256x128_1_0_0_1_n_n none
    (truncf .bf16 (concatenate S256x128 0 [⟨S128x128, decayed S C R k⟩, ⟨S128x128, decayed S C R (k + 1)⟩] concatenates_S128x128_S128x128_S256x128_d0) bitsLt_bf16_f32)
    (truncf .bf16 (scaled x dt k) bitsLt_bf16_f32) (constant S256x128 .f32 0x00000000#32)

/-- What a pair of heads has from its own chunk. -/
def within (x dt S C R : FVec Ideal S128x128 .f32) (k : ℕ) : FVec Ideal S128x128 .f32 :=
  select k0_pay11 (extractStridedSlice S128x128 ![0, 0] (both x dt S C R k) slices_S256x128_o0_0_S128x128)
    (extractStridedSlice S128x128 ![128, 0] (both x dt S C R k) slices_S256x128_o128_0_S128x128)

/-- The decay since the chunk began. -/
def since (C : FVec Ideal S128x128 .f32) (k : ℕ) : FVec Ideal S128x128 .f32 :=
  halves (exp (pick C k)) (exp (pick C (k + 1)))

/-- The decay until the chunk ends. -/
def ahead (C : FVec Ideal S128x128 .f32) (T : FVec Ideal S1x128 .f32) (k : ℕ) : FVec Ideal S128x128 .f32 :=
  halves (exp (subf (broadcastTo S128x1 (pickOne T k) broadcasts_S1x1_S128x1) (pick C k)))
    (exp (subf (broadcastTo S128x1 (pickOne T (k + 1)) broadcasts_S1x1_S128x1) (pick C (k + 1))))

/-- The decay across the chunk. -/
def across (T : FVec Ideal S1x128 .f32) (k : ℕ) : FVec Ideal S128x1 .f32 :=
  tops (exp (pickOne T k)) (exp (pickOne T (k + 1)))

def cat (f : Fin 4 → FVec Ideal S128x128 .f32) : FVec Ideal S128x512 .f32 :=
  concatenate S128x512 1 [⟨S128x128, f 0⟩, ⟨S128x128, f 1⟩, ⟨S128x128, f 2⟩, ⟨S128x128, f 3⟩] concatenates_S128x128_S128x128_S128x128_S128x128_S128x512_d1

def catCol (f : Fin 4 → FVec Ideal S128x1 .f32) : FVec Ideal S512x1 .f32 :=
  concatenate S512x1 0 [⟨S128x1, f 0⟩, ⟨S128x1, f 1⟩, ⟨S128x1, f 2⟩, ⟨S128x1, f 3⟩] concatenates_S128x1_S128x1_S128x1_S128x1_S512x1_d0

/-- A group's output: its heads are the lanes from `k`, its input the four blocks `x`. -/
def groupOut (x : Fin 4 → FVec Ideal S128x128 .f32) (dt Cc S C R : FVec Ideal S128x128 .f32) (st : FVec Ideal S512x128 .f32) (k : ℕ) : FVec Ideal S128x512 .f32 :=
  addf (cat fun q => within (x q) dt S C R (k + 2 * q.val))
    (mulf (matmul dot_S128x128_S512x128_S128x512_1_1_0_0_n_n none (truncf .bf16 Cc bitsLt_bf16_f32) (truncf .bf16 st bitsLt_bf16_f32) (constant S128x512 .f32 0x00000000#32))
      (cat fun q => since C (k + 2 * q.val)))

/-- The state a group leaves. -/
def groupState (x : Fin 4 → FVec Ideal S128x128 .f32) (dt B C : FVec Ideal S128x128 .f32) (T : FVec Ideal S1x128 .f32) (st : FVec Ideal S512x128 .f32) (k : ℕ) : FVec Ideal S512x128 .f32 :=
  addf (mulf st (broadcastTo S512x128 (catCol fun q => across T (k + 2 * q.val)) broadcasts_S512x1_S512x128))
    (matmul dot_S128x512_S128x128_S512x128_0_0_1_1_n_n none
      (truncf .bf16 (mulf (cat fun q => scaled (x q) dt (k + 2 * q.val)) (cat fun q => ahead C T (k + 2 * q.val))) bitsLt_bf16_f32)
      (truncf .bf16 B bitsLt_bf16_f32) (constant S512x128 .f32 0x00000000#32))

theorem bit_eq (a b : Fin 128) : IntOp.cmpi .eq (BitVec.ofNat 32 a.val) (BitVec.ofNat 32 b.val) = BitVec.ofBool (decide (a = b)) := by
  rw [WordCmp.cmpi_eq_ofNat (a.isLt.trans (by decide)) (b.isLt.trans (by decide))]
  simp only [Fin.ext_iff]

theorem bit_ge (a b : Fin 128) : IntOp.cmpi .sge (BitVec.ofNat 32 a.val) (BitVec.ofNat 32 b.val) = BitVec.ofBool (decide (b.val ≤ a.val)) :=
  WordCmp.cmpi_sge_ofNat (a.isLt.trans (by decide)) (b.isLt.trans (by decide))

theorem bit_le (a b : Fin 128) : IntOp.cmpi .sle (BitVec.ofNat 32 a.val) (BitVec.ofNat 32 b.val) = BitVec.ofBool (decide (a.val ≤ b.val)) :=
  WordCmp.cmpi_sle_ofNat (a.isLt.trans (by decide)) (b.isLt.trans (by decide))

theorem select_bool (p : Prop) [Decidable p] (x y : EReal) : Scalar.select (BitVec.ofBool (decide p)) x y = if p then x else y := by
  by_cases h : p <;> simp [h, Scalar.select]

theorem pick_at (M : FVec Ideal S128x128 .f32) (k l : Fin 128) (z : Fin 1) : pick M k.val (ix2 l z) = M (ix2 l k) := by
  pointwise [pick]
  simp only [bit_eq, select_bool, Finset.sum_ite_eq', Finset.mem_univ, if_true]

theorem pickRow_at (M : FVec Ideal S128x128 .f32) (k l : Fin 128) (z : Fin 1) : pickRow M k.val (ix2 z l) = M (ix2 k l) := by
  pointwise [pickRow]
  simp only [bit_eq, select_bool, Finset.sum_ite_eq', Finset.mem_univ, if_true]

theorem pickOne_at (T : FVec Ideal S1x128 .f32) (k : Fin 128) (z z' : Fin 1) : pickOne T k.val (ix2 z z') = T (ix2 0 k) := by
  pointwise [pickOne]
  simp only [bit_eq, select_bool, Finset.sum_ite_eq', Finset.mem_univ, if_true]

theorem mask_bot : Named.named (F := Ideal) κ "mask" (φ := .f32) 0xF149F2CA#32 = (⊥ : EReal) :=
  IdealRules.named_const.ideal_named_scalar _ _ _ _ rfl

theorem decayed_at (S C R : FVec Ideal S128x128 .f32) (k l s : Fin 128) :
    decayed S C R k.val (ix2 l s) = S (ix2 l s) * if s.val ≤ l.val then Ideal.exp (C (ix2 l k) - R (ix2 k s)) else 0 := by
  pointwise [decayed, pick_at, pickRow_at, k0_pay10]
  rw [bit_ge, select_bool]
  split_ifs with h
  · rfl
  · rw [mask_bot, Ideal.exp_bot]

theorem halves_at (u v : FVec Ideal S128x1 .f32) (l r : Fin 128) :
    halves u v (ix2 l r) = if r.val < 64 then u (ix2 l 0) else v (ix2 l 0) := by
  pointwise [halves, k0_pay11]
  exact (congrArg (Scalar.select · _ _) (WordCmp.cmpi_slt_ofNat (r.isLt.trans (by decide)) (by decide))).trans (select_bool _ _ _)

theorem tops_at (u v : FVec Ideal S1x1 .f32) (r : Fin 128) (z : Fin 1) :
    tops u v (ix2 r z) = if r.val < 64 then u (ix2 0 0) else v (ix2 0 0) := by
  pointwise [tops, k0_pay12]
  exact (congrArg (Scalar.select · _ _) (WordCmp.cmpi_slt_ofNat (r.isLt.trans (by decide)) (by decide))).trans (select_bool _ _ _)

theorem cat_at (f : Fin 4 → FVec Ideal S128x128 .f32) (l : Fin 128) (j : Fin 512) :
    cat f (ix2 l j) = f ⟨j.val / 128, by omega⟩ (ix2 l ⟨j.val % 128, Nat.mod_lt _ (by decide)⟩) := by
  obtain ⟨q, r, rfl⟩ : ∃ (q : Fin 4) (r : Fin 128), j = ⟨128 * q.val + r.val, by omega⟩ :=
    ⟨⟨j.val / 128, by omega⟩, ⟨j.val % 128, Nat.mod_lt _ (by decide)⟩, Fin.ext (Nat.div_add_mod _ _).symm⟩
  have e1 : (⟨(128 * q.val + r.val) / 128, by omega⟩ : Fin 4) = q := Fin.ext (by show (128 * q.val + r.val) / 128 = q.val; omega)
  have e2 : (⟨(128 * q.val + r.val) % 128, Nat.mod_lt _ (by decide)⟩ : Fin 128) = r := Fin.ext (by show (128 * q.val + r.val) % 128 = r.val; omega)
  simp only [e1, e2]
  pointwise [cat]
  fin_cases q <;> simp only [] <;> split_ifs <;> first | omega | (refine congrArg (f _) (congrArg (ix2 l) (Fin.ext ?_)); simp only [] at *; omega)

theorem catCol_at (f : Fin 4 → FVec Ideal S128x1 .f32) (j : Fin 512) (z : Fin 1) :
    catCol f (ix2 j z) = f ⟨j.val / 128, by omega⟩ (ix2 ⟨j.val % 128, Nat.mod_lt _ (by decide)⟩ 0) := by
  obtain ⟨q, r, rfl⟩ : ∃ (q : Fin 4) (r : Fin 128), j = ⟨128 * q.val + r.val, by omega⟩ :=
    ⟨⟨j.val / 128, by omega⟩, ⟨j.val % 128, Nat.mod_lt _ (by decide)⟩, Fin.ext (Nat.div_add_mod _ _).symm⟩
  have e1 : (⟨(128 * q.val + r.val) / 128, by omega⟩ : Fin 4) = q := Fin.ext (by show (128 * q.val + r.val) / 128 = q.val; omega)
  have e2 : (⟨(128 * q.val + r.val) % 128, Nat.mod_lt _ (by decide)⟩ : Fin 128) = r := Fin.ext (by show (128 * q.val + r.val) % 128 = r.val; omega)
  simp only [e1, e2]
  pointwise [catCol]
  fin_cases q <;> simp only [] <;> split_ifs <;> first | omega | (refine congrArg (f _) (congrArg (ix2 · 0) (Fin.ext ?_)); simp only [] at *; omega)

/-- The lane `k` or `k + 1` of lane `r` of a pair's block. -/
theorem lane (f : Fin 128 → EReal) (k : ℕ) (hk : k + 1 < 128) (r : Fin 128) :
    (if r.val < 64 then f ⟨k, by omega⟩ else f ⟨k + 1, hk⟩) = f ⟨k + r.val / 64, by omega⟩ := by
  split_ifs with h <;> exact congrArg f (Fin.ext (by simp only []; omega))

theorem scaled_at (x dt : FVec Ideal S128x128 .f32) (k : ℕ) (hk : k + 1 < 128) (l r : Fin 128) :
    scaled x dt k (ix2 l r) = x (ix2 l r) * dt (ix2 l ⟨k + r.val / 64, by omega⟩) := by
  pointwise [scaled, halves_at]
  rw [← lane (fun i => dt (ix2 l i)) k hk r, pick_at dt ⟨k, by omega⟩ l 0, pick_at dt ⟨k + 1, hk⟩ l 0]

theorem since_at (C : FVec Ideal S128x128 .f32) (k : ℕ) (hk : k + 1 < 128) (l r : Fin 128) :
    since C k (ix2 l r) = Ideal.exp (C (ix2 l ⟨k + r.val / 64, by omega⟩)) := by
  pointwise [since, halves_at]
  rw [← lane (fun i => Ideal.exp (C (ix2 l i))) k hk r, pick_at C ⟨k, by omega⟩ l 0, pick_at C ⟨k + 1, hk⟩ l 0]

theorem ahead_at (C : FVec Ideal S128x128 .f32) (T : FVec Ideal S1x128 .f32) (k : ℕ) (hk : k + 1 < 128) (l r : Fin 128) :
    ahead C T k (ix2 l r) = Ideal.exp (T (ix2 0 ⟨k + r.val / 64, by omega⟩) - C (ix2 l ⟨k + r.val / 64, by omega⟩)) := by
  pointwise [ahead, halves_at]
  rw [← lane (fun i => Ideal.exp (T (ix2 0 i) - C (ix2 l i))) k hk r, pick_at C ⟨k, by omega⟩ l 0, pick_at C ⟨k + 1, hk⟩ l 0,
    pickOne_at T ⟨k, by omega⟩, pickOne_at T ⟨k + 1, hk⟩]

theorem across_at (T : FVec Ideal S1x128 .f32) (k : ℕ) (hk : k + 1 < 128) (r : Fin 128) (z : Fin 1) :
    across T k (ix2 r z) = Ideal.exp (T (ix2 0 ⟨k + r.val / 64, by omega⟩)) := by
  pointwise [across, tops_at]
  rw [← lane (fun i => Ideal.exp (T (ix2 0 i))) k hk r, pickOne_at T ⟨k, by omega⟩, pickOne_at T ⟨k + 1, hk⟩]

theorem both_at (x dt S C R : FVec Ideal S128x128 .f32) (k : ℕ) (i : Fin 256) (p : Fin 128) :
    both x dt S C R k (ix2 i p) = ∑ s : Fin 128, (if h : i.val < 128 then decayed S C R k (ix2 ⟨i.val, h⟩ s) else decayed S C R (k + 1) (ix2 ⟨i.val - 128, by omega⟩ s)) * scaled x dt k (ix2 s p) := by
  pointwise [both]

/-- The scores at step `l` with head `k`'s decay. -/
def dec (S C R : FVec Ideal S128x128 .f32) (k l s : Fin 128) : EReal :=
  S (ix2 l s) * if s.val ≤ l.val then Ideal.exp (C (ix2 l k) - R (ix2 k s)) else 0

theorem within_at (x dt S C R : FVec Ideal S128x128 .f32) (k : ℕ) (hk : k + 1 < 128) (l r : Fin 128) :
    within x dt S C R k (ix2 l r)
      = ∑ s : Fin 128, dec S C R ⟨k + r.val / 64, by omega⟩ l s * (x (ix2 s r) * dt (ix2 s ⟨k + r.val / 64, by omega⟩)) := by
  have e : ∀ s, decayed S C R k (ix2 l s) = dec S C R ⟨k, by omega⟩ l s := fun s => decayed_at S C R ⟨k, by omega⟩ l s
  have e' : ∀ s, decayed S C R (k + 1) (ix2 l s) = dec S C R ⟨k + 1, hk⟩ l s := fun s => decayed_at S C R ⟨k + 1, hk⟩ l s
  have key := lane (fun i => ∑ s : Fin 128, dec S C R i l s * scaled x dt k (ix2 s r)) k hk r
  simp only [scaled_at x dt k hk] at key
  refine Eq.trans ?_ key
  pointwise [within, k0_pay11, both_at]
  simp only [scaled_at x dt k hk, e, e', l.isLt, dif_pos]
  exact (congrArg (Scalar.select · _ _) (WordCmp.cmpi_slt_ofNat (r.isLt.trans (by decide)) (by decide))).trans (select_bool _ _ _)

theorem flag (p : Prop) [Decidable p] : FloatOps.sitofp (F := Ideal) .f32 (BitVec.setWidth 32 (BitVec.ofBool (decide p))) = if p then (1 : EReal) else 0 := by
  by_cases h : p
  · simp only [h, decide_true, if_true]
    show ((((BitVec.setWidth 32 (BitVec.ofBool true)).toInt : ℝ)) : EReal) = 1
    rw [show (BitVec.setWidth 32 (BitVec.ofBool true)).toInt = 1 by decide]; norm_num
  · simp only [h, decide_false, if_false]
    show ((((BitVec.setWidth 32 (BitVec.ofBool false)).toInt : ℝ)) : EReal) = 0
    rw [show (BitVec.setWidth 32 (BitVec.ofBool false)).toInt = 0 by decide]; norm_num

/-- A finite number less itself is zero; the two halves of a split number add to it. -/
theorem split_sum (w : Fin 128 → Prop) [DecidablePred w] (v : Fin 128 → EReal) (h : ∀ s, v s - v s = 0) :
    (∑ s, (if w s then (1 : EReal) else 0) * v s) + ∑ s, (if w s then (1 : EReal) else 0) * (v s - v s) = ∑ s, if w s then v s else 0 := by
  simp only [h, mul_zero, Finset.sum_const_zero, add_zero, ite_mul, one_mul, zero_mul]

/-- The running sum of the steps' exponents, over steps `0` to `l`. -/
def running (v : Fin 128 → EReal) (l : Fin 128) : EReal := ∑ s : Fin 128, if s.val ≤ l.val then v s else 0

theorem sums_at (dt : Vec Ideal S128x128 .f32) (a : Vec Ideal S1x128 .f32) (l k : Fin 128) (v : Fin 128 → EReal) (hv : ∀ s, (dt (ix2 s k) * a (ix2 0 k) : EReal) = v s)
    (h : ∀ s, v s - v s = 0) : k0_pay5 (F := Ideal) dt a (ix2 l k) = running v l := by
  pointwise [k0_pay5, k0_pay4]
  simp only [bit_ge, flag, hv]
  exact split_sum _ v h

theorem sumsRow_at (dt : Vec Ideal S128x128 .f32) (a : Vec Ideal S128x1 .f32) (l k : Fin 128) (v : Fin 128 → EReal) (hv : ∀ s, (dt (ix2 k s) * a (ix2 k 0) : EReal) = v s)
    (h : ∀ s, v s - v s = 0) : k0_pay6 (F := Ideal) dt a (ix2 k l) = running v l := by
  pointwise [k0_pay6]
  simp only [bit_le, flag, hv]
  simp only [mul_comm (v _) _, mul_comm (v _ - v _) _]
  exact split_sum _ v h

theorem total_at (dt : Vec Ideal S128x128 .f32) (a : Vec Ideal S1x128 .f32) (z : Fin 1) (k : Fin 128) (v : Fin 128 → EReal) (hv : ∀ s, (dt (ix2 s k) * a (ix2 0 k) : EReal) = v s) :
    k0_pay7 (F := Ideal) dt a (ix2 z k) = running v ⟨127, by decide⟩ := by
  pointwise [k0_pay7, k0_pay4]
  simp only [hv, running]
  exact Finset.sum_congr rfl fun s _ => (if_pos (by show s.val ≤ 127; omega)).symm

theorem score_at (B C : Vec Ideal S128x128 .f32) (l s : Fin 128) : k0_pay8 (F := Ideal) B C (ix2 l s) = (∑ n : Fin 128, C (ix2 l n) * B (ix2 s n) : EReal) := by
  pointwise [k0_pay8]

theorem groupOut_at (x : Fin 4 → FVec Ideal S128x128 .f32) (dt Cc S C R : FVec Ideal S128x128 .f32) (st : FVec Ideal S512x128 .f32) (k : ℕ) (hk : k + 8 ≤ 128)
    (l : Fin 128) (j : Fin 512) : groupOut x dt Cc S C R st k (ix2 l j)
      = (∑ s : Fin 128, dec S C R ⟨k + j.val / 64, by omega⟩ l s * (x ⟨j.val / 128, by omega⟩ (ix2 s ⟨j.val % 128, Nat.mod_lt _ (by decide)⟩) * dt (ix2 s ⟨k + j.val / 64, by omega⟩)))
        + (∑ n : Fin 128, Cc (ix2 l n) * st (ix2 j n)) * Ideal.exp (C (ix2 l ⟨k + j.val / 64, by omega⟩)) := by
  have e : ∀ h, (⟨k + 2 * (j.val / 128) + j.val % 128 / 64, h⟩ : Fin 128) = ⟨k + j.val / 64, by omega⟩ := fun _ => Fin.ext (by simp only []; omega)
  pointwise [groupOut, cat_at]
  rw [within_at _ _ _ _ _ _ (by omega), since_at _ _ (by omega)]
  simp only [e]

theorem groupState_at (x : Fin 4 → FVec Ideal S128x128 .f32) (dt B C : FVec Ideal S128x128 .f32) (T : FVec Ideal S1x128 .f32) (st : FVec Ideal S512x128 .f32) (k : ℕ) (hk : k + 8 ≤ 128)
    (j : Fin 512) (n : Fin 128) : groupState x dt B C T st k (ix2 j n)
      = st (ix2 j n) * Ideal.exp (T (ix2 0 ⟨k + j.val / 64, by omega⟩))
        + ∑ l : Fin 128, x ⟨j.val / 128, by omega⟩ (ix2 l ⟨j.val % 128, Nat.mod_lt _ (by decide)⟩) * dt (ix2 l ⟨k + j.val / 64, by omega⟩)
            * Ideal.exp (T (ix2 0 ⟨k + j.val / 64, by omega⟩) - C (ix2 l ⟨k + j.val / 64, by omega⟩)) * B (ix2 l n) := by
  have e : ∀ h, (⟨k + 2 * (j.val / 128) + j.val % 128 / 64, h⟩ : Fin 128) = ⟨k + j.val / 64, by omega⟩ := fun _ => Fin.ext (by simp only []; omega)
  pointwise [groupState, cat_at, catCol_at]
  rw [across_at _ _ (by omega)]
  simp only [scaled_at _ _ _ (show k + 2 * (j.val / 128) + 1 < 128 by omega), ahead_at _ _ _ (show k + 2 * (j.val / 128) + 1 < 128 by omega), e]

end Cert.SsdIdeal.Value
-- ==== Proof.SsdScan.lean ====
module

public import proofs.«01_k».proof.Proof.SsdOps
public import Idealize.ShloMosaic.Lib.ValueIdxRank6

@[expose] public section

set_option maxRecDepth 16384

noncomputable section

open Idealize.ShloMosaic Idealize.ShloMosaic.TcCoe Idealize.SL.Sem

namespace Cert.SsdIdeal.Value

open Cert.SsdIdeal Cert.SsdIdeal.Gen

/-- A sum over the last places of a window that ends at `l` is the sum of the first `l + 1` values. -/
theorem window_running (l : Fin 128) (v : Fin 128 → EReal) :
    (∑ k : Fin 128, if h : 127 ≤ l.val + k.val then v ⟨l.val + k.val - 127, by omega⟩ else 0) = running v l := by
  have e : ∀ k : Fin 128, (if h : 127 ≤ l.val + k.val then v ⟨l.val + k.val - 127, by omega⟩ else 0)
      = ∑ s : Fin 128, if s.val + 127 = l.val + k.val then v s else 0 := fun k => by
    by_cases h : 127 ≤ l.val + k.val
    · rw [dif_pos h, Finset.sum_eq_single (⟨l.val + k.val - 127, by omega⟩ : Fin 128), if_pos (by simp only; omega)]
      · exact fun b _ hb => if_neg fun hh => hb (Fin.ext (by simp only; omega))
      · exact fun hh => absurd (Finset.mem_univ _) hh
    · rw [dif_neg h]
      exact (Finset.sum_eq_zero fun s _ => if_neg (by omega)).symm
  rw [Finset.sum_congr rfl fun k _ => e k, Finset.sum_comm, running]
  refine Finset.sum_congr rfl fun s _ => ?_
  by_cases h : s.val ≤ l.val
  · rw [if_pos h, Finset.sum_eq_single (⟨s.val + 127 - l.val, by omega⟩ : Fin 128), if_pos (by simp only; omega)]
    · exact fun b _ hb => if_neg fun hh => hb (Fin.ext (by simp only; omega))
    · exact fun hh => absurd (Finset.mem_univ _) hh
  · rw [if_neg h]
    exact Finset.sum_eq_zero fun k _ => if_neg (by omega)

theorem foldl_sum {n : ℕ} (f : Fin n → EReal) :
    (List.finRange n).foldl (fun r i => r + f i) 0 = ∑ i, f i := by
  rw [Fin.sum_univ_def, List.sum_eq_foldl, List.foldl_map]

/-- What the window that ends at `j` has in place `i`. -/
def slot {s t : Shape} {window strides lo hi : Fin s.rank → ℕ} (h : s.ReduceWindows window strides lo hi t) (x : s.Idx → EReal) (j : t.Idx)
    (i : (⟨s.rank, window⟩ : Shape).Idx) : EReal :=
  if hin : ∀ a, lo a ≤ (j (a.cast h.1.symm)).val * strides a + (i a).val
      ∧ (j (a.cast h.1.symm)).val * strides a + (i a).val - lo a < s.size a
    then x (fun a => ⟨_, (hin a).2⟩) else 0

theorem window_slots {s t : Shape} {window strides lo hi : Fin s.rank → ℕ} (h : s.ReduceWindows window strides lo hi t) (x : s.Idx → EReal) (j : t.Idx) :
    Ideal.hostReduceWindowAdd window strides lo hi h x 0 j = ∑ i, slot h x j i := by
  refine Eq.trans ?_ ((foldl_sum fun n => slot h x j ((⟨s.rank, window⟩ : Shape).rowMajor.symm n)).trans
    (Equiv.sum_comp (⟨s.rank, window⟩ : Shape).rowMajor.symm (slot h x j)))
  unfold Ideal.hostReduceWindowAdd Host.reduceWindow slot
  refine congrArg (fun f => List.foldl f (0 : EReal) (List.finRange (⟨s.rank, window⟩ : Shape).numel)) (funext₂ fun r n => congrArg (r + ·) ?_)
  exact dite_congr rfl (fun _ => rfl) (fun _ => rfl)

/-- The running sum over the third axis. -/
theorem window_sum (x : (⟨5, ![4, 18, 128, 2, 8]⟩ : Shape).Idx → EReal)
    (h : (⟨5, ![4, 18, 128, 2, 8]⟩ : Shape).ReduceWindows ![1, 1, 128, 1, 1] ![1, 1, 1, 1, 1] ![0, 0, 127, 0, 0] ![0, 0, 0, 0, 0] ⟨5, ![4, 18, 128, 2, 8]⟩)
    (b : Fin 4) (z : Fin 18) (l : Fin 128) (g : Fin 2) (e : Fin 8) :
    Ideal.hostReduceWindowAdd ![1, 1, 128, 1, 1] ![1, 1, 1, 1, 1] ![0, 0, 127, 0, 0] ![0, 0, 0, 0, 0] h x 0 (ix5 b z l g e)
      = running (fun s => x (ix5 b z s g e)) l := by
  rw [← window_running, window_slots]
  refine (sum_idx5 (n0 := 1) (n1 := 1) (n2 := 128) (n3 := 1) (n4 := 1) (slot h x (ix5 b z l g e))).trans ?_
  simp only [Fin.sum_univ_one, Fin.isValue]
  refine Finset.sum_congr rfl fun k _ => ?_
  unfold slot
  by_cases hk : 127 ≤ l.val + k.val
  · rw [dif_pos hk, dif_pos]
    swap
    · intro a
      have h0 := b.isLt; have h1 := z.isLt; have h2 := l.isLt; have h3 := g.isLt; have h4 := e.isLt; have h5 := k.isLt
      fin_cases a <;> simp <;> omega
    · refine congrArg x ?_
      funext a
      fin_cases a <;> apply Fin.ext <;> simp
  · rw [dif_neg hk, dif_neg]
    intro hh
    have := (hh 2).1
    simp at this
    omega

/-! The scan by rows: `a0` holds the inputs, `B` and `C` side by side, `a1` the steps' lengths, `a2` the rates.
Sequence `b` has 18 chunks of 128 rows, the first two of them behind the other sequences' rows. -/

section scan

variable (a0 : FVec Ideal S9216x1536 .f32) (a1 : FVec Ideal S9216x128 .f32) (a2 : FVec Ideal S1x128 .f32)

/-- Step `l` of chunk `z` of sequence `b`. -/
def rowOf (b : Fin 4) (z : Fin 18) (l : Fin 128) : Fin 9216 :=
  ⟨if z.val < 2 then (64 + 2 * b.val + z.val) * 128 + l.val else (16 * b.val + z.val - 2) * 128 + l.val, by split <;> omega⟩

/-- The head of column `J`. -/
def headOf (J : Fin 1024) : Fin 128 := ⟨J.val / 64, by omega⟩
def colX (J : Fin 1024) : Fin 1536 := ⟨J.val, by omega⟩
def colB (J : Fin 1024) (n : Fin 128) : Fin 1536 := ⟨1024 + 128 * (J.val / 512) + n.val, by omega⟩
def colC (J : Fin 1024) (n : Fin 128) : Fin 1536 := ⟨1280 + 128 * (J.val / 512) + n.val, by omega⟩

/-- The log decay of one step. -/
def stepOf (b : Fin 4) (z : Fin 18) (k s : Fin 128) : EReal := a1 (ix2 (rowOf b z s) k) * a2 (ix2 0 k)
/-- The log decay since the chunk began. -/
def logOf (b : Fin 4) (z : Fin 18) (k l : Fin 128) : EReal := running (stepOf a1 a2 b z k) l

/-- What chunk `z` adds to the state. -/
def gainOf (b : Fin 4) (z : Fin 18) (J : Fin 1024) (n : Fin 128) : EReal :=
  ∑ l : Fin 128, a0 (ix2 (rowOf b z l) (colX J)) * a1 (ix2 (rowOf b z l) (headOf J))
    * Ideal.exp (logOf a1 a2 b z (headOf J) 127 - logOf a1 a2 b z (headOf J) l) * a0 (ix2 (rowOf b z l) (colB J n))

/-- The state before chunk `z`. -/
def stateOf (b : Fin 4) : ℕ → Fin 1024 → Fin 128 → EReal
  | 0, _, _ => 0
  | z + 1, J, n => stateOf b z J n * Ideal.exp (logOf a1 a2 b ⟨z % 18, Nat.mod_lt _ (by decide)⟩ (headOf J) 127)
      + gainOf a0 a1 a2 b ⟨z % 18, Nat.mod_lt _ (by decide)⟩ J n

/-- The output at step `l` of chunk `z`. -/
def outOf (b : Fin 4) (z : Fin 18) (l : Fin 128) (J : Fin 1024) : EReal :=
  (∑ s : Fin 128, (∑ n : Fin 128, a0 (ix2 (rowOf b z l) (colC J n)) * a0 (ix2 (rowOf b z s) (colB J n)))
      * (if s.val ≤ l.val then Ideal.exp (logOf a1 a2 b z (headOf J) l - logOf a1 a2 b z (headOf J) s) else 0)
      * (a0 (ix2 (rowOf b z s) (colX J)) * a1 (ix2 (rowOf b z s) (headOf J))))
    + (∑ n : Fin 128, a0 (ix2 (rowOf b z l) (colC J n)) * stateOf a0 a1 a2 b z.val J n) * Ideal.exp (logOf a1 a2 b z (headOf J) l)

end scan

end Cert.SsdIdeal.Value
-- ==== Proof.SsdPoint.lean ====
module

public import proofs.«01_k».proof.Proof.SsdScan

@[expose] public section

set_option maxRecDepth 16384

noncomputable section

open Idealize.ShloMosaic Idealize.ShloMosaic.TcCoe Idealize.SL.Sem

namespace Cert.SsdIdeal.Value

open Cert.SsdIdeal Cert.SsdIdeal.Gen

/-- The inputs of one grid point, for the group of heads `g`. -/
structure PointIn (a0 : FVec Ideal S9216x1536 .f32) (a1 : FVec Ideal S9216x128 .f32) (a2 : FVec Ideal S1x128 .f32) (b : Fin 4) (z : Fin 18) (g : ℕ)
    (x0 x1 x2 x3 B C dt dtT : FVec Ideal S128x128 .f32) (a : FVec Ideal S1x128 .f32) (acol : FVec Ideal S128x1 .f32) (st : FVec Ideal S512x128 .f32) : Prop where
  lt : g < 2
  x0_at : ∀ l p : Fin 128, x0 (ix2 l p) = a0 (ix2 (rowOf b z l) ⟨512 * g + p.val, by omega⟩)
  x1_at : ∀ l p : Fin 128, x1 (ix2 l p) = a0 (ix2 (rowOf b z l) ⟨512 * g + 128 + p.val, by omega⟩)
  x2_at : ∀ l p : Fin 128, x2 (ix2 l p) = a0 (ix2 (rowOf b z l) ⟨512 * g + 256 + p.val, by omega⟩)
  x3_at : ∀ l p : Fin 128, x3 (ix2 l p) = a0 (ix2 (rowOf b z l) ⟨512 * g + 384 + p.val, by omega⟩)
  B_at : ∀ l n : Fin 128, B (ix2 l n) = a0 (ix2 (rowOf b z l) ⟨1024 + 128 * g + n.val, by omega⟩)
  C_at : ∀ l n : Fin 128, C (ix2 l n) = a0 (ix2 (rowOf b z l) ⟨1280 + 128 * g + n.val, by omega⟩)
  dt_at : ∀ l k : Fin 128, dt (ix2 l k) = a1 (ix2 (rowOf b z l) k)
  dtT_at : ∀ k l : Fin 128, dtT (ix2 k l) = a1 (ix2 (rowOf b z l) k)
  a_at : ∀ k : Fin 128, a (ix2 0 k) = a2 (ix2 0 k)
  acol_at : ∀ k : Fin 128, acol (ix2 k 0) = a2 (ix2 0 k)
  st_at : ∀ (j : Fin 512) (n : Fin 128), st (ix2 j n) = stateOf a0 a1 a2 b z.val ⟨512 * g + j.val, by omega⟩ n

/-- Column `j` of group `g`. -/
def colOf (g : ℕ) (hg : g < 2) (j : Fin 512) : Fin 1024 := ⟨512 * g + j.val, by omega⟩

section

variable {a0 : FVec Ideal S9216x1536 .f32} {a1 : FVec Ideal S9216x128 .f32} {a2 : FVec Ideal S1x128 .f32} {b : Fin 4} {z : Fin 18} {g : ℕ}
  {x0 x1 x2 x3 B C dt dtT : FVec Ideal S128x128 .f32} {a : FVec Ideal S1x128 .f32} {acol : FVec Ideal S128x1 .f32} {st : FVec Ideal S512x128 .f32}

theorem PointIn.x_at (P : PointIn a0 a1 a2 b z g x0 x1 x2 x3 B C dt dtT a acol st) (j : Fin 512) (l : Fin 128) :
    (![x0, x1, x2, x3] : Fin 4 → FVec Ideal S128x128 .f32) ⟨j.val / 128, by omega⟩ (ix2 l ⟨j.val % 128, by omega⟩)
      = a0 (ix2 (rowOf b z l) (colX (colOf g P.lt j))) := by
  have hj := j.isLt
  have key : ∀ q : Fin 4, ∀ h : q.val = j.val / 128, (![x0, x1, x2, x3] : Fin 4 → FVec Ideal S128x128 .f32) q (ix2 l ⟨j.val % 128, by omega⟩)
      = a0 (ix2 (rowOf b z l) (colX (colOf g P.lt j))) := by
    intro q h
    fin_cases q
    · exact (P.x0_at l _).trans (congrArg (fun i => a0 (ix2 _ i)) (Fin.ext (by simp only [colX, colOf] at h ⊢; omega)))
    · exact (P.x1_at l _).trans (congrArg (fun i => a0 (ix2 _ i)) (Fin.ext (by simp only [colX, colOf] at h ⊢; omega)))
    · exact (P.x2_at l _).trans (congrArg (fun i => a0 (ix2 _ i)) (Fin.ext (by simp only [colX, colOf] at h ⊢; omega)))
    · exact (P.x3_at l _).trans (congrArg (fun i => a0 (ix2 _ i)) (Fin.ext (by simp only [colX, colOf] at h ⊢; omega)))
  exact key _ rfl

theorem PointIn.head (P : PointIn a0 a1 a2 b z g x0 x1 x2 x3 B C dt dtT a acol st) (j : Fin 512) :
    (⟨8 * g + j.val / 64, by have := P.lt; omega⟩ : Fin 128) = headOf (colOf g P.lt j) :=
  Fin.ext (by simp only [headOf, colOf]; omega)

theorem PointIn.B_col (P : PointIn a0 a1 a2 b z g x0 x1 x2 x3 B C dt dtT a acol st) (j : Fin 512) (l n : Fin 128) :
    B (ix2 l n) = a0 (ix2 (rowOf b z l) (colB (colOf g P.lt j) n)) :=
  (P.B_at l n).trans (congrArg (fun i => a0 (ix2 _ i)) (Fin.ext (by simp only [colB, colOf]; omega)))

theorem PointIn.C_col (P : PointIn a0 a1 a2 b z g x0 x1 x2 x3 B C dt dtT a acol st) (j : Fin 512) (l n : Fin 128) :
    C (ix2 l n) = a0 (ix2 (rowOf b z l) (colC (colOf g P.lt j) n)) :=
  (P.C_at l n).trans (congrArg (fun i => a0 (ix2 _ i)) (Fin.ext (by simp only [colC, colOf]; omega)))

theorem headOf_lt (J : Fin 1024) : (headOf J).val < 16 := by simp only [headOf]; omega

theorem PointIn.log (P : PointIn a0 a1 a2 b z g x0 x1 x2 x3 B C dt dtT a acol st) (fin : ∀ k : Fin 128, k.val < 16 → ∀ s, stepOf a1 a2 b z k s - stepOf a1 a2 b z k s = 0)
    (l : Fin 128) (J : Fin 1024) : k0_pay5 (F := Ideal) dt a (ix2 l (headOf J)) = logOf a1 a2 b z (headOf J) l :=
  sums_at dt a l _ (stepOf a1 a2 b z (headOf J)) (fun s => by rw [P.dt_at, P.a_at]; rfl) (fin _ (headOf_lt J))

theorem PointIn.logRow (P : PointIn a0 a1 a2 b z g x0 x1 x2 x3 B C dt dtT a acol st) (fin : ∀ k : Fin 128, k.val < 16 → ∀ s, stepOf a1 a2 b z k s - stepOf a1 a2 b z k s = 0)
    (J : Fin 1024) (l : Fin 128) : k0_pay6 (F := Ideal) dtT acol (ix2 (headOf J) l) = logOf a1 a2 b z (headOf J) l :=
  sumsRow_at dtT acol l _ (stepOf a1 a2 b z (headOf J)) (fun s => by rw [P.dtT_at, P.acol_at]; rfl) (fin _ (headOf_lt J))

theorem PointIn.total (P : PointIn a0 a1 a2 b z g x0 x1 x2 x3 B C dt dtT a acol st)
    (y : Fin 1) (k : Fin 128) : k0_pay7 (F := Ideal) dt a (ix2 y k) = logOf a1 a2 b z k 127 :=
  total_at dt a y k (stepOf a1 a2 b z k) (fun s => by rw [P.dt_at, P.a_at]; rfl)

/-- The output of one grid point. -/
theorem PointIn.out (P : PointIn a0 a1 a2 b z g x0 x1 x2 x3 B C dt dtT a acol st) (fin : ∀ k : Fin 128, k.val < 16 → ∀ s, stepOf a1 a2 b z k s - stepOf a1 a2 b z k s = 0)
    (l : Fin 128) (j : Fin 512) :
    groupOut ![x0, x1, x2, x3] dt C (k0_pay8 (F := Ideal) B C) (k0_pay5 (F := Ideal) dt a) (k0_pay6 (F := Ideal) dtT acol) st (8 * g) (ix2 l j)
      = outOf a0 a1 a2 b z l (colOf g P.lt j) := by
  rw [groupOut_at _ _ _ _ _ _ _ _ (by have := P.lt; omega)]
  simp only [P.head j, dec, P.log fin, P.logRow fin, P.x_at j, P.dt_at, P.st_at, score_at, P.B_col j, P.C_col j]
  rfl

/-- The state one grid point leaves. -/
theorem PointIn.next (P : PointIn a0 a1 a2 b z g x0 x1 x2 x3 B C dt dtT a acol st) (fin : ∀ k : Fin 128, k.val < 16 → ∀ s, stepOf a1 a2 b z k s - stepOf a1 a2 b z k s = 0)
    (j : Fin 512) (n : Fin 128) :
    groupState ![x0, x1, x2, x3] dt B (k0_pay5 (F := Ideal) dt a) (k0_pay7 (F := Ideal) dt a) st (8 * g) (ix2 j n)
      = stateOf a0 a1 a2 b (z.val + 1) (colOf g P.lt j) n := by
  rw [groupState_at _ _ _ _ _ _ _ (by have := P.lt; omega)]
  simp only [P.head j, P.log fin, P.total, P.x_at j, P.dt_at, P.st_at, P.B_col j]
  have e : (⟨z.val % 18, Nat.mod_lt _ (by decide)⟩ : Fin 18) = z := Fin.ext (Nat.mod_eq_of_lt z.isLt)
  rw [stateOf, e]
  rfl

end

end Cert.SsdIdeal.Value
-- ==== Proof.SsdBlocks.lean ====
module

public import proofs.«01_k».proof.Proof.Gen.SsdIdeal.Value
public import Idealize.ShloMosaic.Lib.Pipeline.ValueKit
public import proofs.«01_k».proof.Proof.SsdPoint

@[expose] public section
set_option maxRecDepth 16384
noncomputable section
open Idealize.ShloMosaic Idealize.ShloMosaic.TcCoe Idealize.SL.Sem
namespace Cert.SsdIdeal.Value
open Cert.SsdIdeal Cert.SsdIdeal.Gen
variable (m : (ℓ : Loc nD τ sig) → Buf (Elt Ideal) ℓ)

theorem idx : ∀ t : Fin cfg0.N, win0_0.index t = ![if t.val % 18 < 2 then 64 + 2 * (t.val / 18) + t.val % 18 else 16 * (t.val / 18) + t.val % 18 - 2, 0]
    ∧ win0_1.index t = ![if t.val % 18 < 2 then 64 + 2 * (t.val / 18) + t.val % 18 else 16 * (t.val / 18) + t.val % 18 - 2, 0]
    ∧ win0_2.index t = ![0, if t.val % 18 < 2 then 64 + 2 * (t.val / 18) + t.val % 18 else 16 * (t.val / 18) + t.val % 18 - 2]
    ∧ win0_3.index t = ![0, 0]
    ∧ win0_4.index t = ![0, 0]
    ∧ win0_5.index t = ![if t.val % 18 < 2 then 64 + 2 * (t.val / 18) + t.val % 18 else 16 * (t.val / 18) + t.val % 18 - 2, 0]
    ∧ win0_6.index t = ![t.val, 0] :=
  (by decide +kernel : ∀ t : Fin grid0.N, _)

def seqOf (t : Fin cfg0.N) : Fin 4 := ⟨t.val / 18, by have h := lt_of_lt_of_eq t.isLt N_0; omega⟩
def chunkOf (t : Fin cfg0.N) : Fin 18 := ⟨t.val % 18, by omega⟩

variable (c : Dev nD) (t : Fin cfg0.N)

theorem x_blk (l : Fin 128) (j : Fin 1536) :
    iblk m c 0 t (ix2 l j) = m ((c : Thread nD τ).loc main_arg0) (ix2 (rowOf (seqOf t) (chunkOf t) l) j) := by
  have h := lt_of_lt_of_eq t.isLt N_0
  unfold rowOf seqOf chunkOf
  blk_ext [iblk, V, idx t]
  split <;> rfl

theorem dt_blk (l : Fin 128) (j : Fin 128) :
    iblk m c 1 t (ix2 l j) = m ((c : Thread nD τ).loc main_arg1) (ix2 (rowOf (seqOf t) (chunkOf t) l) j) := by
  have h := lt_of_lt_of_eq t.isLt N_0
  unfold rowOf seqOf chunkOf
  blk_ext [iblk, V, idx t]
  split <;> rfl

theorem dtT_blk (k l : Fin 128) :
    iblk m c 2 t (ix2 k l) = m ((c : Thread nD τ).loc main_arg1) (ix2 (rowOf (seqOf t) (chunkOf t) l) k) := by
  have h := lt_of_lt_of_eq t.isLt N_0
  unfold rowOf seqOf chunkOf
  blk_simp [iblk]; entry_read; pointwise; blk_ext [idx t]
  split <;> rfl

theorem a_blk (j : Fin 128) :
    iblk m c 3 t (ix2 0 j) = m ((c : Thread nD τ).loc main_arg2) (ix2 0 j) := by
  blk_ext [iblk, V, idx t]

theorem acol_blk (j : Fin 128) :
    iblk m c 4 t (ix2 j 0) = m ((c : Thread nD τ).loc main_arg2) (ix2 0 j) := by
  blk_simp [iblk]; entry_read; pointwise; blk_ext [idx t]

end Cert.SsdIdeal.Value
-- ==== Proof.SsdValue.lean ====
module

public import proofs.«01_k».proof.Proof.Gen.SsdIdeal.Value
public import Idealize.ShloMosaic.Lib.Pipeline.ValueKit
public import Idealize.ShloMosaic.Lib.Pipeline.ReadBack
public import proofs.«01_k».proof.Proof.SsdBlocks

@[expose] public section
set_option maxRecDepth 16384
noncomputable section
open Idealize.ShloMosaic Idealize.ShloMosaic.TcCoe Idealize.SL.Sem
namespace Cert.SsdIdeal.Value
open Cert.SsdIdeal Cert.SsdIdeal.Gen
variable (m : (ℓ : Loc nD τ sig) → Buf (Elt Ideal) ℓ)

/-! What one grid point stores, in the terms of the scan. -/

theorem pay1_at (v : Vec Ideal S512x128 .f32) (y) : k0_pay1 (F := Ideal) v y = v y := by
  rw [eq_ix2 y]; pointwise [k0_pay1]

theorem pay2_at (v : Vec Ideal S512x128 .f32) (y) : k0_pay2 (F := Ideal) v y = v y := by
  rw [eq_ix2 y]; pointwise [k0_pay2]

theorem zero_at (y) : k0_pay3 (F := Ideal) y = 0 := by
  rw [eq_ix2 y]; pointwise [k0_pay3]

section

variable {a0 : FVec Ideal S9216x1536 .f32} {a1 : FVec Ideal S9216x128 .f32} {a2 : FVec Ideal S1x128 .f32} {b : Fin 4} {z : Fin 18}
  {X0 : Vec Ideal S128x1536 .f32} {X1 X2 : Vec Ideal S128x128 .f32} {X3 : Vec Ideal S1x128 .f32} {X4 : Vec Ideal S128x1 .f32} {st : FVec Ideal S512x128 .f32}

theorem inputs0 (f0 : ∀ (l : Fin 128) (j : Fin 1536), X0 (ix2 l j) = a0 (ix2 (rowOf b z l) j)) (f1 : ∀ l k : Fin 128, X1 (ix2 l k) = a1 (ix2 (rowOf b z l) k))
    (f2 : ∀ k l : Fin 128, X2 (ix2 k l) = a1 (ix2 (rowOf b z l) k)) (f3 : ∀ k : Fin 128, X3 (ix2 0 k) = a2 (ix2 0 k)) (f4 : ∀ k : Fin 128, X4 (ix2 k 0) = a2 (ix2 0 k))
    (fs : ∀ (j : Fin 512) (n : Fin 128), st (ix2 j n) = stateOf a0 a1 a2 b z.val ⟨512 * 0 + j.val, by omega⟩ n) :
    PointIn a0 a1 a2 b z 0 (View.ld X0 (Rect.unit ![0, 0] ![128, 128] inb_S128x1536_S128x128_0_0)) (View.ld X0 (Rect.unit ![0, 128] ![128, 128] inb_S128x1536_S128x128_0_128)) (View.ld X0 (Rect.unit ![0, 256] ![128, 128] inb_S128x1536_S128x128_0_256)) (View.ld X0 (Rect.unit ![0, 384] ![128, 128] inb_S128x1536_S128x128_0_384)) (View.ld X0 (Rect.unit ![0, 1024] ![128, 128] inb_S128x1536_S128x128_0_1024)) (View.ld X0 (Rect.unit ![0, 1280] ![128, 128] inb_S128x1536_S128x128_0_1280))
      X1 X2 X3 X4 st := by
  refine ⟨by decide, fun l p => ?_, fun l p => ?_, fun l p => ?_, fun l p => ?_, fun l p => ?_, fun l p => ?_, f1, f2, f3, f4, fs⟩
  all_goals
    refine Eq.trans ?_ (f0 l _)
    pointwise

theorem inputs1 (f0 : ∀ (l : Fin 128) (j : Fin 1536), X0 (ix2 l j) = a0 (ix2 (rowOf b z l) j)) (f1 : ∀ l k : Fin 128, X1 (ix2 l k) = a1 (ix2 (rowOf b z l) k))
    (f2 : ∀ k l : Fin 128, X2 (ix2 k l) = a1 (ix2 (rowOf b z l) k)) (f3 : ∀ k : Fin 128, X3 (ix2 0 k) = a2 (ix2 0 k)) (f4 : ∀ k : Fin 128, X4 (ix2 k 0) = a2 (ix2 0 k))
    (fs : ∀ (j : Fin 512) (n : Fin 128), st (ix2 j n) = stateOf a0 a1 a2 b z.val ⟨512 * 1 + j.val, by omega⟩ n) :
    PointIn a0 a1 a2 b z 1 (View.ld X0 (Rect.unit ![0, 512] ![128, 128] inb_S128x1536_S128x128_0_512)) (View.ld X0 (Rect.unit ![0, 640] ![128, 128] inb_S128x1536_S128x128_0_640)) (View.ld X0 (Rect.unit ![0, 768] ![128, 128] inb_S128x1536_S128x128_0_768)) (View.ld X0 (Rect.unit ![0, 896] ![128, 128] inb_S128x1536_S128x128_0_896)) (View.ld X0 (Rect.unit ![0, 1152] ![128, 128] inb_S128x1536_S128x128_0_1152)) (View.ld X0 (Rect.unit ![0, 1408] ![128, 128] inb_S128x1536_S128x128_0_1408))
      X1 X2 X3 X4 st := by
  refine ⟨by decide, fun l p => ?_, fun l p => ?_, fun l p => ?_, fun l p => ?_, fun l p => ?_, fun l p => ?_, f1, f2, f3, f4, fs⟩
  all_goals
    refine Eq.trans ?_ (f0 l _)
    pointwise

end

variable (c : Dev nD) (t : Fin cfg0.N)

abbrev stateAt (z : ℕ) (J : Fin 1024) (n : Fin 128) : EReal :=
  stateOf (m ((c : Thread nD τ).loc main_arg0)) (m ((c : Thread nD τ).loc main_arg1)) (m ((c : Thread nD τ).loc main_arg2)) (seqOf t) z J n

abbrev outAt (l : Fin 128) (J : Fin 1024) : EReal :=
  outOf (m ((c : Thread nD τ).loc main_arg0)) (m ((c : Thread nD τ).loc main_arg1)) (m ((c : Thread nD τ).loc main_arg2)) (seqOf t) (chunkOf t) l J

/-- The log decays of the grid point's steps are finite. -/
def Steps : Prop := ∀ k : Fin 128, k.val < 16 → ∀ s, stepOf (m ((c : Thread nD τ).loc main_arg1)) (m ((c : Thread nD τ).loc main_arg2)) (seqOf t) (chunkOf t) k s
    - stepOf (m ((c : Thread nD τ).loc main_arg1)) (m ((c : Thread nD τ).loc main_arg2)) (seqOf t) (chunkOf t) k s = 0

theorem state_B (hz : ¬t.val % 18 = 0) (y) (xs : Vec Ideal S1024x128 .f32) (fin : Steps m c t) (hxs : ∀ J n, xs (ix2 J n) = stateAt m c t (t.val % 18) J n) :
    (sout0_B_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (fun h => hz
      ((hcond0_0 t).mp h)) (iblk m c 0 t) (iblk m c 1 t) (iblk m c 2 t) (iblk m c 3 t) (iblk m c 4 t) xs) y = stateAt m c t (t.val % 18 + 1) (y 0) (y 1) := by
  have f0 := x_blk m c t
  have f1 := dt_blk m c t
  have f2 := dtT_blk m c t
  have f3 := a_blk m c t
  have f4 := acol_blk m c t
  frame_out
  generalize iblk m c 0 t = X0 at *
  generalize iblk m c 1 t = X1 at *
  generalize iblk m c 2 t = X2 at *
  generalize iblk m c 3 t = X3 at *
  generalize iblk m c 4 t = X4 at *
  canon_tiles y h
  · refine (pay2_at _ _).trans ?_
    refine (congrFun (show _ = groupState ![View.ld X0 (Rect.unit ![0, 512] ![128, 128] inb_S128x1536_S128x128_0_512), View.ld X0 (Rect.unit ![0, 640] ![128, 128] inb_S128x1536_S128x128_0_640), View.ld X0 (Rect.unit ![0, 768] ![128, 128] inb_S128x1536_S128x128_0_768), View.ld X0 (Rect.unit ![0, 896] ![128, 128] inb_S128x1536_S128x128_0_896)] _ _ (k0_pay5 (F := Ideal) _ _) (k0_pay7 (F := Ideal) _ _) _ 8 from rfl) _).trans ?_
    refine (congrArg _ (eq_ix2 y)).trans ((PointIn.next (a0 := m ((c : Thread nD τ).loc main_arg0)) (g := 1) (inputs1 f0 f1 f2 f3 f4 fun j n => by
        refine Eq.trans ?_ (hxs _ n)
        pointwise
        exact congrFun ((Memref.isWhole_whole cc0_scratch0).read_unread xs) _) fin _ _).trans ?_)
    exact congrArg₂ (stateAt m c t (t.val % 18 + 1)) (Fin.ext (Eq.trans (by simp only [colOf] <;> omega) h0.symm)) (Fin.ext h1.symm)
  · refine (pay1_at _ _).trans ?_
    refine (congrFun (show _ = groupState ![View.ld X0 (Rect.unit ![0, 0] ![128, 128] inb_S128x1536_S128x128_0_0), View.ld X0 (Rect.unit ![0, 128] ![128, 128] inb_S128x1536_S128x128_0_128), View.ld X0 (Rect.unit ![0, 256] ![128, 128] inb_S128x1536_S128x128_0_256), View.ld X0 (Rect.unit ![0, 384] ![128, 128] inb_S128x1536_S128x128_0_384)] _ _ (k0_pay5 (F := Ideal) _ _) (k0_pay7 (F := Ideal) _ _) _ 0 from rfl) _).trans ?_
    refine (congrArg _ (eq_ix2 y)).trans ((PointIn.next (a0 := m ((c : Thread nD τ).loc main_arg0)) (g := 0) (inputs0 f0 f1 f2 f3 f4 fun j n => by
        refine Eq.trans ?_ (hxs _ n)
        pointwise
        exact congrFun ((Memref.isWhole_whole cc0_scratch0).read_unread xs) _) fin _ _).trans ?_)
    exact congrArg₂ (stateAt m c t (t.val % 18 + 1)) (Fin.ext (Eq.trans (by simp only [colOf] <;> omega) h0.symm)) (Fin.ext h1.symm)

theorem state_A (hz : t.val % 18 = 0) (y) (fin : Steps m c t) :
    (sout0_A_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) ((hcond0_0 t).mpr hz)
      (iblk m c 0 t) (iblk m c 1 t) (iblk m c 2 t) (iblk m c 3 t) (iblk m c 4 t)) y = stateAt m c t (t.val % 18 + 1) (y 0) (y 1) := by
  have f0 := x_blk m c t
  have f1 := dt_blk m c t
  have f2 := dtT_blk m c t
  have f3 := a_blk m c t
  have f4 := acol_blk m c t
  frame_out
  generalize iblk m c 0 t = X0 at *
  generalize iblk m c 1 t = X1 at *
  generalize iblk m c 2 t = X2 at *
  generalize iblk m c 3 t = X3 at *
  generalize iblk m c 4 t = X4 at *
  refine View.canon_append_of_piecesOf (Val := Elt Ideal) (s := S1024x128) (e := .f32) (fun y : S1024x128.Idx => stateAt m c t (t.val % 18 + 1) (y 0) (y 1)) [_] [_, _] ⟨fun x => ?_, fun x => ?_, trivial⟩ y ?_
  · dsimp only
    refine (pay2_at _ _).trans ?_
    refine (congrFun (show _ = groupState ![View.ld X0 (Rect.unit ![0, 512] ![128, 128] inb_S128x1536_S128x128_0_512), View.ld X0 (Rect.unit ![0, 640] ![128, 128] inb_S128x1536_S128x128_0_640), View.ld X0 (Rect.unit ![0, 768] ![128, 128] inb_S128x1536_S128x128_0_768), View.ld X0 (Rect.unit ![0, 896] ![128, 128] inb_S128x1536_S128x128_0_896)] _ _ (k0_pay5 (F := Ideal) _ _) (k0_pay7 (F := Ideal) _ _) _ 8 from rfl) _).trans ?_
    refine (congrArg _ (eq_ix2 x)).trans ((PointIn.next (a0 := m ((c : Thread nD τ).loc main_arg0)) (g := 1) (inputs1 f0 f1 f2 f3 f4 fun j n => by
        rw [show (chunkOf t).val = 0 from hz, View.readCov_fill _ _ _ _ _ (by decide)]
        exact zero_at _) fin _ _).trans ?_)
    refine congrArg₂ (stateAt m c t (t.val % 18 + 1)) (Fin.ext ?_) (Fin.ext ?_)
    · blk_simp
      show 512 * 1 + _ = _
      omega
    · blk_simp
  · dsimp only
    refine (pay1_at _ _).trans ?_
    refine (congrFun (show _ = groupState ![View.ld X0 (Rect.unit ![0, 0] ![128, 128] inb_S128x1536_S128x128_0_0), View.ld X0 (Rect.unit ![0, 128] ![128, 128] inb_S128x1536_S128x128_0_128), View.ld X0 (Rect.unit ![0, 256] ![128, 128] inb_S128x1536_S128x128_0_256), View.ld X0 (Rect.unit ![0, 384] ![128, 128] inb_S128x1536_S128x128_0_384)] _ _ (k0_pay5 (F := Ideal) _ _) (k0_pay7 (F := Ideal) _ _) _ 0 from rfl) _).trans ?_
    refine (congrArg _ (eq_ix2 x)).trans ((PointIn.next (a0 := m ((c : Thread nD τ).loc main_arg0)) (g := 0) (inputs0 f0 f1 f2 f3 f4 fun j n => by
        rw [show (chunkOf t).val = 0 from hz, View.readCov_fill _ _ _ _ _ (by decide)]
        exact zero_at _) fin _ _).trans ?_)
    refine congrArg₂ (stateAt m c t (t.val % 18 + 1)) (Fin.ext ?_) (Fin.ext ?_)
    · blk_simp
      show 512 * 0 + _ = _
      omega
    · blk_simp
  · exact View.cover_of_tiledL (s := S1024x128) _ ![512, 128] (by sl_kernel_rfl) y

theorem point_5_B (hz : ¬t.val % 18 = 0) (y) (xs : Vec Ideal S1024x128 .f32) (fin : Steps m c t) (hxs : ∀ J n, xs (ix2 J n) = stateAt m c t (t.val % 18) J n) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (fun h => hz
      ((hcond0_0 t).mp h)) (iblk m c 0 t) (iblk m c 1 t) (iblk m c 2 t) (iblk m c 3 t) (iblk m c 4 t) xs) y = outAt m c t (y 0) (y 1) := by
  have f0 := x_blk m c t
  have f1 := dt_blk m c t
  have f2 := dtT_blk m c t
  have f3 := a_blk m c t
  have f4 := acol_blk m c t
  frame_out
  generalize iblk m c 0 t = X0 at *
  generalize iblk m c 1 t = X1 at *
  generalize iblk m c 2 t = X2 at *
  generalize iblk m c 3 t = X3 at *
  generalize iblk m c 4 t = X4 at *
  canon_tiles y h
  · refine (congrFun (show _ = groupOut ![View.ld X0 (Rect.unit ![0, 512] ![128, 128] inb_S128x1536_S128x128_0_512), View.ld X0 (Rect.unit ![0, 640] ![128, 128] inb_S128x1536_S128x128_0_640), View.ld X0 (Rect.unit ![0, 768] ![128, 128] inb_S128x1536_S128x128_0_768), View.ld X0 (Rect.unit ![0, 896] ![128, 128] inb_S128x1536_S128x128_0_896)] _ _ (k0_pay8 (F := Ideal) _ _) (k0_pay5 (F := Ideal) _ _) (k0_pay6 (F := Ideal) _ _) _ 8 from rfl) _).trans ?_
    refine (congrArg _ (eq_ix2 y)).trans ((PointIn.out (a0 := m ((c : Thread nD τ).loc main_arg0)) (g := 1) (inputs1 f0 f1 f2 f3 f4 fun j n => by
        refine Eq.trans ?_ (hxs _ n)
        pointwise
        exact congrFun ((Memref.isWhole_whole cc0_scratch0).read_unread xs) _) fin _ _).trans ?_)
    exact congrArg₂ (outAt m c t) (Fin.ext h0.symm) (Fin.ext (Eq.trans (by simp only [colOf] <;> omega) h1.symm))
  · refine (congrFun (show _ = groupOut ![View.ld X0 (Rect.unit ![0, 0] ![128, 128] inb_S128x1536_S128x128_0_0), View.ld X0 (Rect.unit ![0, 128] ![128, 128] inb_S128x1536_S128x128_0_128), View.ld X0 (Rect.unit ![0, 256] ![128, 128] inb_S128x1536_S128x128_0_256), View.ld X0 (Rect.unit ![0, 384] ![128, 128] inb_S128x1536_S128x128_0_384)] _ _ (k0_pay8 (F := Ideal) _ _) (k0_pay5 (F := Ideal) _ _) (k0_pay6 (F := Ideal) _ _) _ 0 from rfl) _).trans ?_
    refine (congrArg _ (eq_ix2 y)).trans ((PointIn.out (a0 := m ((c : Thread nD τ).loc main_arg0)) (g := 0) (inputs0 f0 f1 f2 f3 f4 fun j n => by
        refine Eq.trans ?_ (hxs _ n)
        pointwise
        exact congrFun ((Memref.isWhole_whole cc0_scratch0).read_unread xs) _) fin _ _).trans ?_)
    exact congrArg₂ (outAt m c t) (Fin.ext h0.symm) (Fin.ext (Eq.trans (by simp only [colOf] <;> omega) h1.symm))

theorem point_5_A (hz : t.val % 18 = 0) (y) (fin : Steps m c t) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) ((hcond0_0 t).mpr hz)
      (iblk m c 0 t) (iblk m c 1 t) (iblk m c 2 t) (iblk m c 3 t) (iblk m c 4 t)) y = outAt m c t (y 0) (y 1) := by
  have f0 := x_blk m c t
  have f1 := dt_blk m c t
  have f2 := dtT_blk m c t
  have f3 := a_blk m c t
  have f4 := acol_blk m c t
  frame_out
  generalize iblk m c 0 t = X0 at *
  generalize iblk m c 1 t = X1 at *
  generalize iblk m c 2 t = X2 at *
  generalize iblk m c 3 t = X3 at *
  generalize iblk m c 4 t = X4 at *
  canon_tiles y h
  · refine (congrFun (show _ = groupOut ![View.ld X0 (Rect.unit ![0, 512] ![128, 128] inb_S128x1536_S128x128_0_512), View.ld X0 (Rect.unit ![0, 640] ![128, 128] inb_S128x1536_S128x128_0_640), View.ld X0 (Rect.unit ![0, 768] ![128, 128] inb_S128x1536_S128x128_0_768), View.ld X0 (Rect.unit ![0, 896] ![128, 128] inb_S128x1536_S128x128_0_896)] _ _ (k0_pay8 (F := Ideal) _ _) (k0_pay5 (F := Ideal) _ _) (k0_pay6 (F := Ideal) _ _) _ 8 from rfl) _).trans ?_
    refine (congrArg _ (eq_ix2 y)).trans ((PointIn.out (a0 := m ((c : Thread nD τ).loc main_arg0)) (g := 1) (inputs1 f0 f1 f2 f3 f4 fun j n => by
        rw [show (chunkOf t).val = 0 from hz, View.readCov_fill _ _ _ _ _ (by decide)]
        exact zero_at _) fin _ _).trans ?_)
    exact congrArg₂ (outAt m c t) (Fin.ext h0.symm) (Fin.ext (Eq.trans (by simp only [colOf] <;> omega) h1.symm))
  · refine (congrFun (show _ = groupOut ![View.ld X0 (Rect.unit ![0, 0] ![128, 128] inb_S128x1536_S128x128_0_0), View.ld X0 (Rect.unit ![0, 128] ![128, 128] inb_S128x1536_S128x128_0_128), View.ld X0 (Rect.unit ![0, 256] ![128, 128] inb_S128x1536_S128x128_0_256), View.ld X0 (Rect.unit ![0, 384] ![128, 128] inb_S128x1536_S128x128_0_384)] _ _ (k0_pay8 (F := Ideal) _ _) (k0_pay5 (F := Ideal) _ _) (k0_pay6 (F := Ideal) _ _) _ 0 from rfl) _).trans ?_
    refine (congrArg _ (eq_ix2 y)).trans ((PointIn.out (a0 := m ((c : Thread nD τ).loc main_arg0)) (g := 0) (inputs0 f0 f1 f2 f3 f4 fun j n => by
        rw [show (chunkOf t).val = 0 from hz, View.readCov_fill _ _ _ _ _ (by decide)]
        exact zero_at _) fin _ _).trans ?_)
    exact congrArg₂ (outAt m c t) (Fin.ext h0.symm) (Fin.ext (Eq.trans (by simp only [colOf] <;> omega) h1.symm))

theorem point_6_B (hz : ¬t.val % 18 = 0) (y) (xs : Vec Ideal S1024x128 .f32) (fin : Steps m c t) (hxs : ∀ J n, xs (ix2 J n) = stateAt m c t (t.val % 18) J n) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) (fun h => hz
      ((hcond0_0 t).mp h)) (iblk m c 0 t) (iblk m c 1 t) (iblk m c 2 t) (iblk m c 3 t) (iblk m c 4 t) xs) y = stateAt m c t (t.val % 18) (y 0) (y 1) := by
  frame_out
  refine (congrFun ((Memref.isWhole_whole cc0_scratch0).read_unread xs) _).trans ?_
  exact (congrArg xs (eq_ix2 y)).trans (hxs _ _)

theorem point_6_A (hz : t.val % 18 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) ((hcond0_0 t).mpr hz)
      (iblk m c 0 t) (iblk m c 1 t) (iblk m c 2 t) (iblk m c 3 t) (iblk m c 4 t)) y = stateAt m c t (t.val % 18) (y 0) (y 1) := by
  frame_out
  refine (zero_at y).trans ?_
  rw [hz]
  rfl

theorem carried_A (fin : Steps m c t) (hz : t.val % 18 = 0) (J : Fin 1024) (k : Fin 128) :
    (outsAt0 m c t.val t.isLt).2.2 (ix2 J k) = stateAt m c t (t.val % 18 + 1) J k := by
  rw [outsAt0_A m c t hz]; dsimp only; exact state_A m c t hz (ix2 J k) fin

theorem carried_B (fin : Steps m c t) (hz : ¬t.val % 18 = 0)
    (hs : ∀ (J : Fin 1024) (k : Fin 128), (outsAt0 m c (t.val - 1) (Nat.lt_of_le_of_lt (Nat.sub_le _ _) t.isLt)).2.2 (ix2 J k) = stateAt m c t (t.val % 18) J k)
    (J : Fin 1024) (k : Fin 128) :
    (outsAt0 m c t.val t.isLt).2.2 (ix2 J k) = stateAt m c t (t.val % 18 + 1) J k := by
  rw [outsAt0_B m c t hz]; dsimp only; exact state_B m c t hz (ix2 J k) _ fin hs

/-- The state before a chunk that is not the first is the one the chunk before leaves. -/
theorem stateAt_pred (hz : ¬t.val % 18 = 0) (t' : Fin cfg0.N) (ht : t'.val = t.val - 1) (J : Fin 1024) (k : Fin 128) :
    stateAt m c t' (t'.val % 18 + 1) J k = stateAt m c t (t.val % 18) J k := by
  have e : seqOf t' = seqOf t := Fin.ext (by simp only [seqOf]; omega)
  have e' : t'.val % 18 + 1 = t.val % 18 := by omega
  simp only [stateAt, e, e']

/-- What the scratch holds after each grid point. -/
theorem carried (fin : ∀ t, Steps m c t) : ∀ (n : ℕ) (t : Fin cfg0.N), t.val = n → ∀ (J : Fin 1024) (k : Fin 128),
    (outsAt0 m c t.val t.isLt).2.2 (ix2 J k) = stateAt m c t (t.val % 18 + 1) J k
  | 0, t, h, J, k => carried_A m c t (fin t) (by rw [h]) J k
  | n + 1, t, h, J, k => by
    by_cases hz : t.val % 18 = 0
    · exact carried_A m c t (fin t) hz J k
    · have hn : t.val - 1 < cfg0.N := Nat.lt_of_le_of_lt (Nat.sub_le _ _) t.isLt
      exact carried_B m c t (fin t) hz (fun J k =>
        (carried fin n ⟨t.val - 1, hn⟩ (by simp only; omega) J k).trans (stateAt_pred m c t hz ⟨t.val - 1, hn⟩ rfl J k)) J k

/-- What the point before left. -/
theorem carried_in (fin : ∀ t, Steps m c t) (hz : ¬t.val % 18 = 0) (J : Fin 1024) (k : Fin 128) :
    (outsAt0 m c (t.val - 1) (Nat.lt_of_le_of_lt (Nat.sub_le _ _) t.isLt)).2.2 (ix2 J k) = stateAt m c t (t.val % 18) J k :=
  (carried m c fin _ ⟨t.val - 1, Nat.lt_of_le_of_lt (Nat.sub_le _ _) t.isLt⟩ rfl J k).trans (stateAt_pred m c t hz _ rfl J k)

/-- The outputs are those of the scan. -/
theorem final_out (fin : ∀ t, Steps m c t) (G : S9216x1024.Idx → EReal)
    (hG : ∀ (t : Fin cfg0.N) (l : Fin 128) (J : Fin 1024), G (ix2 (rowOf (seqOf t) (chunkOf t) l) J) = outAt m c t l J) :
    (dats m 0 c).arrAt 5 (cfgs 0).N = G := by
  refine (dats m 0 c).arrAt_eq_of_covers 5 _ (by decide +kernel) fun t hf y => ?_
  have key : outAt m c t (y 0) (y 1) = G (((cfg0.win 5).blk t).view.emb y) := by
    refine (hG t (y 0) (y 1)).symm.trans ?_
    have h := lt_of_lt_of_eq t.isLt N_0
    unfold rowOf seqOf chunkOf
    blk_ext [idx t]
    split <;> rfl
  blk_simp; rw [after0_5]
  by_cases hz : t.val % 18 = 0
  · rw [outsAt0_A m c t hz]; dsimp only; exact (point_5_A m c t hz y (fin t)).trans key
  · rw [outsAt0_B m c t hz]; dsimp only; exact (point_5_B m c t hz y _ (fin t) (carried_in m c t fin hz)).trans key

/-- The saved states are those before each chunk. -/
theorem final_state (fin : ∀ t, Steps m c t) (G : S73728x128.Idx → EReal)
    (hG : ∀ (t : Fin cfg0.N) (J : Fin 1024) (k : Fin 128),
      G (ix2 ⟨t.val * 1024 + J.val, by have h := lt_of_lt_of_eq t.isLt N_0; omega⟩ k) = stateAt m c t (t.val % 18) J k) :
    (dats m 0 c).arrAt 6 (cfgs 0).N = G := by
  refine (dats m 0 c).arrAt_eq_of_covers 6 _ (by decide +kernel) fun t hf y => ?_
  have key : stateAt m c t (t.val % 18) (y 0) (y 1) = G (((cfg0.win 6).blk t).view.emb y) := by
    refine (hG t (y 0) (y 1)).symm.trans ?_
    blk_ext [idx t]
  blk_simp; rw [after0_6]
  by_cases hz : t.val % 18 = 0
  · rw [outsAt0_A m c t hz]; dsimp only; exact (point_6_A m c t hz y).trans key
  · rw [outsAt0_B m c t hz]; dsimp only; exact (point_6_B m c t hz y _ (fin t) (carried_in m c t fin hz)).trans key

end Cert.SsdIdeal.Value
-- ==== Proof.SsdRefIn.lean ====
module

public import proofs.«01_k».proof.Proof.SsdScan
public import proofs.«01_k».proof.Proof.Gen.SsdRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SsdRefIdeal.Read

open Cert.SsdRefIdeal Cert.SsdRefIdeal.Gen
open Cert.SsdIdeal.Value (rowOf headOf colX colB colC stepOf logOf gainOf stateOf outOf running)

/-! The reference's stages, read at sequence `b`, chunk `z`, step `l`, group `g`, head `e` of the
group, feature `p` of the head and state `n`: each is the corresponding part of the scan. -/

section stages

variable (x0 : FVec Ideal S9216x1536 .f32) (x1 : FVec Ideal S9216x128 .f32) (x2 : FVec Ideal S1x128 .f32)
variable (b : Fin 4) (z : Fin 18) (l s : Fin 128) (g : Fin 2) (e : Fin 8) (p : Fin 64) (n : Fin 128)

/-- A step of a chunk as a step of the sequence. -/
def pos (z : Fin 18) (l : Fin 128) : Fin 2304 := ⟨z.val * 128 + l.val, by omega⟩
def hd (g : Fin 2) (e : Fin 8) : Fin 128 := ⟨g.val * 8 + e.val, by omega⟩
def colJ (g : Fin 2) (e : Fin 8) (p : Fin 64) : Fin 1024 := ⟨g.val * 512 + e.val * 64 + p.val, by omega⟩

theorem headOf_colJ : headOf (colJ g e p) = hd g e := Fin.ext (by simp only [headOf, colJ, hd]; omega)

theorem x_seq (q : Fin 1536) : val_main_v4 (F := Ideal) x0 (ix3 b (pos z l) q) = x0 (ix2 (rowOf b z l) q) := by
  pointwise [val_main_v4, val_main_v3, val_main_v2, val_main_v1, val_main_v0]
  by_cases hz : z.val < 2
  · rw [dif_pos (show (pos z l).val < 256 by simp only [pos]; omega)]
    exact congrArg (fun r => x0 (ix2 r q)) (Fin.ext (by simp only [pos, rowOf, if_pos hz]; omega))
  · rw [dif_neg (show ¬(pos z l).val < 256 by simp only [pos]; omega)]
    exact congrArg (fun r => x0 (ix2 r q)) (Fin.ext (by simp only [pos, rowOf, if_neg hz]; omega))

theorem dt_seq (q : Fin 128) : val_main_v13 (F := Ideal) x1 (ix3 b (pos z l) q) = x1 (ix2 (rowOf b z l) q) := by
  pointwise [val_main_v13, val_main_v12, val_main_v11, val_main_v10, val_main_v9]
  by_cases hz : z.val < 2
  · rw [dif_pos (show (pos z l).val < 256 by simp only [pos]; omega)]
    exact congrArg (fun r => x1 (ix2 r q)) (Fin.ext (by simp only [pos, rowOf, if_pos hz]; omega))
  · rw [dif_neg (show ¬(pos z l).val < 256 by simp only [pos]; omega)]
    exact congrArg (fun r => x1 (ix2 r q)) (Fin.ext (by simp only [pos, rowOf, if_neg hz]; omega))

theorem dt_at (k : Fin 16) : val_main_v14 (F := Ideal) x1 (ix3 b (pos z l) k) = x1 (ix2 (rowOf b z l) ⟨k.val, by omega⟩) := by
  pointwise [val_main_v14]
  exact dt_seq x1 b z l ⟨k.val, by omega⟩

theorem v5_at (q : Fin 1024) : val_main_v5 (F := Ideal) x0 (ix3 b (pos z l) q) = x0 (ix2 (rowOf b z l) ⟨q.val, by omega⟩) := by
  pointwise [val_main_v5]
  exact x_seq x0 b z l ⟨q.val, by omega⟩

theorem v6_at (m : Fin 2304) (k : Fin 16) : val_main_v6 (F := Ideal) x0 (ix4 b m k p)
    = val_main_v5 (F := Ideal) x0 (ix3 b m ⟨k.val * 64 + p.val, by omega⟩) := by
  pointwise [val_main_v6]

theorem v19_at (m : Fin 2304) (k : Fin 16) : val_main_v19 (F := Ideal) x1 (ix4 b m k p) = val_main_v14 (F := Ideal) x1 (ix3 b m k) := by
  pointwise [val_main_v19, val_main_v18]

theorem v20_at (k : Fin 16) : val_main_v20 (F := Ideal) x0 x1 (ix4 b (pos z l) k p)
    = x0 (ix2 (rowOf b z l) ⟨k.val * 64 + p.val, by omega⟩) * x1 (ix2 (rowOf b z l) ⟨k.val, by omega⟩) := by
  rw [val_main_v20_apply, v6_at, v5_at, v19_at, dt_at]
  rfl

theorem v21_split : val_main_v21 (F := Ideal) x0 x1 (ix6 b z l g e p)
    = val_main_v20 (F := Ideal) x0 x1 (ix4 b (pos z l) ⟨g.val * 8 + e.val, by omega⟩ p) := by
  pointwise [val_main_v21]
  rfl

theorem colX_colJ : colX (colJ g e p) = ⟨(g.val * 8 + e.val) * 64 + p.val, by omega⟩ := Fin.ext (by simp only [colX, colJ]; omega)

theorem colB_colJ : colB (colJ g e p) n = ⟨1024 + 128 * g.val + n.val, by omega⟩ := Fin.ext (by simp only [colB, colJ]; omega)
theorem colC_colJ : colC (colJ g e p) n = ⟨1280 + 128 * g.val + n.val, by omega⟩ := Fin.ext (by simp only [colC, colJ]; omega)

/-- The discounted input of a step. -/
theorem v21_at : val_main_v21 (F := Ideal) x0 x1 (ix6 b z l g e p)
    = x0 (ix2 (rowOf b z l) (colX (colJ g e p))) * x1 (ix2 (rowOf b z l) (hd g e)) := by
  rw [v21_split, v20_at, colX_colJ]
  rfl

theorem v25_at : val_main_v25 (F := Ideal) x1 x2 (ix5 b z l g e) = stepOf x1 x2 b z (hd g e) l := by
  pointwise [val_main_v25, val_main_v24, val_main_v23, val_main_v22, val_main_v16, val_main_v15]
  exact Ideal.mul_congr (dt_at x1 b z l ⟨g.val * 8 + e.val, by omega⟩) rfl

theorem v26_at : val_main_v26 (F := Ideal) x1 x2 (ix5 b z l g e) = logOf x1 x2 b z (hd g e) l := by
  refine (show _ = Ideal.hostReduceWindowAdd ![1, 1, 128, 1, 1] ![1, 1, 1, 1, 1] ![0, 0, 127, 0, 0] ![0, 0, 0, 0, 0]
    reduceWindows_S4x18x128x2x8_S4x18x128x2x8_w1s1p0_0_w1s1p0_0_w128s1p127_0_w1s1p0_0_w1s1p0_0 (val_main_v25 (F := Ideal) x1 x2)
    (Ideal.ofBits .f32 0x00000000#32) (ix5 b z l g e) from rfl).trans ?_
  rw [show Ideal.ofBits .f32 0x00000000#32 = (0 : EReal) from Ideal.ofBits_zero_f32]
  refine (Cert.SsdIdeal.Value.window_sum _ _ b z l g e).trans ?_
  exact congrArg (fun f => running f l) (funext fun s => v25_at x1 x2 b z s g e)

theorem v27_at : val_main_v27 (F := Ideal) x0 (ix5 b z l g n) = x0 (ix2 (rowOf b z l) ⟨1024 + 128 * g.val + n.val, by omega⟩) := by
  pointwise [val_main_v27, val_main_v7]
  refine (x_seq x0 b z l ⟨1024 + (g.val * 128 + n.val), by omega⟩).trans ?_
  exact congrArg (fun q => x0 (ix2 _ q)) (Fin.ext (by simp only; omega))

theorem v28_at : val_main_v28 (F := Ideal) x0 (ix5 b z l g n) = x0 (ix2 (rowOf b z l) ⟨1280 + 128 * g.val + n.val, by omega⟩) := by
  pointwise [val_main_v28, val_main_v8]
  refine (x_seq x0 b z l ⟨1280 + (g.val * 128 + n.val), by omega⟩).trans ?_
  exact congrArg (fun q => x0 (ix2 _ q)) (Fin.ext (by simp only; omega))

end stages

end Cert.SsdRefIdeal.Read
-- ==== Proof.SsdRefIntra.lean ====
module

public import proofs.«01_k».proof.Proof.SsdRefIn
public import proofs.«01_k».proof.Proof.Gen.SsdRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SsdRefIdeal.Read

open Cert.SsdRefIdeal Cert.SsdRefIdeal.Gen
open Cert.SsdIdeal.Value (rowOf headOf colX colB colC stepOf logOf gainOf stateOf outOf running)

section stages

variable (x0 : FVec Ideal S9216x1536 .f32) (x1 : FVec Ideal S9216x128 .f32) (x2 : FVec Ideal S1x128 .f32)
variable (b : Fin 4) (z : Fin 18) (l s : Fin 128) (g : Fin 2) (e : Fin 8) (p : Fin 64) (n : Fin 128)

/-! Within a chunk: the step to step decays, the scores, and the part of the output that comes from
the chunk itself. -/

theorem v31_at : val_main_v31 (F := Ideal) x1 x2 (ix6 b z l s g e) = val_main_v26 (F := Ideal) x1 x2 (ix5 b z l g e) := by
  pointwise [val_main_v31, val_main_v29]

theorem v32_at : val_main_v32 (F := Ideal) x1 x2 (ix6 b z l s g e) = val_main_v26 (F := Ideal) x1 x2 (ix5 b z s g e) := by
  pointwise [val_main_v32, val_main_v30]

theorem v33_at : val_main_v33 (F := Ideal) x1 x2 (ix6 b z l s g e) = logOf x1 x2 b z (hd g e) l - logOf x1 x2 b z (hd g e) s := by
  rw [val_main_v33_apply, v31_at, v32_at, v26_at, v26_at]
  rfl

theorem order_at : val_main_call2_v1 (F := Ideal) (ix6 b z l s g e) = val_main_v35 (F := Ideal) (ix2 l s) := by
  pointwise [val_main_call2_v1, val_main_v36]

theorem v35_at : val_main_v35 (F := Ideal) (ix2 l s) = if s.val ≤ l.val then 1#1 else 0#1 := by
  pointwise [val_main_v35, val_main_v34, val_main_c, val_main_call1_v4, val_main_call1_v5, val_main_call1_v3, val_main_call1_v2, val_main_call1_v1, val_main_call1_v0, val_main_call1_c, val_main_call1_c_0]
  rw [show IntOp.addi (BitVec.ofNat 32 l.val) 0#32 = BitVec.ofNat 32 l.val from BitVec.add_zero _,
    WordCmp.cmpi_sge_ofNat (by have := l.isLt; omega) (by have := s.isLt; omega)]
  by_cases h : s.val ≤ l.val <;> simp [h, Scalar.select]

theorem fill_at : val_main_call2_v2 (F := Ideal) (ix6 b z l s g e) = ⊥ := by
  pointwise [val_main_call2_v2, val_main_call2_v0, val_main_cst_0]
  show Ideal.ofBits .f32 0xFF800000#32 = ⊥
  simp [Ideal.ofBits, Ideal.ieee]

theorem v38_at : val_main_v38 (F := Ideal) x1 x2 (ix6 b z l s g e)
    = if s.val ≤ l.val then Ideal.exp (logOf x1 x2 b z (hd g e) l - logOf x1 x2 b z (hd g e) s) else 0 := by
  rw [val_main_v38_apply, val_main_v37_apply, order_at, v35_at, v33_at, fill_at]
  by_cases h : s.val ≤ l.val
  · rw [if_pos h, if_pos h]; rfl
  · rw [if_neg h, if_neg h]; exact Ideal.exp_bot

theorem v39_at : val_main_v39 (F := Ideal) x0 (ix5 b z g s l)
    = ∑ n : Fin 128, val_main_v27 (F := Ideal) x0 (ix5 b z s g n) * val_main_v28 (F := Ideal) x0 (ix5 b z l g n) := by
  pointwise [val_main_v39]

theorem v42_at : val_main_v42 (F := Ideal) x0 (ix6 b z l s g e) = val_main_v39 (F := Ideal) x0 (ix5 b z g s l) := by
  pointwise [val_main_v42, val_main_v41, val_main_v40]

theorem v44_at : val_main_v44 (F := Ideal) x0 x1 x2 (ix6 b z g e p l)
    = ∑ s : Fin 128, val_main_v21 (F := Ideal) x0 x1 (ix6 b z s g e p) * val_main_v43 (F := Ideal) x0 x1 x2 (ix6 b z l s g e) := by
  pointwise [val_main_v44]

theorem v45_at : val_main_v45 (F := Ideal) x0 x1 x2 (ix6 b z l g e p) = val_main_v44 (F := Ideal) x0 x1 x2 (ix6 b z g e p l) := by
  pointwise [val_main_v45]

theorem v43_at : val_main_v43 (F := Ideal) x0 x1 x2 (ix6 b z l s g e)
    = (∑ n : Fin 128, x0 (ix2 (rowOf b z s) ⟨1024 + 128 * g.val + n.val, by omega⟩) * x0 (ix2 (rowOf b z l) ⟨1280 + 128 * g.val + n.val, by omega⟩))
      * (if s.val ≤ l.val then Ideal.exp (logOf x1 x2 b z (hd g e) l - logOf x1 x2 b z (hd g e) s) else 0) := by
  rw [val_main_v43_apply, v42_at, v38_at, v39_at]
  simp only [v27_at, v28_at]
  rfl

theorem within_at : val_main_v45 (F := Ideal) x0 x1 x2 (ix6 b z l g e p)
    = ∑ s : Fin 128, (∑ n : Fin 128, x0 (ix2 (rowOf b z l) (colC (colJ g e p) n)) * x0 (ix2 (rowOf b z s) (colB (colJ g e p) n)))
      * (if s.val ≤ l.val then Ideal.exp (logOf x1 x2 b z (headOf (colJ g e p)) l - logOf x1 x2 b z (headOf (colJ g e p)) s) else 0)
      * (x0 (ix2 (rowOf b z s) (colX (colJ g e p))) * x1 (ix2 (rowOf b z s) (headOf (colJ g e p)))) := by
  rw [v45_at, v44_at]
  refine Finset.sum_congr rfl fun s _ => ?_
  rw [v21_at, v43_at, headOf_colJ, mul_comm]
  refine congrArg (fun t : EReal => t * _ * _) (Finset.sum_congr rfl fun n _ => ?_)
  rw [colB_colJ, colC_colJ, mul_comm]

end stages

end Cert.SsdRefIdeal.Read
-- ==== Proof.SsdRefState.lean ====
module

public import proofs.«01_k».proof.Proof.SsdRefIn
public import proofs.«01_k».proof.Proof.Gen.SsdRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SsdRefIdeal.Read

open Cert.SsdRefIdeal Cert.SsdRefIdeal.Gen
open Cert.SsdIdeal.Value (rowOf headOf colX colB colC stepOf logOf gainOf stateOf outOf running)

section stages

variable (x0 : FVec Ideal S9216x1536 .f32) (x1 : FVec Ideal S9216x128 .f32) (x2 : FVec Ideal S1x128 .f32)
variable (b : Fin 4) (z : Fin 18) (l s : Fin 128) (g : Fin 2) (e : Fin 8) (p : Fin 64) (n : Fin 128)

/-! Across chunks: what each chunk adds to the state, and the states entering the chunks. -/

theorem v51_at : val_main_v51 (F := Ideal) x1 x2 (ix6 b z l g e p) = val_main_v49 (F := Ideal) x1 x2 (ix5 b z l g e) := by
  pointwise [val_main_v51, val_main_v50]

theorem v47_at : val_main_v47 (F := Ideal) x1 x2 (ix5 b z l g e) = val_main_v26 (F := Ideal) x1 x2 (ix5 b z 127 g e) := by
  pointwise [val_main_v47, val_main_v46]

theorem v49_at : val_main_v49 (F := Ideal) x1 x2 (ix5 b z l g e) = Ideal.exp (logOf x1 x2 b z (hd g e) 127 - logOf x1 x2 b z (hd g e) l) := by
  rw [val_main_v49_apply, val_main_v48_apply, v47_at, v26_at, v26_at]
  rfl

theorem v52_at : val_main_v52 (F := Ideal) x0 x1 x2 (ix6 b z l g e p)
    = x0 (ix2 (rowOf b z l) (colX (colJ g e p))) * x1 (ix2 (rowOf b z l) (hd g e)) * Ideal.exp (logOf x1 x2 b z (hd g e) 127 - logOf x1 x2 b z (hd g e) l) := by
  rw [val_main_v52_apply, v21_at, v51_at, v49_at]
  rfl

theorem v53_at : val_main_v53 (F := Ideal) x0 x1 x2 (ix6 b z g e p n)
    = ∑ l : Fin 128, val_main_v52 (F := Ideal) x0 x1 x2 (ix6 b z l g e p) * val_main_v27 (F := Ideal) x0 (ix5 b z l g n) := by
  pointwise [val_main_v53]

theorem v57_at : val_main_v57 (F := Ideal) x0 x1 x2 (ix6 z b g e p n) = val_main_v53 (F := Ideal) x0 x1 x2 (ix6 b z g e p n) := by
  pointwise [val_main_v57]

theorem gain_at : val_main_v57 (F := Ideal) x0 x1 x2 (ix6 z b g e p n) = gainOf x0 x1 x2 b z (colJ g e p) n := by
  rw [v57_at, v53_at]
  refine Finset.sum_congr rfl fun l _ => ?_
  rw [v52_at, v27_at, headOf_colJ, colB_colJ]

theorem v55_at : val_main_v55 (F := Ideal) x1 x2 (ix4 b z g e) = val_main_v26 (F := Ideal) x1 x2 (ix5 b z 127 g e) := by
  pointwise [val_main_v55, val_main_v54]

theorem v60_at : val_main_v60 (F := Ideal) x1 x2 (ix6 z b g e p n) = val_main_v56 (F := Ideal) x1 x2 (ix4 b z g e) := by
  pointwise [val_main_v60, val_main_v59, val_main_v58]

theorem decay_at : val_main_v60 (F := Ideal) x1 x2 (ix6 z b g e p n) = Ideal.exp (logOf x1 x2 b z (headOf (colJ g e p)) 127) := by
  rw [v60_at, val_main_v56_apply, v55_at, v26_at, headOf_colJ]
  rfl

theorem start_at : val_main_v17 (F := Ideal) (ix6 0 b g e p n) = 0 := by
  pointwise [val_main_v17, val_main_cst]

theorem slice_at (y : FVec Ideal S18x4x2x8x64x128 .f32) (k : ℕ) (hk : k < 18) (h : S18x4x2x8x64x128.Slices ![k, 0, 0, 0, 0, 0] S1x4x2x8x64x128) :
    extractStridedSlice S1x4x2x8x64x128 ![k, 0, 0, 0, 0, 0] y h (ix6 0 b g e p n) = y (ix6 ⟨k, hk⟩ b g e p n) :=
  extractStridedSlice_apply _ y h _ _ fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm
    | ⟨5, _⟩ => (Nat.zero_add _).symm

/-- One chunk of the recurrence. -/
theorem next_at (k : ℕ) (hk : k < 18) (u d w : EReal) (hu : u = stateOf x0 x1 x2 b k (colJ g e p) n)
    (hd : d = val_main_v60 (F := Ideal) x1 x2 (ix6 ⟨k, hk⟩ b g e p n)) (hw : w = val_main_v57 (F := Ideal) x0 x1 x2 (ix6 ⟨k, hk⟩ b g e p n)) :
    FloatOps.addf (F := Ideal) (φ := .f32) (FloatOps.mulf (F := Ideal) (φ := .f32) u d) w = stateOf x0 x1 x2 b (k + 1) (colJ g e p) n := by
  have h : (⟨k % 18, Nat.mod_lt _ (by decide)⟩ : Fin 18) = ⟨k, hk⟩ := Fin.ext (Nat.mod_eq_of_lt hk)
  rw [hu, hd, hw, gain_at, decay_at, stateOf, h]
  rfl

theorem state1_at : val_main_v64 (F := Ideal) x0 x1 x2 (ix6 0 b g e p n) = stateOf x0 x1 x2 b 1 (colJ g e p) n := by
  rw [val_main_v64_apply, val_main_v62_apply, val_main_v61, val_main_v63, slice_at b g e p n _ 0 (by decide), slice_at b g e p n _ 0 (by decide)]
  exact next_at x0 x1 x2 b g e p n 0 _ _ _ _ (start_at b g e p n) rfl rfl

theorem state2_at : val_main_v68 (F := Ideal) x0 x1 x2 (ix6 0 b g e p n) = stateOf x0 x1 x2 b 2 (colJ g e p) n := by
  rw [val_main_v68_apply, val_main_v66_apply, val_main_v65, val_main_v67, slice_at b g e p n _ 1 (by decide), slice_at b g e p n _ 1 (by decide)]
  exact next_at x0 x1 x2 b g e p n 1 _ _ _ _ (state1_at x0 x1 x2 b g e p n) rfl rfl

theorem state3_at : val_main_v72 (F := Ideal) x0 x1 x2 (ix6 0 b g e p n) = stateOf x0 x1 x2 b 3 (colJ g e p) n := by
  rw [val_main_v72_apply, val_main_v70_apply, val_main_v69, val_main_v71, slice_at b g e p n _ 2 (by decide), slice_at b g e p n _ 2 (by decide)]
  exact next_at x0 x1 x2 b g e p n 2 _ _ _ _ (state2_at x0 x1 x2 b g e p n) rfl rfl

theorem state4_at : val_main_v76 (F := Ideal) x0 x1 x2 (ix6 0 b g e p n) = stateOf x0 x1 x2 b 4 (colJ g e p) n := by
  rw [val_main_v76_apply, val_main_v74_apply, val_main_v73, val_main_v75, slice_at b g e p n _ 3 (by decide), slice_at b g e p n _ 3 (by decide)]
  exact next_at x0 x1 x2 b g e p n 3 _ _ _ _ (state3_at x0 x1 x2 b g e p n) rfl rfl

theorem state5_at : val_main_v80 (F := Ideal) x0 x1 x2 (ix6 0 b g e p n) = stateOf x0 x1 x2 b 5 (colJ g e p) n := by
  rw [val_main_v80_apply, val_main_v78_apply, val_main_v77, val_main_v79, slice_at b g e p n _ 4 (by decide), slice_at b g e p n _ 4 (by decide)]
  exact next_at x0 x1 x2 b g e p n 4 _ _ _ _ (state4_at x0 x1 x2 b g e p n) rfl rfl

theorem state6_at : val_main_v84 (F := Ideal) x0 x1 x2 (ix6 0 b g e p n) = stateOf x0 x1 x2 b 6 (colJ g e p) n := by
  rw [val_main_v84_apply, val_main_v82_apply, val_main_v81, val_main_v83, slice_at b g e p n _ 5 (by decide), slice_at b g e p n _ 5 (by decide)]
  exact next_at x0 x1 x2 b g e p n 5 _ _ _ _ (state5_at x0 x1 x2 b g e p n) rfl rfl

theorem state7_at : val_main_v88 (F := Ideal) x0 x1 x2 (ix6 0 b g e p n) = stateOf x0 x1 x2 b 7 (colJ g e p) n := by
  rw [val_main_v88_apply, val_main_v86_apply, val_main_v85, val_main_v87, slice_at b g e p n _ 6 (by decide), slice_at b g e p n _ 6 (by decide)]
  exact next_at x0 x1 x2 b g e p n 6 _ _ _ _ (state6_at x0 x1 x2 b g e p n) rfl rfl

theorem state8_at : val_main_v92 (F := Ideal) x0 x1 x2 (ix6 0 b g e p n) = stateOf x0 x1 x2 b 8 (colJ g e p) n := by
  rw [val_main_v92_apply, val_main_v90_apply, val_main_v89, val_main_v91, slice_at b g e p n _ 7 (by decide), slice_at b g e p n _ 7 (by decide)]
  exact next_at x0 x1 x2 b g e p n 7 _ _ _ _ (state7_at x0 x1 x2 b g e p n) rfl rfl

theorem state9_at : val_main_v96 (F := Ideal) x0 x1 x2 (ix6 0 b g e p n) = stateOf x0 x1 x2 b 9 (colJ g e p) n := by
  rw [val_main_v96_apply, val_main_v94_apply, val_main_v93, val_main_v95, slice_at b g e p n _ 8 (by decide), slice_at b g e p n _ 8 (by decide)]
  exact next_at x0 x1 x2 b g e p n 8 _ _ _ _ (state8_at x0 x1 x2 b g e p n) rfl rfl

theorem state10_at : val_main_v100 (F := Ideal) x0 x1 x2 (ix6 0 b g e p n) = stateOf x0 x1 x2 b 10 (colJ g e p) n := by
  rw [val_main_v100_apply, val_main_v98_apply, val_main_v97, val_main_v99, slice_at b g e p n _ 9 (by decide), slice_at b g e p n _ 9 (by decide)]
  exact next_at x0 x1 x2 b g e p n 9 _ _ _ _ (state9_at x0 x1 x2 b g e p n) rfl rfl

theorem state11_at : val_main_v104 (F := Ideal) x0 x1 x2 (ix6 0 b g e p n) = stateOf x0 x1 x2 b 11 (colJ g e p) n := by
  rw [val_main_v104_apply, val_main_v102_apply, val_main_v101, val_main_v103, slice_at b g e p n _ 10 (by decide), slice_at b g e p n _ 10 (by decide)]
  exact next_at x0 x1 x2 b g e p n 10 _ _ _ _ (state10_at x0 x1 x2 b g e p n) rfl rfl

theorem state12_at : val_main_v108 (F := Ideal) x0 x1 x2 (ix6 0 b g e p n) = stateOf x0 x1 x2 b 12 (colJ g e p) n := by
  rw [val_main_v108_apply, val_main_v106_apply, val_main_v105, val_main_v107, slice_at b g e p n _ 11 (by decide), slice_at b g e p n _ 11 (by decide)]
  exact next_at x0 x1 x2 b g e p n 11 _ _ _ _ (state11_at x0 x1 x2 b g e p n) rfl rfl

theorem state13_at : val_main_v112 (F := Ideal) x0 x1 x2 (ix6 0 b g e p n) = stateOf x0 x1 x2 b 13 (colJ g e p) n := by
  rw [val_main_v112_apply, val_main_v110_apply, val_main_v109, val_main_v111, slice_at b g e p n _ 12 (by decide), slice_at b g e p n _ 12 (by decide)]
  exact next_at x0 x1 x2 b g e p n 12 _ _ _ _ (state12_at x0 x1 x2 b g e p n) rfl rfl

theorem state14_at : val_main_v116 (F := Ideal) x0 x1 x2 (ix6 0 b g e p n) = stateOf x0 x1 x2 b 14 (colJ g e p) n := by
  rw [val_main_v116_apply, val_main_v114_apply, val_main_v113, val_main_v115, slice_at b g e p n _ 13 (by decide), slice_at b g e p n _ 13 (by decide)]
  exact next_at x0 x1 x2 b g e p n 13 _ _ _ _ (state13_at x0 x1 x2 b g e p n) rfl rfl

theorem state15_at : val_main_v120 (F := Ideal) x0 x1 x2 (ix6 0 b g e p n) = stateOf x0 x1 x2 b 15 (colJ g e p) n := by
  rw [val_main_v120_apply, val_main_v118_apply, val_main_v117, val_main_v119, slice_at b g e p n _ 14 (by decide), slice_at b g e p n _ 14 (by decide)]
  exact next_at x0 x1 x2 b g e p n 14 _ _ _ _ (state14_at x0 x1 x2 b g e p n) rfl rfl

theorem state16_at : val_main_v124 (F := Ideal) x0 x1 x2 (ix6 0 b g e p n) = stateOf x0 x1 x2 b 16 (colJ g e p) n := by
  rw [val_main_v124_apply, val_main_v122_apply, val_main_v121, val_main_v123, slice_at b g e p n _ 15 (by decide), slice_at b g e p n _ 15 (by decide)]
  exact next_at x0 x1 x2 b g e p n 15 _ _ _ _ (state15_at x0 x1 x2 b g e p n) rfl rfl

theorem state17_at : val_main_v128 (F := Ideal) x0 x1 x2 (ix6 0 b g e p n) = stateOf x0 x1 x2 b 17 (colJ g e p) n := by
  rw [val_main_v128_apply, val_main_v126_apply, val_main_v125, val_main_v127, slice_at b g e p n _ 16 (by decide), slice_at b g e p n _ 16 (by decide)]
  exact next_at x0 x1 x2 b g e p n 16 _ _ _ _ (state16_at x0 x1 x2 b g e p n) rfl rfl

end stages

end Cert.SsdRefIdeal.Read
-- ==== Proof.SsdRefCat.lean ====
module

public import proofs.«01_k».proof.Proof.SsdRefState
public import proofs.«01_k».proof.Proof.Gen.SsdRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SsdRefIdeal.Read

open Cert.SsdRefIdeal Cert.SsdRefIdeal.Gen
open Cert.SsdIdeal.Value (rowOf headOf colX colB colC stepOf logOf gainOf stateOf outOf running)

section stages

variable (x0 : FVec Ideal S9216x1536 .f32) (x1 : FVec Ideal S9216x128 .f32) (x2 : FVec Ideal S1x128 .f32)
variable (b : Fin 4) (z : Fin 18) (l s : Fin 128) (g : Fin 2) (e : Fin 8) (p : Fin 64) (n : Fin 128)

/-- A piece of a stack: where the first coordinate names it, the stack holds its value. -/
theorem piece_at (H : ℕ → EReal) (k : Fin 16) (c : ℕ) (u : FVec Ideal S1x4x2x8x64x128 .f32) (hu : u (ix6 0 b g e p n) = H c) :
    PieceAt (t := S16x4x2x8x64x128) 0 (ix6 k b g e p n) (H k.val) S1x4x2x8x64x128 u c := fun hc hr i h0 hi => by
  have e : i = ix6 0 b g e p n := funext fun a => match a with
    | ⟨0, _⟩ => Fin.ext h0
    | ⟨1, _⟩ => Fin.ext (hi 1 (by decide))
    | ⟨2, _⟩ => Fin.ext (hi 2 (by decide))
    | ⟨3, _⟩ => Fin.ext (hi 3 (by decide))
    | ⟨4, _⟩ => Fin.ext (hi 4 (by decide))
    | ⟨5, _⟩ => Fin.ext (hi 5 (by decide))
  rw [e, hu, show k.val = c from hc]

/-- Sixteen arrays stacked along a new first axis. -/
theorem stack_at (H : ℕ → EReal) (u0 u1 u2 u3 u4 u5 u6 u7 u8 u9 u10 u11 u12 u13 u14 u15 : FVec Ideal S1x4x2x8x64x128 .f32)
    (h0 : u0 (ix6 0 b g e p n) = H 0)
    (h1 : u1 (ix6 0 b g e p n) = H 1)
    (h2 : u2 (ix6 0 b g e p n) = H 2)
    (h3 : u3 (ix6 0 b g e p n) = H 3)
    (h4 : u4 (ix6 0 b g e p n) = H 4)
    (h5 : u5 (ix6 0 b g e p n) = H 5)
    (h6 : u6 (ix6 0 b g e p n) = H 6)
    (h7 : u7 (ix6 0 b g e p n) = H 7)
    (h8 : u8 (ix6 0 b g e p n) = H 8)
    (h9 : u9 (ix6 0 b g e p n) = H 9)
    (h10 : u10 (ix6 0 b g e p n) = H 10)
    (h11 : u11 (ix6 0 b g e p n) = H 11)
    (h12 : u12 (ix6 0 b g e p n) = H 12)
    (h13 : u13 (ix6 0 b g e p n) = H 13)
    (h14 : u14 (ix6 0 b g e p n) = H 14)
    (h15 : u15 (ix6 0 b g e p n) = H 15) (k : Fin 16) :
    concatenate S16x4x2x8x64x128 0 [⟨S1x4x2x8x64x128, u0⟩, ⟨S1x4x2x8x64x128, u1⟩, ⟨S1x4x2x8x64x128, u2⟩, ⟨S1x4x2x8x64x128, u3⟩, ⟨S1x4x2x8x64x128, u4⟩, ⟨S1x4x2x8x64x128, u5⟩, ⟨S1x4x2x8x64x128, u6⟩, ⟨S1x4x2x8x64x128, u7⟩, ⟨S1x4x2x8x64x128, u8⟩, ⟨S1x4x2x8x64x128, u9⟩, ⟨S1x4x2x8x64x128, u10⟩, ⟨S1x4x2x8x64x128, u11⟩, ⟨S1x4x2x8x64x128, u12⟩, ⟨S1x4x2x8x64x128, u13⟩, ⟨S1x4x2x8x64x128, u14⟩, ⟨S1x4x2x8x64x128, u15⟩] concatenates_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S1x4x2x8x64x128_S16x4x2x8x64x128_d0 (ix6 k b g e p n) = H k.val := by
  exact concatenate_unit_eq 0 _ _ _ _ rfl ⟨piece_at b g e p n H k 0 u0 h0, piece_at b g e p n H k 1 u1 h1, piece_at b g e p n H k 2 u2 h2, piece_at b g e p n H k 3 u3 h3, piece_at b g e p n H k 4 u4 h4, piece_at b g e p n H k 5 u5 h5, piece_at b g e p n H k 6 u6 h6, piece_at b g e p n H k 7 u7 h7, piece_at b g e p n H k 8 u8 h8, piece_at b g e p n H k 9 u9 h9, piece_at b g e p n H k 10 u10 h10, piece_at b g e p n H k 11 u11 h11, piece_at b g e p n H k 12 u12 h12, piece_at b g e p n H k 13 u13 h13, piece_at b g e p n H k 14 u14 h14, piece_at b g e p n H k 15 u15 h15, trivial⟩

theorem v129_at (k : Fin 16) : val_main_v129 (F := Ideal) x0 x1 x2 (ix6 k b g e p n) = stateOf x0 x1 x2 b k.val (colJ g e p) n := by
  unfold val_main_v129
  exact stack_at b g e p n (fun z => stateOf x0 x1 x2 b z (colJ g e p) n) _ _ _ _ _ _ _ _ _ _ _ _ _ _ _ _ (start_at b g e p n) (state1_at x0 x1 x2 b g e p n) (state2_at x0 x1 x2 b g e p n) (state3_at x0 x1 x2 b g e p n) (state4_at x0 x1 x2 b g e p n) (state5_at x0 x1 x2 b g e p n) (state6_at x0 x1 x2 b g e p n) (state7_at x0 x1 x2 b g e p n) (state8_at x0 x1 x2 b g e p n) (state9_at x0 x1 x2 b g e p n) (state10_at x0 x1 x2 b g e p n) (state11_at x0 x1 x2 b g e p n) (state12_at x0 x1 x2 b g e p n) (state13_at x0 x1 x2 b g e p n) (state14_at x0 x1 x2 b g e p n) (state15_at x0 x1 x2 b g e p n) k

theorem v130_at (k : Fin 2) : val_main_v130 (F := Ideal) x0 x1 x2 (ix6 k b g e p n) = stateOf x0 x1 x2 b (16 + k.val) (colJ g e p) n := by
  pointwise [val_main_v130]
  fin_vals k with hk
  · simp only [hk, Nat.reduceLT, ↓reduceDIte]
    exact state16_at x0 x1 x2 b g e p n
  · simp only [hk, Nat.reduceSub, Nat.reduceLT, ↓reduceDIte]
    exact state17_at x0 x1 x2 b g e p n

/-- The states entering the chunks, as the reference stacks them. -/
theorem v131_at : val_main_v131 (F := Ideal) x0 x1 x2 (ix6 z b g e p n) = stateOf x0 x1 x2 b z.val (colJ g e p) n := by
  pointwise [val_main_v131]
  by_cases h : z.val < 16
  · rw [dif_pos h]
    exact v129_at x0 x1 x2 b g e p n ⟨z.val, h⟩
  · rw [dif_neg h]
    refine (v130_at x0 x1 x2 b g e p n ⟨z.val - 16, by omega⟩).trans ?_
    rw [show 16 + (z.val - 16) = z.val by omega]

end stages

end Cert.SsdRefIdeal.Read
-- ==== Proof.SsdRef.lean ====
module

public import proofs.«01_k».proof.Proof.SsdRefIntra
public import proofs.«01_k».proof.Proof.SsdRefCat
public import proofs.«01_k».proof.Proof.Gen.SsdRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SsdRefIdeal.Read

open Cert.SsdRefIdeal Cert.SsdRefIdeal.Gen
open Cert.SsdIdeal.Value (rowOf headOf colX colB colC stepOf logOf gainOf stateOf outOf running)

section stages

variable (x0 : FVec Ideal S9216x1536 .f32) (x1 : FVec Ideal S9216x128 .f32) (x2 : FVec Ideal S1x128 .f32)
variable (b : Fin 4) (z : Fin 18) (l s : Fin 128) (g : Fin 2) (e : Fin 8) (p : Fin 64) (n : Fin 128)

/-! The outputs: what a chunk's steps take from the state, the two parts together, and the layout of
the results. -/

theorem v132_at : val_main_v132 (F := Ideal) x0 x1 x2 (ix6 b z g e p l)
    = ∑ n : Fin 128, val_main_v131 (F := Ideal) x0 x1 x2 (ix6 z b g e p n) * val_main_v28 (F := Ideal) x0 (ix5 b z l g n) := by
  pointwise [val_main_v132]

theorem v133_at : val_main_v133 (F := Ideal) x0 x1 x2 (ix6 b z l g e p) = val_main_v132 (F := Ideal) x0 x1 x2 (ix6 b z g e p l) := by
  pointwise [val_main_v133]

theorem v136_at : val_main_v136 (F := Ideal) x1 x2 (ix6 b z l g e p) = val_main_v134 (F := Ideal) x1 x2 (ix5 b z l g e) := by
  pointwise [val_main_v136, val_main_v135]

theorem v134_at : val_main_v134 (F := Ideal) x1 x2 (ix5 b z l g e) = Ideal.exp (logOf x1 x2 b z (hd g e) l) := by
  rw [val_main_v134_apply, v26_at]
  rfl

theorem v139_at : val_main_v139 (F := Ideal) x0 x1 x2 (ix3 b (pos z l) (colJ g e p)) = val_main_v138 (F := Ideal) x0 x1 x2 (ix6 b z l g e p) := by
  unfold val_main_v139
  generalize val_main_v138 (F := Ideal) x0 x1 x2 = y
  exact shapeCast_apply y _ (ix3 b (pos z l) (colJ g e p)) (ix6 b z l g e p) (by
    rw [Shape.rowMajor_val_three, Shape.rowMajor_val_six]
    show ((((b.val * 18 + z.val) * 128 + l.val) * 2 + g.val) * 8 + e.val) * 64 + p.val = (b.val * 2304 + (z.val * 128 + l.val)) * 1024 + (g.val * 512 + e.val * 64 + p.val)
    omega)

theorem v141_at (r : Fin 2048) (J : Fin 1024) : val_main_v141 (F := Ideal) x0 x1 x2 (ix2 ⟨b.val * 2048 + r.val, by omega⟩ J)
    = val_main_v139 (F := Ideal) x0 x1 x2 (ix3 b ⟨256 + r.val, by omega⟩ J) := by
  pointwise [val_main_v141, val_main_v140]

theorem v143_at (r : Fin 256) (J : Fin 1024) : val_main_v143 (F := Ideal) x0 x1 x2 (ix2 ⟨b.val * 256 + r.val, by omega⟩ J)
    = val_main_v139 (F := Ideal) x0 x1 x2 (ix3 b ⟨r.val, by omega⟩ J) := by
  pointwise [val_main_v143, val_main_v142]

theorem v144_cat (r : Fin 9216) (J : Fin 1024) : val_main_v144 (F := Ideal) x0 x1 x2 (ix2 r J)
    = if h : r.val < 8192 then val_main_v141 (F := Ideal) x0 x1 x2 (ix2 ⟨r.val, h⟩ J) else val_main_v143 (F := Ideal) x0 x1 x2 (ix2 ⟨r.val - 8192, by omega⟩ J) := by
  pointwise [val_main_v144]

theorem v145_at : val_main_v145 (F := Ideal) x0 x1 x2 (ix6 b z g e p n) = val_main_v131 (F := Ideal) x0 x1 x2 (ix6 z b g e p n) := by
  pointwise [val_main_v145]

theorem v146_at : val_main_v146 (F := Ideal) x0 x1 x2 (ix2 ⟨(b.val * 18 + z.val) * 1024 + (colJ g e p).val, by omega⟩ n)
    = val_main_v145 (F := Ideal) x0 x1 x2 (ix6 b z g e p n) := by
  unfold val_main_v146
  generalize val_main_v145 (F := Ideal) x0 x1 x2 = y
  exact shapeCast_apply y _ _ (ix6 b z g e p n) (by
    rw [Shape.rowMajor_val_two, Shape.rowMajor_val_six]
    show ((((b.val * 18 + z.val) * 2 + g.val) * 8 + e.val) * 64 + p.val) * 128 + n.val = ((b.val * 18 + z.val) * 1024 + (g.val * 512 + e.val * 64 + p.val)) * 128 + n.val
    omega)

/-- An output of the chunked scan. -/
theorem out_at : val_main_v138 (F := Ideal) x0 x1 x2 (ix6 b z l g e p) = outOf x0 x1 x2 b z l (colJ g e p) := by
  have h : val_main_v132 (F := Ideal) x0 x1 x2 (ix6 b z g e p l)
      = ∑ n : Fin 128, x0 (ix2 (rowOf b z l) (colC (colJ g e p) n)) * stateOf x0 x1 x2 b z.val (colJ g e p) n := by
    rw [v132_at]
    refine Finset.sum_congr rfl fun n _ => ?_
    rw [v131_at, v28_at, colC_colJ, mul_comm]
  rw [val_main_v138_apply, within_at, val_main_v137_apply, v133_at, h, v136_at, v134_at, outOf, headOf_colJ]
  rfl

theorem colJ_split (J : Fin 1024) : J = colJ ⟨J.val / 512, by omega⟩ ⟨J.val % 512 / 64, by omega⟩ ⟨J.val % 64, by omega⟩ :=
  Fin.ext (by simp only [colJ]; omega)

theorem v139_out (J : Fin 1024) : val_main_v139 (F := Ideal) x0 x1 x2 (ix3 b (pos z l) J) = outOf x0 x1 x2 b z l J := by
  rw [colJ_split J, v139_at, out_at]

/-- The reference's outputs, row by row. -/
theorem y_at (J : Fin 1024) : val_main_v144 (F := Ideal) x0 x1 x2 (ix2 (rowOf b z l) J) = outOf x0 x1 x2 b z l J := by
  rw [v144_cat]
  by_cases hz : z.val < 2
  · rw [dif_neg (show ¬(rowOf b z l).val < 8192 by simp only [rowOf, if_pos hz]; omega)]
    refine (congrArg (fun r => val_main_v143 (F := Ideal) x0 x1 x2 (ix2 r J)) (Fin.ext ?_)).trans
      ((v143_at x0 x1 x2 b ⟨(pos z l).val, by simp only [pos]; omega⟩ J).trans (v139_out x0 x1 x2 b z l J))
    simp only [rowOf, if_pos hz, pos]; omega
  · rw [dif_pos (show (rowOf b z l).val < 8192 by simp only [rowOf, if_neg hz]; omega)]
    refine (congrArg (fun r => val_main_v141 (F := Ideal) x0 x1 x2 (ix2 r J)) (Fin.ext ?_)).trans
      ((v141_at x0 x1 x2 b ⟨(pos z l).val - 256, by simp only [pos]; omega⟩ J).trans
        ((congrArg (fun r => val_main_v139 (F := Ideal) x0 x1 x2 (ix3 b r J)) (Fin.ext ?_)).trans (v139_out x0 x1 x2 b z l J)))
    · simp only [rowOf, if_neg hz, pos]; omega
    · simp only [pos]; omega

/-- The reference's saved states. -/
theorem saved_at (J : Fin 1024) : val_main_v146 (F := Ideal) x0 x1 x2 (ix2 ⟨(b.val * 18 + z.val) * 1024 + J.val, by omega⟩ n)
    = stateOf x0 x1 x2 b z.val J n := by
  rw [colJ_split J]
  exact (v146_at x0 x1 x2 b z _ _ _ n).trans ((v145_at x0 x1 x2 b z _ _ _ n).trans (v131_at x0 x1 x2 b z _ _ _ n))

end stages

end Cert.SsdRefIdeal.Read
-- ==== Proof.SsdClaim.lean ====
module

public import proofs.«01_k».proof.Defs
public import proofs.«01_k».proof.Proof.SsdValue
public import proofs.«01_k».proof.Proof.SsdRef
public import proofs.«01_k».proof.Proof.Gen.SsdIdeal.Value
public import proofs.«01_k».proof.Proof.Gen.SsdRefIdeal.Run
public import proofs.«01_k».proof.Proof.Gen.SsdRefIdeal.Read
public import proofs.«01_k».proof.Proof.Gen.Pre_finite_steps

@[expose] public section

set_option maxRecDepth 16384

noncomputable section

open Idealize.ShloMosaic Idealize.ShloMosaic.TcCoe Idealize.SL.Sem

namespace Cert.SsdIdeal.Value

open Cert.SsdIdeal Cert.SsdIdeal.Gen
open Cert.SsdRefIdeal.Read (val_main_v144 val_main_v146 val_main_v144_eq val_main_v146_eq y_at saved_at)

/-- A finite number less itself is zero. -/
theorem sub_self_of_abs_lt (v : EReal) (h : v ⊔ -v < ⊤) : v - v = 0 := by
  have h1 : v ≠ ⊤ := fun e => absurd (e ▸ le_sup_left : v ≤ v ⊔ -v) (by rw [e] at h; simp at h)
  have h2 : v ≠ ⊥ := fun e => by rw [e] at h; simp at h
  exact EReal.sub_self h1 h2

/-- A comparison of a magnitude with infinity that came out true. -/
theorem lt_of_word (v : EReal) (h : BitVec.ofBool (decide (v ⊔ -v < ⊤)) = 1#1) : v ⊔ -v < ⊤ := by
  by_contra hn
  simp [hn] at h

/-- The precondition: every log decay is finite. -/
theorem steps_finite (m : (ℓ : Loc nD τ sig) → Buf (Elt Ideal) ℓ) (c : Dev nD)
    (hpre : Cert.Pre_SsdIdeal_finite_steps (hPre_finite_steps := Cert.Pre_finite_steps.Gen.facts) m) (t : Fin cfg0.N) : Steps m c t := by
  intro k hk s
  have h := congrFun (hpre c) (ix2 (rowOf (seqOf t) (chunkOf t) s) ⟨k.val, hk⟩)
  unfold Cert.Pre_finite_steps.fn at h
  pointwise at h
  rw [show Ideal.ofBits .f32 0x7F800000#32 = (⊤ : EReal) by simp [Ideal.ofBits, Ideal.ieee]] at h
  exact sub_self_of_abs_lt _ (lt_of_word _ h)

/-- A function of equal arguments. -/
theorem agree3 {A B C D : Type} (f : A → B → C → D) {x x' : A} {y y' : B} {z z' : C} (h0 : x = x') (h1 : y = y') (h2 : z = z') :
    f x y z = f x' y' z' := by rw [h0, h1, h2]

/-- The state-space scan: the outputs and the saved states are the reference's. -/
theorem algebraic :
    Cert.algebraic_SsdIdeal_SsdRefIdeal_pre_finite_steps (hSsdIdeal := Cert.SsdIdeal.Gen.facts) (hSsdRefIdeal := Cert.SsdRefIdeal.Gen.facts)
      (hPre_finite_steps := Cert.Pre_finite_steps.Gen.facts) := by
  intro m g m' g' hpre hagree
  refine ⟨fun c => val_main_v144 (F := Ideal) (m ((c : Thread nD τ).loc main_arg0)) (m ((c : Thread nD τ).loc main_arg1)) (m ((c : Thread nD τ).loc main_arg2)),
    fun c => val_main_v146 (F := Ideal) (m ((c : Thread nD τ).loc main_arg0)) (m ((c : Thread nD τ).loc main_arg1)) (m ((c : Thread nD τ).loc main_arg2)), ?_, ?_⟩
  · run_from Cert.SsdIdeal.Gen.run_main m g
    · exact final_out m c (steps_finite m c hpre) _ fun t l J => y_at _ _ _ (seqOf t) (chunkOf t) l J
    · refine final_state m c (steps_finite m c hpre) _ fun t J k => ?_
      have hN := lt_of_lt_of_eq t.isLt N_0
      refine (congrArg (fun r => val_main_v146 (F := Ideal) _ _ _ (ix2 r k)) (Fin.ext ?_)).trans (saved_at _ _ _ (seqOf t) (chunkOf t) k J)
      simp only [seqOf, chunkOf]; omega
  · refine θ_run_mono (Cert.SsdRefIdeal.Value.run m' g') fun r h c => ?_
    obtain ⟨h0, h1, a⟩ := h c
    obtain ⟨e0, e1, e2⟩ := hagree c
    refine ⟨h0.trans ?_, h1.trans ?_, a⟩
    · rw [val_main_v144_eq]
      exact agree3 val_main_v144 e0 e1 e2
    · rw [val_main_v146_eq]
      exact agree3 val_main_v146 e0 e1 e2

/-- The reference keeps its arguments and leaves no counter raised. -/
theorem frame_ref : Cert.quiescent_SsdRefIdeal (hSsdRefIdeal := Cert.SsdRefIdeal.Gen.facts) := fun m ρ _ =>
  (θ_run Cert.SsdRefIdeal.defs _ _).mono (fun r h => ⟨fun c => (h c).2.2, Idealize.ShloMosaic.sem_eq_zero_of_no_sems (by decide) r.2⟩)
    (Cert.SsdRefIdeal.Value.run (F := Ideal) m ρ)

theorem frame_ref_pre : Cert.quiescent_SsdRefIdeal_pre_finite_steps (hSsdRefIdeal := Cert.SsdRefIdeal.Gen.facts)
    (hPre_finite_steps := Cert.Pre_finite_steps.Gen.facts) := fun m ρ _ => frame_ref m ρ trivial

end Cert.SsdIdeal.Value

end
-- ==== Proof.lean ====
/- The kernels of the certificate keep their frames and compute what their references compute. -/
module

public import proofs.«01_k».proof.Defs
public import proofs.«01_k».proof.Proof.Gen.Axial
public import proofs.«01_k».proof.Proof.Gen.Axial.Skeleton
public import proofs.«01_k».proof.Proof.Gen.Axial.Launch
public import proofs.«01_k».proof.Proof.Gen.Axial.Points
public import proofs.«01_k».proof.Proof.Gen.Axial.Frame
public import proofs.«01_k».proof.Proof.Gen.AxialIdeal
public import proofs.«01_k».proof.Proof.Gen.AxialIdeal.Skeleton
public import proofs.«01_k».proof.Proof.Gen.AxialIdeal.Launch
public import proofs.«01_k».proof.Proof.Gen.AxialIdeal.Points
public import proofs.«01_k».proof.Proof.Gen.AxialIdeal.Frame
public import proofs.«01_k».proof.Proof.Gen.AxialRefIdeal
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnRefIdeal
public import proofs.«01_k».proof.Proof.Gen.Dwd
public import proofs.«01_k».proof.Proof.Gen.Dwd.Skeleton
public import proofs.«01_k».proof.Proof.Gen.Dwd.Launch
public import proofs.«01_k».proof.Proof.Gen.Dwd.Points
public import proofs.«01_k».proof.Proof.Gen.Dwd.Frame
public import proofs.«01_k».proof.Proof.Gen.DwdIdeal
public import proofs.«01_k».proof.Proof.Gen.DwdIdeal.Skeleton
public import proofs.«01_k».proof.Proof.Gen.DwdIdeal.Launch
public import proofs.«01_k».proof.Proof.Gen.DwdIdeal.Points
public import proofs.«01_k».proof.Proof.Gen.DwdIdeal.Frame
public import proofs.«01_k».proof.Proof.Gen.DwdRefIdeal
public import proofs.«01_k».proof.Proof.Gen.Dwgu
public import proofs.«01_k».proof.Proof.Gen.Dwgu.Skeleton
public import proofs.«01_k».proof.Proof.Gen.Dwgu.Launch
public import proofs.«01_k».proof.Proof.Gen.Dwgu.Points
public import proofs.«01_k».proof.Proof.Gen.Dwgu.Frame
public import proofs.«01_k».proof.Proof.Gen.DwguIdeal
public import proofs.«01_k».proof.Proof.Gen.DwguIdeal.Skeleton
public import proofs.«01_k».proof.Proof.Gen.DwguIdeal.Launch
public import proofs.«01_k».proof.Proof.Gen.DwguIdeal.Points
public import proofs.«01_k».proof.Proof.Gen.DwguIdeal.Frame
public import proofs.«01_k».proof.Proof.Gen.DwguRefIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.Dcat
public import proofs.«01_k».proof.Proof.Gen.Dcat.Skeleton
public import proofs.«01_k».proof.Proof.Gen.Dcat.Launch
public import proofs.«01_k».proof.Proof.Gen.Dcat.Points
public import proofs.«01_k».proof.Proof.Gen.Dcat.Frame
public import proofs.«01_k».proof.Proof.Gen.DcatIdeal
public import proofs.«01_k».proof.Proof.Gen.DcatIdeal.Skeleton
public import proofs.«01_k».proof.Proof.Gen.DcatIdeal.Launch
public import proofs.«01_k».proof.Proof.Gen.DcatIdeal.Points
public import proofs.«01_k».proof.Proof.Gen.DcatIdeal.Frame
public import proofs.«01_k».proof.Proof.Gen.DcatRefIdeal
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.Dha
public import proofs.«01_k».proof.Proof.Gen.Dha.Skeleton
public import proofs.«01_k».proof.Proof.Gen.Dha.Launch
public import proofs.«01_k».proof.Proof.Gen.Dha.Points
public import proofs.«01_k».proof.Proof.Gen.Dha.Frame
public import proofs.«01_k».proof.Proof.Gen.DhaIdeal
public import proofs.«01_k».proof.Proof.Gen.DhaIdeal.Skeleton
public import proofs.«01_k».proof.Proof.Gen.DhaIdeal.Launch
public import proofs.«01_k».proof.Proof.Gen.DhaIdeal.Points
public import proofs.«01_k».proof.Proof.Gen.DhaIdeal.Frame
public import proofs.«01_k».proof.Proof.Gen.DhaRefIdeal
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinRefIdeal
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.Da1
public import proofs.«01_k».proof.Proof.Gen.Da1.Skeleton
public import proofs.«01_k».proof.Proof.Gen.Da1.Launch
public import proofs.«01_k».proof.Proof.Gen.Da1.Points
public import proofs.«01_k».proof.Proof.Gen.Da1.Frame
public import proofs.«01_k».proof.Proof.Gen.Da1Ideal
public import proofs.«01_k».proof.Proof.Gen.Da1Ideal.Skeleton
public import proofs.«01_k».proof.Proof.Gen.Da1Ideal.Launch
public import proofs.«01_k».proof.Proof.Gen.Da1Ideal.Points
public import proofs.«01_k».proof.Proof.Gen.Da1Ideal.Frame
public import proofs.«01_k».proof.Proof.Gen.Da1RefIdeal
public import proofs.«01_k».proof.Proof.Gen.Dwd1
public import proofs.«01_k».proof.Proof.Gen.Dwd1.Skeleton
public import proofs.«01_k».proof.Proof.Gen.Dwd1.Launch
public import proofs.«01_k».proof.Proof.Gen.Dwd1.Points
public import proofs.«01_k».proof.Proof.Gen.Dwd1.Frame
public import proofs.«01_k».proof.Proof.Gen.Dwd1Ideal
public import proofs.«01_k».proof.Proof.Gen.Dwd1Ideal.Skeleton
public import proofs.«01_k».proof.Proof.Gen.Dwd1Ideal.Launch
public import proofs.«01_k».proof.Proof.Gen.Dwd1Ideal.Points
public import proofs.«01_k».proof.Proof.Gen.Dwd1Ideal.Frame
public import proofs.«01_k».proof.Proof.Gen.Dwd1RefIdeal
public import proofs.«01_k».proof.Proof.Gen.Dwgu1
public import proofs.«01_k».proof.Proof.Gen.Dwgu1.Skeleton
public import proofs.«01_k».proof.Proof.Gen.Dwgu1.Launch
public import proofs.«01_k».proof.Proof.Gen.Dwgu1.Points
public import proofs.«01_k».proof.Proof.Gen.Dwgu1.Frame
public import proofs.«01_k».proof.Proof.Gen.Dwgu1Ideal
public import proofs.«01_k».proof.Proof.Gen.Dwgu1Ideal.Skeleton
public import proofs.«01_k».proof.Proof.Gen.Dwgu1Ideal.Launch
public import proofs.«01_k».proof.Proof.Gen.Dwgu1Ideal.Points
public import proofs.«01_k».proof.Proof.Gen.Dwgu1Ideal.Frame
public import proofs.«01_k».proof.Proof.Gen.Dwgu1RefIdeal
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuRefIdeal
public import proofs.«01_k».proof.Proof.Gen.Gu1
public import proofs.«01_k».proof.Proof.Gen.Gu1.Skeleton
public import proofs.«01_k».proof.Proof.Gen.Gu1.Launch
public import proofs.«01_k».proof.Proof.Gen.Gu1.Points
public import proofs.«01_k».proof.Proof.Gen.Gu1.Frame
public import proofs.«01_k».proof.Proof.Gen.Gu1Ideal
public import proofs.«01_k».proof.Proof.Gen.Gu1Ideal.Skeleton
public import proofs.«01_k».proof.Proof.Gen.Gu1Ideal.Launch
public import proofs.«01_k».proof.Proof.Gen.Gu1Ideal.Points
public import proofs.«01_k».proof.Proof.Gen.Gu1Ideal.Frame
public import proofs.«01_k».proof.Proof.Gen.Gu1RefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutRefIdeal
public import proofs.«01_k».proof.Proof.Gen.Down1
public import proofs.«01_k».proof.Proof.Gen.Down1.Skeleton
public import proofs.«01_k».proof.Proof.Gen.Down1.Launch
public import proofs.«01_k».proof.Proof.Gen.Down1.Points
public import proofs.«01_k».proof.Proof.Gen.Down1.Frame
public import proofs.«01_k».proof.Proof.Gen.Down1Ideal
public import proofs.«01_k».proof.Proof.Gen.Down1Ideal.Skeleton
public import proofs.«01_k».proof.Proof.Gen.Down1Ideal.Launch
public import proofs.«01_k».proof.Proof.Gen.Down1Ideal.Points
public import proofs.«01_k».proof.Proof.Gen.Down1Ideal.Frame
public import proofs.«01_k».proof.Proof.Gen.Down1RefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.AxialIdeal.Value
public import proofs.«01_k».proof.Proof.Gen.AxialRefIdeal.Run
public import proofs.«01_k».proof.Proof.Gen.AxialRefIdeal.Read
public import proofs.«01_k».proof.Proof.Gen.LnIdeal.Value
public import proofs.«01_k».proof.Proof.Gen.LnRefIdeal.Run
public import proofs.«01_k».proof.Proof.Gen.LnRefIdeal.Read
public import proofs.«01_k».proof.Proof.Gen.DwdIdeal.Value
public import proofs.«01_k».proof.Proof.Gen.DwdRefIdeal.Run
public import proofs.«01_k».proof.Proof.Gen.DwdRefIdeal.Read
public import proofs.«01_k».proof.Proof.Gen.DwguIdeal.Value
public import proofs.«01_k».proof.Proof.Gen.DwguRefIdeal.Run
public import proofs.«01_k».proof.Proof.Gen.DwguRefIdeal.Read
public import proofs.«01_k».proof.Proof.Gen.DhIdeal.Value
public import proofs.«01_k».proof.Proof.Gen.DhRefIdeal.Run
public import proofs.«01_k».proof.Proof.Gen.DhRefIdeal.Read
public import proofs.«01_k».proof.Proof.Gen.DcatIdeal.Value
public import proofs.«01_k».proof.Proof.Gen.DcatRefIdeal.Run
public import proofs.«01_k».proof.Proof.Gen.DcatRefIdeal.Read
public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Gen.DhaIdeal.Value
public import proofs.«01_k».proof.Proof.Gen.DhaRefIdeal.Run
public import proofs.«01_k».proof.Proof.Gen.DhaRefIdeal.Read
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.DaIdeal.Value
public import proofs.«01_k».proof.Proof.Gen.DaRefIdeal.Run
public import proofs.«01_k».proof.Proof.Gen.DaRefIdeal.Read
public import proofs.«01_k».proof.Proof.Gen.Da1Ideal.Value
public import proofs.«01_k».proof.Proof.Gen.Da1RefIdeal.Run
public import proofs.«01_k».proof.Proof.Gen.Da1RefIdeal.Read
public import proofs.«01_k».proof.Proof.Gen.Dwd1Ideal.Value
public import proofs.«01_k».proof.Proof.Gen.Dwd1RefIdeal.Run
public import proofs.«01_k».proof.Proof.Gen.Dwd1RefIdeal.Read
public import proofs.«01_k».proof.Proof.Gen.Dwgu1Ideal.Value
public import proofs.«01_k».proof.Proof.Gen.Dwgu1RefIdeal.Run
public import proofs.«01_k».proof.Proof.Gen.Dwgu1RefIdeal.Read
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Gen.WinIdeal.Value
public import proofs.«01_k».proof.Proof.Gen.WinRefIdeal.Run
public import proofs.«01_k».proof.Proof.Gen.WinRefIdeal.Read
public import proofs.«01_k».proof.Proof.Gen.GuIdeal.Value
public import proofs.«01_k».proof.Proof.Gen.GuRefIdeal.Run
public import proofs.«01_k».proof.Proof.Gen.GuRefIdeal.Read
public import proofs.«01_k».proof.Proof.Gen.Gu1Ideal.Value
public import proofs.«01_k».proof.Proof.Gen.Gu1RefIdeal.Run
public import proofs.«01_k».proof.Proof.Gen.Gu1RefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Down1Ideal.Value
public import proofs.«01_k».proof.Proof.Gen.Down1RefIdeal.Run
public import proofs.«01_k».proof.Proof.Gen.Down1RefIdeal.Read
public import proofs.«01_k».proof.Proof.Gen.SsdIdeal.Value
public import proofs.«01_k».proof.Proof.Gen.SsdRefIdeal.Run
public import proofs.«01_k».proof.Proof.Gen.SsdRefIdeal.Read
public import proofs.«01_k».proof.Proof.Gen.Pre_finite_steps
public import proofs.«01_k».proof.Proof.AxialClaim
public import proofs.«01_k».proof.Proof.LnClaim
public import proofs.«01_k».proof.Proof.DwdClaim
public import proofs.«01_k».proof.Proof.DwguClaim
public import proofs.«01_k».proof.Proof.DhClaim
public import proofs.«01_k».proof.Proof.DcatClaim
public import proofs.«01_k».proof.Proof.DwoutClaim
public import proofs.«01_k».proof.Proof.DhaClaim
public import proofs.«01_k».proof.Proof.DwinClaim
public import proofs.«01_k».proof.Proof.DaClaim
public import proofs.«01_k».proof.Proof.Da1Claim
public import proofs.«01_k».proof.Proof.Dwd1Claim
public import proofs.«01_k».proof.Proof.Dwgu1Claim
public import proofs.«01_k».proof.Proof.Dh1Claim
public import proofs.«01_k».proof.Proof.WinClaim
public import proofs.«01_k».proof.Proof.GuClaim
public import proofs.«01_k».proof.Proof.Gu1Claim
public import proofs.«01_k».proof.Proof.DownClaim
public import proofs.«01_k».proof.Proof.WoutClaim
public import proofs.«01_k».proof.Proof.Down1Claim
public import proofs.«01_k».proof.Proof.SsdClaim
public import Idealize.ShloMosaic.Adequacy
public import Idealize.ShloMosaic.Init

@[expose] public section

noncomputable section

namespace Cert.Proof

open Idealize.ShloMosaic Idealize.SL.Sem

theorem claim : Cert.Claim := ⟨Cert.Axial.Gen.facts, Cert.AxialIdeal.Gen.facts, Cert.AxialRefIdeal.Gen.facts, Cert.Ln.Gen.facts, Cert.LnIdeal.Gen.facts, Cert.LnRefIdeal.Gen.facts, Cert.Dwd.Gen.facts, Cert.DwdIdeal.Gen.facts, Cert.DwdRefIdeal.Gen.facts, Cert.Dwgu.Gen.facts, Cert.DwguIdeal.Gen.facts, Cert.DwguRefIdeal.Gen.facts, Cert.Dh.Gen.facts, Cert.DhIdeal.Gen.facts, Cert.DhRefIdeal.Gen.facts, Cert.Dcat.Gen.facts, Cert.DcatIdeal.Gen.facts, Cert.DcatRefIdeal.Gen.facts, Cert.Dwout.Gen.facts, Cert.DwoutIdeal.Gen.facts, Cert.DwoutRefIdeal.Gen.facts, Cert.Dha.Gen.facts, Cert.DhaIdeal.Gen.facts, Cert.DhaRefIdeal.Gen.facts, Cert.Dwin.Gen.facts, Cert.DwinIdeal.Gen.facts, Cert.DwinRefIdeal.Gen.facts, Cert.Da.Gen.facts, Cert.DaIdeal.Gen.facts, Cert.DaRefIdeal.Gen.facts, Cert.Da1.Gen.facts, Cert.Da1Ideal.Gen.facts, Cert.Da1RefIdeal.Gen.facts, Cert.Dwd1.Gen.facts, Cert.Dwd1Ideal.Gen.facts, Cert.Dwd1RefIdeal.Gen.facts, Cert.Dwgu1.Gen.facts, Cert.Dwgu1Ideal.Gen.facts, Cert.Dwgu1RefIdeal.Gen.facts, Cert.Dh1.Gen.facts, Cert.Dh1Ideal.Gen.facts, Cert.Dh1RefIdeal.Gen.facts, Cert.Win.Gen.facts, Cert.WinIdeal.Gen.facts, Cert.WinRefIdeal.Gen.facts, Cert.Gu.Gen.facts, Cert.GuIdeal.Gen.facts, Cert.GuRefIdeal.Gen.facts, Cert.Gu1.Gen.facts, Cert.Gu1Ideal.Gen.facts, Cert.Gu1RefIdeal.Gen.facts, Cert.Down.Gen.facts, Cert.DownIdeal.Gen.facts, Cert.DownRefIdeal.Gen.facts, Cert.Wout.Gen.facts, Cert.WoutIdeal.Gen.facts, Cert.WoutRefIdeal.Gen.facts, Cert.Down1.Gen.facts, Cert.Down1Ideal.Gen.facts, Cert.Down1RefIdeal.Gen.facts, Cert.Ssd.Gen.facts, Cert.SsdIdeal.Gen.facts, Cert.SsdRefIdeal.Gen.facts, Cert.Pre_finite_steps.Gen.facts,
  fun m ρ _ => Cert.Axial.Gen.frame m ρ, fun m ρ _ => Cert.AxialIdeal.Gen.frame m ρ, Cert.AxialIdeal.Value.frame_ref,
  fun m ρ _ => Cert.Ln.Gen.frame m ρ, fun m ρ _ => Cert.LnIdeal.Gen.frame m ρ, Cert.LnIdeal.Value.frame_ref,
  fun m ρ _ => Cert.Dwd.Gen.frame m ρ, fun m ρ _ => Cert.DwdIdeal.Gen.frame m ρ, Cert.DwdIdeal.Value.frame_ref,
  fun m ρ _ => Cert.Dwgu.Gen.frame m ρ, fun m ρ _ => Cert.DwguIdeal.Gen.frame m ρ, Cert.DwguIdeal.Value.frame_ref,
  fun m ρ _ => Cert.Dh.Gen.frame m ρ, fun m ρ _ => Cert.DhIdeal.Gen.frame m ρ, Cert.DhIdeal.Value.frame_ref,
  fun m ρ _ => Cert.Dcat.Gen.frame m ρ, fun m ρ _ => Cert.DcatIdeal.Gen.frame m ρ, Cert.DcatIdeal.Value.frame_ref,
  fun m ρ _ => Cert.Dwout.Gen.frame m ρ, fun m ρ _ => Cert.DwoutIdeal.Gen.frame m ρ, Cert.DwoutIdeal.Value.frame_ref,
  fun m ρ _ => Cert.Dha.Gen.frame m ρ, fun m ρ _ => Cert.DhaIdeal.Gen.frame m ρ, Cert.DhaIdeal.Value.frame_ref,
  fun m ρ _ => Cert.Dwin.Gen.frame m ρ, fun m ρ _ => Cert.DwinIdeal.Gen.frame m ρ, Cert.DwinIdeal.Value.frame_ref,
  fun m ρ _ => Cert.Da.Gen.frame m ρ, fun m ρ _ => Cert.DaIdeal.Gen.frame m ρ, Cert.DaIdeal.Value.frame_ref,
  fun m ρ _ => Cert.Da1.Gen.frame m ρ, fun m ρ _ => Cert.Da1Ideal.Gen.frame m ρ, Cert.Da1Ideal.Value.frame_ref,
  fun m ρ _ => Cert.Dwd1.Gen.frame m ρ, fun m ρ _ => Cert.Dwd1Ideal.Gen.frame m ρ, Cert.Dwd1Ideal.Value.frame_ref,
  fun m ρ _ => Cert.Dwgu1.Gen.frame m ρ, fun m ρ _ => Cert.Dwgu1Ideal.Gen.frame m ρ, Cert.Dwgu1Ideal.Value.frame_ref,
  fun m ρ _ => Cert.Dh1.Gen.frame m ρ, fun m ρ _ => Cert.Dh1Ideal.Gen.frame m ρ, Cert.Dh1Ideal.Value.frame_ref,
  fun m ρ _ => Cert.Win.Gen.frame m ρ, fun m ρ _ => Cert.WinIdeal.Gen.frame m ρ, Cert.WinIdeal.Value.frame_ref,
  fun m ρ _ => Cert.Gu.Gen.frame m ρ, fun m ρ _ => Cert.GuIdeal.Gen.frame m ρ, Cert.GuIdeal.Value.frame_ref,
  fun m ρ _ => Cert.Gu1.Gen.frame m ρ, fun m ρ _ => Cert.Gu1Ideal.Gen.frame m ρ, Cert.Gu1Ideal.Value.frame_ref,
  fun m ρ _ => Cert.Down.Gen.frame m ρ, fun m ρ _ => Cert.DownIdeal.Gen.frame m ρ, Cert.DownIdeal.Value.frame_ref,
  fun m ρ _ => Cert.Wout.Gen.frame m ρ, fun m ρ _ => Cert.WoutIdeal.Gen.frame m ρ, Cert.WoutIdeal.Value.frame_ref,
  fun m ρ _ => Cert.Down1.Gen.frame m ρ, fun m ρ _ => Cert.Down1Ideal.Gen.frame m ρ, Cert.Down1Ideal.Value.frame_ref,
  fun m ρ _ => Cert.Ssd.Gen.frame m ρ, fun m ρ _ => Cert.SsdIdeal.Gen.frame m ρ,
  fun m ρ _ => Cert.SsdIdeal.Gen.frame m ρ, Cert.SsdIdeal.Value.frame_ref, Cert.SsdIdeal.Value.frame_ref_pre,
  trivial, Cert.AxialIdeal.Value.algebraic,
  trivial, Cert.LnIdeal.Value.algebraic,
  trivial, Cert.DwdIdeal.Value.algebraic,
  trivial, Cert.DwguIdeal.Value.algebraic,
  trivial, Cert.DhIdeal.Value.algebraic,
  trivial, Cert.DcatIdeal.Value.algebraic,
  trivial, Cert.DwoutIdeal.Value.algebraic,
  trivial, Cert.DhaIdeal.Value.algebraic,
  trivial, Cert.DwinIdeal.Value.algebraic,
  trivial, Cert.DaIdeal.Value.algebraic,
  trivial, Cert.Da1Ideal.Value.algebraic,
  trivial, Cert.Dwd1Ideal.Value.algebraic,
  trivial, Cert.Dwgu1Ideal.Value.algebraic,
  trivial, Cert.Dh1Ideal.Value.algebraic,
  trivial, Cert.WinIdeal.Value.algebraic,
  trivial, Cert.GuIdeal.Value.algebraic,
  trivial, Cert.Gu1Ideal.Value.algebraic,
  trivial, Cert.DownIdeal.Value.algebraic,
  trivial, Cert.WoutIdeal.Value.algebraic,
  trivial, Cert.Down1Ideal.Value.algebraic,
  IdealRules.named_const.statement Cert.SsdIdeal.κ "mask" .f32 0xF149F2CA#32 ⊥ rfl, Cert.SsdIdeal.Value.algebraic⟩

end Cert.Proof

end
